-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_exist : Cert.Pre_experts_exist.Facts] (m : (ℓ : Loc Cert.Kernel3.nD Cert.Kernel3.τ Cert.Kernel3.sig) → Buf (Elt Bits) ℓ) : Prop :=
  ∀ c : Dev Cert.Kernel3.nD,
    (Cert.Pre_experts_exist.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_experts_exist.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2 = (fun _ => 1#1)

def Pre_Kernel3Ideal [hPre_experts_exist : Cert.Pre_experts_exist.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_experts_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_exist [hPre_experts_exist : Cert.Pre_experts_exist.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_experts_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_keys [hPre_finite_keys : Cert.Pre_finite_keys.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_keys.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).1 = (fun _ => 1#1)
    ∧ (Cert.Pre_finite_keys.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.1 = (fun _ => 1#1)
    ∧ (Cert.Pre_finite_keys.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_keys [hPre_finite_keys : Cert.Pre_finite_keys.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_keys.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).1 = (fun _ => 1#1)
    ∧ (Cert.Pre_finite_keys.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.1 = (fun _ => 1#1)
    ∧ (Cert.Pre_finite_keys.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_experts_exist : Cert.Pre_experts_exist.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_exist [hReference3Ideal : Cert.Reference3Ideal.Facts] [hPre_experts_exist : Cert.Pre_experts_exist.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_exist m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Kernel4Ideal_pre_finite_keys [hKernel4Ideal : Cert.Kernel4Ideal.Facts] [hPre_finite_keys : Cert.Pre_finite_keys.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_keys m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Reference4Ideal_pre_finite_keys [hReference4Ideal : Cert.Reference4Ideal.Facts] [hPre_finite_keys : Cert.Pre_finite_keys.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_keys m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_keys [hKernel4Ideal : Cert.Kernel4Ideal.Facts] [hReference4Ideal : Cert.Reference4Ideal.Facts] [hPre_finite_keys : Cert.Pre_finite_keys.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_keys m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v97) = v0 c
          ∧ r.2.mem ((c.tc : Thread Cert.Reference4Ideal.nD Cert.Reference4Ideal.τ).loc Cert.Reference4Ideal.main_v99) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts_exist : Cert.Pre_experts_exist.Facts) (hPre_finite_keys : Cert.Pre_finite_keys.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_exist := hPre_experts_exist)
    ∧ quiescent_Kernel3Ideal (hKernel3Ideal := hKernel3Ideal) (hPre_experts_exist := hPre_experts_exist)
    ∧ quiescent_Reference3Ideal (hReference3Ideal := hReference3Ideal)
    ∧ quiescent_Reference3Ideal_pre_experts_exist (hReference3Ideal := hReference3Ideal) (hPre_experts_exist := hPre_experts_exist)
    ∧ quiescent_Kernel4 (hKernel4 := hKernel4)
    ∧ quiescent_Kernel4Ideal (hKernel4Ideal := hKernel4Ideal)
    ∧ quiescent_Kernel4Ideal_pre_finite_keys (hKernel4Ideal := hKernel4Ideal) (hPre_finite_keys := hPre_finite_keys)
    ∧ quiescent_Reference4Ideal (hReference4Ideal := hReference4Ideal)
    ∧ quiescent_Reference4Ideal_pre_finite_keys (hReference4Ideal := hReference4Ideal) (hPre_finite_keys := hPre_finite_keys)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_exist := hPre_experts_exist)
    ∧ preserves_Kernel4_Kernel4Ideal
    ∧ algebraic_Kernel4Ideal_Reference4Ideal_pre_finite_keys (hKernel4Ideal := hKernel4Ideal) (hReference4Ideal := hReference4Ideal) (hPre_finite_keys := hPre_finite_keys)
-- ==== Pre_experts_exist.lean ====
abbrev S545 : Shape := ⟨1, ![545]⟩
abbrev S278528x512 : Shape := ⟨2, ![278528, 512]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S544 : Shape := ⟨1, ![544]⟩
abbrev S_ : Shape := ⟨0, ![]⟩

class Facts : Prop where
  slices_S545_S544_0 : S545.Slices ![0] S544
  bcast_S_S544 : S_.BroadcastsInDim S544 (![] : Fin 0 → Fin S544.rank)

variable [Facts]

def fn {F : FTy → Type} [FloatOps F] (main_arg0 : IVec S545 32) (main_arg1 : IVec S278528x512 32) (main_arg2 : FVec F S1x32x1024x2048 .f32) (main_arg3 : FVec F S1x32x2048 .f32) (main_arg4 : FVec F S1x32x1024x1024 .f32) (main_arg5 : FVec F S1x32x1024 .f32) : IVec S544 1 × IVec S544 1 :=
  let main_v0 : IVec S544 32 := (extractStridedSlice S544 ![0] · slices_S545_S544_0) main_arg0
  let main_c : IVec S_ 32 := constantI S_ 32 0#32
  let main_v1 : IVec S544 32 := broadcastInDim S544 ![] bcast_S_S544 main_c
  let main_v2 : IVec S544 1 := cmpi .sge main_v0 main_v1
  let main_c_0 : IVec S_ 32 := constantI S_ 32 32#32
  let main_v3 : IVec S544 32 := broadcastInDim S544 ![] bcast_S_S544 main_c_0
  let main_v4 : IVec S544 1 := cmpi .slt main_v0 main_v3
  (main_v2, main_v4)
-- ==== Pre_finite.lean ====
abbrev S65536x7680 : Shape := ⟨2, ![65536, 7680]⟩
abbrev S1x16 : Shape := ⟨2, ![1, 16]⟩
abbrev S32x16 : Shape := ⟨2, ![32, 16]⟩
abbrev S65536x1024 : Shape := ⟨2, ![65536, 1024]⟩
abbrev S65536x256 : Shape := ⟨2, ![65536, 256]⟩
abbrev S_ : Shape := ⟨0, ![]⟩

class Facts : Prop where
  slices_S65536x7680_S65536x1024_0_4096 : S65536x7680.Slices ![0, 4096] S65536x1024
  bitsLt_bf16_f32 : FTy.bits .bf16 < FTy.bits .f32
  slices_S65536x7680_S65536x256_0_7168 : S65536x7680.Slices ![0, 7168] S65536x256
  bcast_S_S65536x1024 : S_.BroadcastsInDim S65536x1024 (![] : Fin 0 → Fin S65536x1024.rank)
  bcast_S_S65536x256 : S_.BroadcastsInDim S65536x256 (![] : Fin 0 → Fin S65536x256.rank)
  bcast_S_S1x16 : S_.BroadcastsInDim S1x16 (![] : Fin 0 → Fin S1x16.rank)
  bcast_S_S32x16 : S_.BroadcastsInDim S32x16 (![] : Fin 0 → Fin S32x16.rank)

variable [Facts]

def fn {F : FTy → Type} [FloatOps F] (main_arg0 : FVec F S65536x7680 .bf16) (main_arg1 : FVec F S1x16 .f32) (main_arg2 : FVec F S32x16 .f32) : IVec S65536x1024 1 × IVec S65536x256 1 × IVec S1x16 1 × IVec S32x16 1 :=
  let main_v0 : FVec F S65536x1024 .bf16 := (extractStridedSlice S65536x1024 ![0, 4096] · slices_S65536x7680_S65536x1024_0_4096) main_arg0
  let main_v1 : FVec F S65536x1024 .f32 := (extf .f32 · bitsLt_bf16_f32) main_v0
  let main_v2 : FVec F S65536x256 .bf16 := (extractStridedSlice S65536x256 ![0, 7168] · slices_S65536x7680_S65536x256_0_7168) main_arg0
  let main_v3 : FVec F S65536x256 .f32 := (extf .f32 · bitsLt_bf16_f32) main_v2
  let main_v4 : FVec F S65536x1024 .f32 := Host.absf main_v1
  let main_cst : FVec F S_ .f32 := constant S_ .f32 0x7F800000#32
  let main_v5 : FVec F S65536x1024 .f32 := broadcastInDim S65536x1024 ![] bcast_S_S65536x1024 main_cst
  let main_v6 : IVec S65536x1024 1 := cmpf .olt main_v4 main_v5
  let main_v7 : FVec F S65536x256 .f32 := Host.absf main_v3
  let main_cst_0 : FVec F S_ .f32 := constant S_ .f32 0x7F800000#32
  let main_v8 : FVec F S65536x256 .f32 := broadcastInDim S65536x256 ![] bcast_S_S65536x256 main_cst_0
  let main_v9 : IVec S65536x256 1 := cmpf .olt main_v7 main_v8
  let main_v10 : FVec F S1x16 .f32 := Host.absf main_arg1
  let main_cst_1 : FVec F S_ .f32 := constant S_ .f32 0x7F800000#32
  let main_v11 : FVec F S1x16 .f32 := broadcastInDim S1x16 ![] bcast_S_S1x16 main_cst_1
  let main_v12 : IVec S1x16 1 := cmpf .olt main_v10 main_v11
  let main_v13 : FVec F S32x16 .f32 := Host.absf main_arg2
  let main_cst_2 : FVec F S_ .f32 := constant S_ .f32 0x7F800000#32
  let main_v14 : FVec F S32x16 .f32 := broadcastInDim S32x16 ![] bcast_S_S32x16 main_cst_2
  let main_v15 : IVec S32x16 1 := cmpf .olt main_v13 main_v14
  (main_v6, main_v9, main_v12, main_v15)
-- ==== Pre_finite_keys.lean ====
abbrev S16x4096x1024 : Shape := ⟨3, ![16, 4096, 1024]⟩
abbrev S65536x1024 : Shape := ⟨2, ![65536, 1024]⟩
abbrev S65536x7680 : Shape := ⟨2, ![65536, 7680]⟩
abbrev S1x2x1024 : Shape := ⟨3, ![1, 2, 1024]⟩
abbrev S1x1024x1024 : Shape := ⟨3, ![1, 1024, 1024]⟩
abbrev S1x1024 : Shape := ⟨2, ![1, 1024]⟩
abbrev S4096x2048 : Shape := ⟨2, ![4096, 2048]⟩
abbrev S1x1024x32 : Shape := ⟨3, ![1, 1024, 32]⟩
abbrev S1x32 : Shape := ⟨2, ![1, 32]⟩
abbrev S4096x1024 : Shape := ⟨2, ![4096, 1024]⟩
abbrev S_ : Shape := ⟨0, ![]⟩

class Facts : Prop where
  slices_S4096x2048_S4096x1024_0_0 : S4096x2048.Slices ![0, 0] S4096x1024
  bitsLt_bf16_f32 : FTy.bits .bf16 < FTy.bits .f32
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S4096x1024 : S_.BroadcastsInDim S4096x1024 (![] : Fin 0 → Fin S4096x1024.rank)

variable [Facts]

def fn {F : FTy → Type} [FloatOps F] (main_arg0 : FVec F S16x4096x1024 .f32) (main_arg1 : FVec F S65536x1024 .bf16) (main_arg2 : FVec F S65536x1024 .bf16) (main_arg3 : FVec F S65536x7680 .bf16) (main_arg4 : FVec F S1x2x1024 .f32) (main_arg5 : FVec F S1x1024x1024 .f32) (main_arg6 : FVec F S1x1024x1024 .f32) (main_arg7 : FVec F S1x1024x1024 .f32) (main_arg8 : FVec F S1x1024 .f32) (main_arg9 : FVec F S1x1024x1024 .f32) (main_arg10 : FVec F S4096x2048 .bf16) (main_arg11 : FVec F S1x1024x1024 .f32) (main_arg12 : FVec F S1x1024 .f32) (main_arg13 : FVec F S1x1024x32 .f32) (main_arg14 : FVec F S1x32 .f32) : IVec S1x1024 1 × IVec S1x1024x1024 1 × IVec S4096x1024 1 :=
  let main_v0 : FVec F S4096x1024 .bf16 := (extractStridedSlice S4096x1024 ![0, 0] · slices_S4096x2048_S4096x1024_0_0) main_arg10
  let main_v1 : FVec F S4096x1024 .f32 := (extf .f32 · bitsLt_bf16_f32) main_v0
  let main_v2 : FVec F S1x1024 .f32 := Host.absf main_arg8
  let main_cst : FVec F S_ .f32 := constant S_ .f32 0x7F800000#32
  let main_v3 : FVec F S1x1024 .f32 := broadcastInDim S1x1024 ![] bcast_S_S1x1024 main_cst
  let main_v4 : IVec S1x1024 1 := cmpf .olt main_v2 main_v3
  let main_v5 : FVec F S1x1024x1024 .f32 := Host.absf main_arg9
  let main_cst_0 : FVec F S_ .f32 := constant S_ .f32 0x7F800000#32
  let main_v6 : FVec F S1x1024x1024 .f32 := broadcastInDim S1x1024x1024 ![] bcast_S_S1x1024x1024 main_cst_0
  let main_v7 : IVec S1x1024x1024 1 := cmpf .olt main_v5 main_v6
  let main_v8 : FVec F S4096x1024 .f32 := Host.absf main_v1
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v4, main_v7, main_v10)
-- ==== Kernel.lean ====
abbrev S65536x7680 : Shape := ⟨2, ![65536, 7680]⟩
abbrev S1x16 : Shape := ⟨2, ![1, 16]⟩
abbrev S32x16 : Shape := ⟨2, ![32, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S128x128 : Shape := ⟨2, ![128, 128]⟩
abbrev S1x128x128 : Shape := ⟨3, ![1, 128, 128]⟩
abbrev S16x128x128 : Shape := ⟨3, ![16, 128, 128]⟩
abbrev S16 : Shape := ⟨1, ![16]⟩
abbrev S65536x1024 : Shape := ⟨2, ![65536, 1024]⟩
abbrev S128x1024 : Shape := ⟨2, ![128, 1024]⟩
abbrev S128x64 : Shape := ⟨2, ![128, 64]⟩
abbrev S256x64 : Shape := ⟨2, ![256, 64]⟩
abbrev S1 : Shape := ⟨1, ![1]⟩

abbrev nBuf : Space → Nat
  | .hbm => 82
  | .vmem => 13
  | .smem => 1
  | _ => 0

abbrev bufTy : (tb : Table) → Fin (tcTables nBuf tb) → BufTy
  | .hbm, ⟨0, _⟩ => ⟨S65536x7680, .bf16⟩
  | .hbm, ⟨1, _⟩ => ⟨S1x16, .f32⟩
  | .hbm, ⟨2, _⟩ => ⟨S32x16, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S_, .i32⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S128x256x1, .i32⟩
  | .hbm, ⟨56, _⟩ => ⟨S128x256x16, .f32⟩
  | .hbm, ⟨57, _⟩ => ⟨S128x256x1, .i1⟩
  | .hbm, ⟨58, _⟩ => ⟨S_, .f32⟩
  | .hbm, ⟨59, _⟩ => ⟨S_, .f32⟩
  | .hbm, ⟨60, _⟩ => ⟨S128x256x16, .i1⟩
  | .hbm, ⟨61, _⟩ => ⟨S128x256x16, .f32⟩
  | .hbm, ⟨62, _⟩ => ⟨S128x256x16, .f32⟩
  | .hbm, ⟨63, _⟩ => ⟨S16x128x256, .f32⟩
  | .hbm, ⟨64, _⟩ => ⟨S_, .i1⟩
  | .hbm, ⟨65, _⟩ => ⟨S128x128, .i1⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .i1⟩
  | .hbm, ⟨73, _⟩ => ⟨S128x128, .i1⟩
  | .hbm, ⟨74, _⟩ => ⟨S128x128, .i1⟩
  | .hbm, ⟨75, _⟩ => ⟨S1x128x128, .i1⟩
  | .hbm, ⟨76, _⟩ => ⟨S16x128x128, .f32⟩
  | .hbm, ⟨77, _⟩ => ⟨S16x128x128, .f32⟩
  | .hbm, ⟨78, _⟩ => ⟨S16x128x128, .i1⟩
  | .hbm, ⟨79, _⟩ => ⟨S16x128x128, .f32⟩
  | .hbm, ⟨80, _⟩ => ⟨S16, .f32⟩
  | .hbm, ⟨81, _⟩ => ⟨S65536x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S16x128x128, .f32⟩
  | .local _ .vmem, ⟨11, _⟩ => ⟨S128x1024, .bf16⟩
  | .local _ .vmem, ⟨12, _⟩ => ⟨S128x1024, .bf16⟩
  | .local _ .smem, ⟨0, _⟩ => ⟨S16, .f32⟩
  | _, _ => ⟨S65536x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_0 : Ref sig .tc := ⟨.hbm, 72, rfl⟩
abbrev main_call2_v5 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call3_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.muli arg1 c1_i32
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.addi v0 v3
  let c28_i32 : BitVec 32 := 28#32
  let c0_i32_1 : BitVec 32 := 0#32
  ![v4.toNat, c28_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c28_i32 : BitVec 32 := 28#32
  let c0_i32 : BitVec 32 := 0#32
  ![v1.toNat, c28_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.muli arg1 c1_i32
  let c1_i32_0 : BitVec 32 := 1#32
  let v2 : BitVec 32 := Scalar.subi v1 c1_i32_0
  let c0_i32 : BitVec 32 := 0#32
  let v3 : BitVec 32 := Scalar.maxsi v2 c0_i32
  let v4 : BitVec 32 := Scalar.addi v0 v3
  let c29_i32 : BitVec 32 := 29#32
  let c0_i32_1 : BitVec 32 := 0#32
  ![v4.toNat, c29_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c29_i32 : BitVec 32 := 29#32
  let c0_i32 : BitVec 32 := 0#32
  ![v1.toNat, c29_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S65536x7680 : Shape := ⟨2, ![65536, 7680]⟩
abbrev S1x16 : Shape := ⟨2, ![1, 16]⟩
abbrev S32x16 : Shape := ⟨2, ![32, 16]⟩
abbrev S65536x1024 : Shape := ⟨2, ![65536, 1024]⟩
abbrev S65536x256 : Shape := ⟨2, ![65536, 256]⟩
abbrev S512x128x4x4x64 : Shape := ⟨5, ![512, 128, 4, 4, 64]⟩
abbrev S16x32x128x4x64 : Shape := ⟨5, ![16, 32, 128, 4, 64]⟩
abbrev S16x31x128x4x64 : Shape := ⟨5, ![16, 31, 128, 4, 64]⟩
abbrev S_ : Shape := ⟨0, ![]⟩
abbrev S16x32x256x4x64 : Shape := ⟨5, ![16, 32, 256, 4, 64]⟩
abbrev S512x256x4x64 : Shape := ⟨4, ![512, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S16x32 : Shape := ⟨2, ![16, 32]⟩
abbrev S512x1 : Shape := ⟨2, ![512, 1]⟩
abbrev S512x256 : Shape := ⟨2, ![512, 256]⟩
abbrev S1x128x256 : Shape := ⟨3, ![1, 128, 256]⟩
abbrev S512x1x256 : Shape := ⟨3, ![512, 1, 256]⟩
abbrev S512x128x256 : Shape := ⟨3, ![512, 128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S512x4x256x128x4 : Shape := ⟨5, ![512, 4, 256, 128, 4]⟩
abbrev S512x4x4x128x256 : Shape := ⟨5, ![512, 4, 4, 128, 256]⟩
abbrev S1x4x4x128x256 : Shape := ⟨5, ![1, 4, 4, 128, 256]⟩
abbrev S512x1x1x128x256 : Shape := ⟨5, ![512, 1, 1, 128, 256]⟩
abbrev S16 : Shape := ⟨1, ![16]⟩
abbrev S4x4x1x1 : Shape := ⟨4, ![4, 4, 1, 1]⟩
abbrev S512x4x4x128x1 : Shape := ⟨5, ![512, 4, 4, 128, 1]⟩
abbrev S512x4x4x128x257 : Shape := ⟨5, ![512, 4, 4, 128, 257]⟩
abbrev S512x4x4x128 : Shape := ⟨4, ![512, 4, 4, 128]⟩
abbrev S512x4x64x4x128 : Shape := ⟨5, ![512, 4, 64, 4, 128]⟩

abbrev nBuf : Space → Nat
  | .hbm => 132
  | .vmem => 0
  | .smem => 0
  | _ => 0

abbrev hbmTy0_0 (i : Nat) : BufTy := match i % 128 with
  | 0 => ⟨S65536x7680, .bf16⟩
  | 1 => ⟨S1x16, .f32⟩
  | 2 => ⟨S32x16, .f32⟩
  | 3 => ⟨S65536x7680, .f32⟩
  | 4 => ⟨S65536x1024, .f32⟩
  | 5 => ⟨S65536x256, .f32⟩
  | 6 => ⟨S65536x256, .f32⟩
  | 7 => ⟨S512x128x4x4x64, .f32⟩
  | 8 => ⟨S16x32x128x4x64, .f32⟩
  | 9 => ⟨S16x32x128x4x64, .f32⟩
  | 10 => ⟨S16x31x128x4x64, .f32⟩
  | 11 => ⟨S_, .i32⟩
  | 12 => ⟨S_, .f32⟩
  | 13 => ⟨S16x32x128x4x64, .f32⟩
  | 14 => ⟨S16x32x256x4x64, .f32⟩
  | 15 => ⟨S512x256x4x64, .f32⟩
  | 16 => ⟨S16x31x128x4x64, .f32⟩
  | 17 => ⟨S_, .i32⟩
  | 18 => ⟨S_, .f32⟩
  | 19 => ⟨S16x32x128x4x64, .f32⟩
  | 20 => ⟨S16x32x256x4x64, .f32⟩
  | 21 => ⟨S512x256x4x64, .f32⟩
  | 22 => ⟨S128, .i32⟩
  | 23 => ⟨S128x1, .i32⟩
  | 24 => ⟨S256, .i32⟩
  | 25 => ⟨S1x256, .i32⟩
  | 26 => ⟨S_, .i32⟩
  | 27 => ⟨S128x1, .i32⟩
  | 28 => ⟨S128x1, .i32⟩
  | 29 => ⟨S128x256, .i32⟩
  | 30 => ⟨S128x256, .i32⟩
  | 31 => ⟨S128x256, .i32⟩
  | 32 => ⟨S_, .i32⟩
  | 33 => ⟨S128x256, .i32⟩
  | 34 => ⟨S128x256, .i1⟩
  | 35 => ⟨S_, .i32⟩
  | 36 => ⟨S128x256, .i32⟩
  | 37 => ⟨S128x256, .i1⟩
  | 38 => ⟨S128x256, .i1⟩
  | 39 => ⟨S32, .i32⟩
  | 40 => ⟨S16x32, .i32⟩
  | 41 => ⟨S512x1, .i32⟩
  | 42 => ⟨S_, .i32⟩
  | 43 => ⟨S512x1, .i32⟩
  | 44 => ⟨S512x1, .i1⟩
  | 45 => ⟨S_, .i32⟩
  | 46 => ⟨S1x256, .i32⟩
  | 47 => ⟨S1x256, .i1⟩
  | 48 => ⟨S512x256, .i1⟩
  | 49 => ⟨S512x256, .i1⟩
  | 50 => ⟨S512x256, .i1⟩
  | 51 => ⟨S1x128x256, .i1⟩
  | 52 => ⟨S512x1x256, .i1⟩
  | 53 => ⟨S512x128x256, .i1⟩
  | 54 => ⟨S512x128x256, .i1⟩
  | 55 => ⟨S512x128x256, .i1⟩
  | 56 => ⟨S_, .i32⟩
  | 57 => ⟨S128x256, .i32⟩
  | 58 => ⟨S128x256, .i32⟩
  | 59 => ⟨S_, .i32⟩
  | 60 => ⟨S128x256, .i32⟩
  | 61 => ⟨S128x256, .i32⟩
  | 62 => ⟨S128x256, .f32⟩
  | 63 => ⟨S_, .f32⟩
  | 64 => ⟨S128x256, .f32⟩
  | 65 => ⟨S128x256, .f32⟩
  | 66 => ⟨S128x256, .f32⟩
  | 67 => ⟨S_, .f32⟩
  | 68 => ⟨S128x256, .f32⟩
  | 69 => ⟨S128x256, .f32⟩
  | 70 => ⟨S_, .f32⟩
  | 71 => ⟨S128x256, .f32⟩
  | 72 => ⟨S128x256, .f32⟩
  | 73 => ⟨S128x256, .i32⟩
  | 74 => ⟨S_, .i32⟩
  | 75 => ⟨S128x256, .i32⟩
  | 76 => ⟨S128x256, .i32⟩
  | 77 => ⟨S_, .i32⟩
  | 78 => ⟨S128x256, .i32⟩
  | 79 => ⟨S128x256, .i32⟩
  | 80 => ⟨S_, .i32⟩
  | 81 => ⟨S128x256, .i32⟩
  | 82 => ⟨S128x256, .i1⟩
  | 83 => ⟨S128x256, .i32⟩
  | 84 => ⟨S_, .i32⟩
  | 85 => ⟨S128x256, .i32⟩
  | 86 => ⟨S128x256, .i1⟩
  | 87 => ⟨S_, .i32⟩
  | 88 => ⟨S128x256, .i32⟩
  | 89 => ⟨S128x256, .i32⟩
  | 90 => ⟨S128x256, .i32⟩
  | 91 => ⟨S128x256x1, .i32⟩
  | 92 => ⟨S128x256x16, .f32⟩
  | 93 => ⟨S16x128x256, .f32⟩
  | 94 => ⟨S4x4x128x256, .f32⟩
  | 95 => ⟨S512x4x256x128x4, .f32⟩
  | 96 => ⟨S512x4x4x128x256, .f32⟩
  | 97 => ⟨S_, .f32⟩
  | 98 => ⟨S512x4x4x128x256, .f32⟩
  | 99 => ⟨S512x4x4x128x256, .f32⟩
  | 100 => ⟨S1x4x4x128x256, .f32⟩
  | 101 => ⟨S512x4x4x128x256, .f32⟩
  | 102 => ⟨S512x4x4x128x256, .f32⟩
  | 103 => ⟨S512x1x1x128x256, .i1⟩
  | 104 => ⟨S_, .f32⟩
  | 105 => ⟨S_, .f32⟩
  | 106 => ⟨S512x4x4x128x256, .i1⟩
  | 107 => ⟨S512x4x4x128x256, .f32⟩
  | 108 => ⟨S512x4x4x128x256, .f32⟩
  | 109 => ⟨S16, .f32⟩
  | 110 => ⟨S4x4x1x1, .f32⟩
  | 111 => ⟨S512x4x4x128x1, .f32⟩
  | 112 => ⟨S512x4x4x128x257, .f32⟩
  | 113 => ⟨S_, .f32⟩
  | 114 => ⟨S512x4x4x128, .f32⟩
  | 115 => ⟨S_, .f32⟩
  | 116 => ⟨S512x4x4x128, .f32⟩
  | 117 => ⟨S512x4x4x128, .f32⟩
  | 118 => ⟨S512x4x4x128x1, .f32⟩
  | 119 => ⟨S512x4x4x128x257, .f32⟩
  | 120 => ⟨S512x4x4x128x257, .f32⟩
  | 121 => ⟨S512x4x4x128x257, .f32⟩
  | 122 => ⟨S_, .f32⟩
  | 123 => ⟨S512x4x4x128, .f32⟩
  | 124 => ⟨S512x4x4x128x1, .f32⟩
  | 125 => ⟨S512x4x4x128x257, .f32⟩
  | 126 => ⟨S512x4x4x128x257, .f32⟩
  | 127 => ⟨S512x4x4x128x256, .f32⟩
  | _ => ⟨S65536x7680, .bf16⟩

abbrev hbmTy0_1 (i : Nat) : BufTy := match i % 128 with
  | 0 => ⟨S512x4x64x4x128, .f32⟩
  | 1 => ⟨S512x128x4x4x64, .f32⟩
  | 2 => ⟨S65536x1024, .f32⟩
  | 3 => ⟨S65536x1024, .bf16⟩
  | _ => ⟨S65536x7680, .bf16⟩

abbrev hbmTy (i : Nat) : BufTy := match i / 128 with
  | 0 => hbmTy0_0 i
  | 1 => hbmTy0_1 i
  | _ => ⟨S65536x7680, .bf16⟩

abbrev bufTy : (tb : Table) → Fin (tcTables nBuf tb) → BufTy
  | .hbm, ⟨i, _⟩ => hbmTy i
  | _, _ => ⟨S65536x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_c_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_10 : Ref sig .tc := ⟨.hbm, 74, rfl⟩
abbrev main_v57 : Ref sig .tc := ⟨.hbm, 75, rfl⟩
abbrev main_v58 : Ref sig .tc := ⟨.hbm, 76, rfl⟩
abbrev main_c_11 : Ref sig .tc := ⟨.hbm, 77, rfl⟩
abbrev main_v59 : Ref sig .tc := ⟨.hbm, 78, rfl⟩
abbrev main_v60 : Ref sig .tc := ⟨.hbm, 79, rfl⟩
abbrev main_c_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_13 : Ref sig .tc := ⟨.hbm, 84, rfl⟩
abbrev main_v64 : Ref sig .tc := ⟨.hbm, 85, rfl⟩
abbrev main_v65 : Ref sig .tc := ⟨.hbm, 86, rfl⟩
abbrev main_c_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_19 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩

abbrev nD : Nat := 1
abbrev τ : Topo := Topo.v7x

variable {F : FTy → Type} [FloatOps F]
-- ==== Kernel2.lean ====
abbrev S16x4096x1024 : Shape := ⟨3, ![16, 4096, 1024]⟩
abbrev S1x1024 : Shape := ⟨2, ![1, 1024]⟩
abbrev S1x1024x7680 : Shape := ⟨3, ![1, 1024, 7680]⟩
abbrev S65536x1024 : Shape := ⟨2, ![65536, 1024]⟩
abbrev S1024x7680 : Shape := ⟨2, ![1024, 7680]⟩
abbrev S1024x1024 : Shape := ⟨2, ![1024, 1024]⟩
abbrev S1024x256 : Shape := ⟨2, ![1024, 256]⟩
abbrev S1024 : Shape := ⟨1, ![1024]⟩
abbrev S65536x7680 : Shape := ⟨2, ![65536, 7680]⟩
abbrev S2048x1024 : Shape := ⟨2, ![2048, 1024]⟩
abbrev S1024x1536 : Shape := ⟨2, ![1024, 1536]⟩
abbrev S2048x1536 : Shape := ⟨2, ![2048, 1536]⟩
abbrev S2048 : Shape := ⟨1, ![2048]⟩
abbrev S2048x1 : Shape := ⟨2, ![2048, 1]⟩

abbrev nBuf : Space → Nat
  | .hbm => 19
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x7680, .f32⟩
  | .hbm, ⟨3, _⟩ => ⟨S65536x1024, .f32⟩
  | .hbm, ⟨4, _⟩ => ⟨S1024x7680, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x256, .f32⟩
  | .hbm, ⟨11, _⟩ => ⟨S1024x256, .f32⟩
  | .hbm, ⟨12, _⟩ => ⟨S1024x1024, .f32⟩
  | .hbm, ⟨13, _⟩ => ⟨S1024x1024, .f32⟩
  | .hbm, ⟨14, _⟩ => ⟨S1024x7680, .f32⟩
  | .hbm, ⟨15, _⟩ => ⟨S1024x7680, .bf16⟩
  | .hbm, ⟨16, _⟩ => ⟨S1024, .f32⟩
  | .hbm, ⟨17, _⟩ => ⟨S1x1024, .f32⟩
  | .hbm, ⟨18, _⟩ => ⟨S65536x7680, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S2048x1536, .bf16⟩
  | .local _ .vmem, ⟨6, _⟩ => ⟨S2048x1536, .bf16⟩
  | .local _ .vmem, ⟨7, _⟩ => ⟨S2048x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16x4096x1024 : Shape := ⟨3, ![16, 4096, 1024]⟩
abbrev S1x1024 : Shape := ⟨2, ![1, 1024]⟩
abbrev S1x1024x7680 : Shape := ⟨3, ![1, 1024, 7680]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x7680 : Shape := ⟨2, ![1024, 7680]⟩
abbrev S16x4096x7680 : Shape := ⟨3, ![16, 4096, 7680]⟩
abbrev S16x4096x256 : Shape := ⟨3, ![16, 4096, 256]⟩
abbrev S65536x7680 : Shape := ⟨2, ![65536, 7680]⟩

abbrev nBuf : Space → Nat
  | .hbm => 34
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x7680, .f32⟩
  | .hbm, ⟨3, _⟩ => ⟨S1024, .f32⟩
  | .hbm, ⟨4, _⟩ => ⟨S16x4096x1024, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S16x4096x1, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S1024x7680, .f32⟩
  | .hbm, ⟨21, _⟩ => ⟨S16x4096x7680, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x256, .f32⟩
  | .hbm, ⟨28, _⟩ => ⟨S16x4096x256, .f32⟩
  | .hbm, ⟨29, _⟩ => ⟨S16x4096x1024, .f32⟩
  | .hbm, ⟨30, _⟩ => ⟨S16x4096x1024, .f32⟩
  | .hbm, ⟨31, _⟩ => ⟨S16x4096x7680, .f32⟩
  | .hbm, ⟨32, _⟩ => ⟨S65536x7680, .f32⟩
  | .hbm, ⟨33, _⟩ => ⟨S65536x7680, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel3.lean ====
abbrev S545 : Shape := ⟨1, ![545]⟩
abbrev S278528x512 : Shape := ⟨2, ![278528, 512]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S278528x1024 : Shape := ⟨2, ![278528, 1024]⟩
abbrev S512x512 : Shape := ⟨2, ![512, 512]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 12
  | .vmem => 14
  | .smem => 1
  | _ => 0

abbrev bufTy : (tb : Table) → Fin (tcTables nBuf tb) → BufTy
  | .hbm, ⟨0, _⟩ => ⟨S278528x512, .i32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S32x1024x2048, .f32⟩
  | .hbm, ⟨6, _⟩ => ⟨S32x2048, .f32⟩
  | .hbm, ⟨7, _⟩ => ⟨S32x1x2048, .f32⟩
  | .hbm, ⟨8, _⟩ => ⟨S32x1024x1024, .f32⟩
  | .hbm, ⟨9, _⟩ => ⟨S32x1024, .f32⟩
  | .hbm, ⟨10, _⟩ => ⟨S32x1x1024, .f32⟩
  | .hbm, ⟨11, _⟩ => ⟨S278528x1024, .bf16⟩
  | .local _ .vmem, ⟨0, _⟩ => ⟨S512x512, .i32⟩
  | .local _ .vmem, ⟨1, _⟩ => ⟨S512x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S545, .i32⟩
  | _, _ => ⟨S278528x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v11 : BitVec 32) : BitVec 1 :=
  let arg0 : BitVec 32 := BitVec.ofNat 32 (i 0).val
  let v15 : BitVec 1 := Scalar.cmpi .sge arg0 v11
  let v16 : BitVec 32 := Scalar.extui v15
  let c0_i32_3 : BitVec 32 := 0#32
  let v17 : BitVec 1 := Scalar.cmpi .ne v16 c0_i32_3
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S545.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S545) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S545 : Shape := ⟨1, ![545]⟩
abbrev S278528x512 : Shape := ⟨2, ![278528, 512]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S544 : Shape := ⟨1, ![544]⟩
abbrev S1 : Shape := ⟨1, ![1]⟩
abbrev S_ : Shape := ⟨0, ![]⟩
abbrev S278528x1024 : Shape := ⟨2, ![278528, 1024]⟩
abbrev S544x512x1024 : Shape := ⟨3, ![544, 512, 1024]⟩
abbrev S32x1024x2048 : Shape := ⟨3, ![32, 1024, 2048]⟩
abbrev S544x1 : Shape := ⟨2, ![544, 1]⟩
abbrev S544x1024x2048 : Shape := ⟨3, ![544, 1024, 2048]⟩
abbrev S544x512x2048 : Shape := ⟨3, ![544, 512, 2048]⟩
abbrev S32x2048 : Shape := ⟨2, ![32, 2048]⟩
abbrev S544x2048 : Shape := ⟨2, ![544, 2048]⟩
abbrev S544x1x2048 : Shape := ⟨3, ![544, 1, 2048]⟩
abbrev S32x1024x1024 : Shape := ⟨3, ![32, 1024, 1024]⟩
abbrev S544x1024x1024 : Shape := ⟨3, ![544, 1024, 1024]⟩
abbrev S32x1024 : Shape := ⟨2, ![32, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S545, .i32⟩
  | .hbm, ⟨1, _⟩ => ⟨S278528x512, .i32⟩
  | .hbm, ⟨2, _⟩ => ⟨S1x32x1024x2048, .f32⟩
  | .hbm, ⟨3, _⟩ => ⟨S1x32x2048, .f32⟩
  | .hbm, ⟨4, _⟩ => ⟨S1x32x1024x1024, .f32⟩
  | .hbm, ⟨5, _⟩ => ⟨S1x32x1024, .f32⟩
  | .hbm, ⟨6, _⟩ => ⟨S544, .i32⟩
  | .hbm, ⟨7, _⟩ => ⟨S544, .i32⟩
  | .hbm, ⟨8, _⟩ => ⟨S1, .i32⟩
  | .hbm, ⟨9, _⟩ => ⟨S_, .i32⟩
  | .hbm, ⟨10, _⟩ => ⟨S544, .i32⟩
  | .hbm, ⟨11, _⟩ => ⟨S544, .i1⟩
  | .hbm, ⟨12, _⟩ => ⟨S_, .i32⟩
  | .hbm, ⟨13, _⟩ => ⟨S278528x512, .i32⟩
  | .hbm, ⟨14, _⟩ => ⟨S278528x512, .i32⟩
  | .hbm, ⟨15, _⟩ => ⟨S278528x512, .f32⟩
  | .hbm, ⟨16, _⟩ => ⟨S_, .i32⟩
  | .hbm, ⟨17, _⟩ => ⟨S278528x512, .i32⟩
  | .hbm, ⟨18, _⟩ => ⟨S278528x512, .i32⟩
  | .hbm, ⟨19, _⟩ => ⟨S278528x512, .f32⟩
  | .hbm, ⟨20, _⟩ => ⟨S278528x1024, .f32⟩
  | .hbm, ⟨21, _⟩ => ⟨S544x512x1024, .f32⟩
  | .hbm, ⟨22, _⟩ => ⟨S32x1024x2048, .f32⟩
  | .hbm, ⟨23, _⟩ => ⟨S_, .i32⟩
  | .hbm, ⟨24, _⟩ => ⟨S544, .i32⟩
  | .hbm, ⟨25, _⟩ => ⟨S544, .i1⟩
  | .hbm, ⟨26, _⟩ => ⟨S_, .i32⟩
  | .hbm, ⟨27, _⟩ => ⟨S544, .i32⟩
  | .hbm, ⟨28, _⟩ => ⟨S544, .i32⟩
  | .hbm, ⟨29, _⟩ => ⟨S544, .i32⟩
  | .hbm, ⟨30, _⟩ => ⟨S544x1, .i32⟩
  | .hbm, ⟨31, _⟩ => ⟨S544x1024x2048, .f32⟩
  | .hbm, ⟨32, _⟩ => ⟨S544x512x2048, .f32⟩
  | .hbm, ⟨33, _⟩ => ⟨S32x2048, .f32⟩
  | .hbm, ⟨34, _⟩ => ⟨S_, .i32⟩
  | .hbm, ⟨35, _⟩ => ⟨S544, .i32⟩
  | .hbm, ⟨36, _⟩ => ⟨S544, .i1⟩
  | .hbm, ⟨37, _⟩ => ⟨S_, .i32⟩
  | .hbm, ⟨38, _⟩ => ⟨S544, .i32⟩
  | .hbm, ⟨39, _⟩ => ⟨S544, .i32⟩
  | .hbm, ⟨40, _⟩ => ⟨S544, .i32⟩
  | .hbm, ⟨41, _⟩ => ⟨S544x1, .i32⟩
  | .hbm, ⟨42, _⟩ => ⟨S544x2048, .f32⟩
  | .hbm, ⟨43, _⟩ => ⟨S544x1x2048, .f32⟩
  | .hbm, ⟨44, _⟩ => ⟨S544x512x2048, .f32⟩
  | .hbm, ⟨45, _⟩ => ⟨S544x512x2048, .f32⟩
  | .hbm, ⟨46, _⟩ => ⟨S544x512x1024, .f32⟩
  | .hbm, ⟨47, _⟩ => ⟨S_, .f32⟩
  | .hbm, ⟨48, _⟩ => ⟨S544x512x1024, .f32⟩
  | .hbm, ⟨49, _⟩ => ⟨S544x512x1024, .f32⟩
  | .hbm, ⟨50, _⟩ => ⟨S544x512x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S544x512x1024, .f32⟩
  | .hbm, ⟨55, _⟩ => ⟨S544x512x1024, .f32⟩
  | .hbm, ⟨56, _⟩ => ⟨S_, .f32⟩
  | .hbm, ⟨57, _⟩ => ⟨S544x512x1024, .f32⟩
  | .hbm, ⟨58, _⟩ => ⟨S544x512x1024, .f32⟩
  | .hbm, ⟨59, _⟩ => ⟨S_, .f32⟩
  | .hbm, ⟨60, _⟩ => ⟨S544x512x1024, .f32⟩
  | .hbm, ⟨61, _⟩ => ⟨S544x512x1024, .f32⟩
  | .hbm, ⟨62, _⟩ => ⟨S544x512x1024, .f32⟩
  | .hbm, ⟨63, _⟩ => ⟨S544x512x1024, .f32⟩
  | .hbm, ⟨64, _⟩ => ⟨S_, .f32⟩
  | .hbm, ⟨65, _⟩ => ⟨S544x512x1024, .f32⟩
  | .hbm, ⟨66, _⟩ => ⟨S544x512x1024, .f32⟩
  | .hbm, ⟨67, _⟩ => ⟨S_, .f32⟩
  | .hbm, ⟨68, _⟩ => ⟨S544x512x1024, .f32⟩
  | .hbm, ⟨69, _⟩ => ⟨S544x512x1024, .f32⟩
  | .hbm, ⟨70, _⟩ => ⟨S544x512x1024, .f32⟩
  | .hbm, ⟨71, _⟩ => ⟨S_, .f32⟩
  | .hbm, ⟨72, _⟩ => ⟨S544x512x1024, .f32⟩
  | .hbm, ⟨73, _⟩ => ⟨S544x512x1024, .f32⟩
  | .hbm, ⟨74, _⟩ => ⟨S544x512x1024, .f32⟩
  | .hbm, ⟨75, _⟩ => ⟨S32x1024x1024, .f32⟩
  | .hbm, ⟨76, _⟩ => ⟨S_, .i32⟩
  | .hbm, ⟨77, _⟩ => ⟨S544, .i32⟩
  | .hbm, ⟨78, _⟩ => ⟨S544, .i1⟩
  | .hbm, ⟨79, _⟩ => ⟨S_, .i32⟩
  | .hbm, ⟨80, _⟩ => ⟨S544, .i32⟩
  | .hbm, ⟨81, _⟩ => ⟨S544, .i32⟩
  | .hbm, ⟨82, _⟩ => ⟨S544, .i32⟩
  | .hbm, ⟨83, _⟩ => ⟨S544x1, .i32⟩
  | .hbm, ⟨84, _⟩ => ⟨S544x1024x1024, .f32⟩
  | .hbm, ⟨85, _⟩ => ⟨S544x512x1024, .f32⟩
  | .hbm, ⟨86, _⟩ => ⟨S32x1024, .f32⟩
  | .hbm, ⟨87, _⟩ => ⟨S_, .i32⟩
  | .hbm, ⟨88, _⟩ => ⟨S544, .i32⟩
  | .hbm, ⟨89, _⟩ => ⟨S544, .i1⟩
  | .hbm, ⟨90, _⟩ => ⟨S_, .i32⟩
  | .hbm, ⟨91, _⟩ => ⟨S544, .i32⟩
  | .hbm, ⟨92, _⟩ => ⟨S544, .i32⟩
  | .hbm, ⟨93, _⟩ => ⟨S544, .i32⟩
  | .hbm, ⟨94, _⟩ => ⟨S544x1, .i32⟩
  | .hbm, ⟨95, _⟩ => ⟨S544x1024, .f32⟩
  | .hbm, ⟨96, _⟩ => ⟨S544x1x1024, .f32⟩
  | .hbm, ⟨97, _⟩ => ⟨S544x512x1024, .f32⟩
  | .hbm, ⟨98, _⟩ => ⟨S544x512x1024, .f32⟩
  | .hbm, ⟨99, _⟩ => ⟨S544x1x1, .i1⟩
  | .hbm, ⟨100, _⟩ => ⟨S_, .f32⟩
  | .hbm, ⟨101, _⟩ => ⟨S_, .f32⟩
  | .hbm, ⟨102, _⟩ => ⟨S544x512x1024, .i1⟩
  | .hbm, ⟨103, _⟩ => ⟨S544x512x1024, .f32⟩
  | .hbm, ⟨104, _⟩ => ⟨S544x512x1024, .f32⟩
  | .hbm, ⟨105, _⟩ => ⟨S278528x1024, .f32⟩
  | .hbm, ⟨106, _⟩ => ⟨S278528x1024, .bf16⟩
  | _, _ => ⟨S545, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Kernel4.lean ====
abbrev S16x4096x1024 : Shape := ⟨3, ![16, 4096, 1024]⟩
abbrev S65536x1024 : Shape := ⟨2, ![65536, 1024]⟩
abbrev S65536x7680 : Shape := ⟨2, ![65536, 7680]⟩
abbrev S1x2x1024 : Shape := ⟨3, ![1, 2, 1024]⟩
abbrev S1x1024x1024 : Shape := ⟨3, ![1, 1024, 1024]⟩
abbrev S1x1024 : Shape := ⟨2, ![1, 1024]⟩
abbrev S4096x2048 : Shape := ⟨2, ![4096, 2048]⟩
abbrev S1x1024x32 : Shape := ⟨3, ![1, 1024, 32]⟩
abbrev S1x32 : Shape := ⟨2, ![1, 32]⟩
abbrev S1024x32 : Shape := ⟨2, ![1024, 32]⟩
abbrev S2x1024 : Shape := ⟨2, ![2, 1024]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S32 : Shape := ⟨1, ![32]⟩
abbrev S32x1 : Shape := ⟨2, ![32, 1]⟩
abbrev S4x65536 : Shape := ⟨2, ![4, 65536]⟩
abbrev S128x32x1 : Shape := ⟨3, ![128, 32, 1]⟩
abbrev S512x1024 : Shape := ⟨2, ![512, 1024]⟩
abbrev S256x1024 : Shape := ⟨2, ![256, 1024]⟩
abbrev S4x512 : Shape := ⟨2, ![4, 512]⟩
abbrev S1x32x1 : Shape := ⟨3, ![1, 32, 1]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S64x512 : Shape := ⟨2, ![64, 512]⟩
abbrev S32x512 : Shape := ⟨2, ![32, 512]⟩
abbrev S32x1024 : Shape := ⟨2, ![32, 1024]⟩
abbrev S1x512 : Shape := ⟨2, ![1, 512]⟩

abbrev nBuf : Space → Nat
  | .hbm => 46
  | .vmem => 34
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536x1024, .bf16⟩
  | .hbm, ⟨3, _⟩ => ⟨S65536x7680, .bf16⟩
  | .hbm, ⟨4, _⟩ => ⟨S1x2x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x1024, .f32⟩
  | .hbm, ⟨10, _⟩ => ⟨S4096x2048, .bf16⟩
  | .hbm, ⟨11, _⟩ => ⟨S1x1024x1024, .f32⟩
  | .hbm, ⟨12, _⟩ => ⟨S1x1024, .f32⟩
  | .hbm, ⟨13, _⟩ => ⟨S1x1024x32, .f32⟩
  | .hbm, ⟨14, _⟩ => ⟨S1x32, .f32⟩
  | .hbm, ⟨15, _⟩ => ⟨S65536x1024, .f32⟩
  | .hbm, ⟨16, _⟩ => ⟨S1024x32, .f32⟩
  | .hbm, ⟨17, _⟩ => ⟨S1024x32, .bf16⟩
  | .hbm, ⟨18, _⟩ => ⟨S1024x32, .f32⟩
  | .hbm, ⟨19, _⟩ => ⟨S1024x32, .f32⟩
  | .hbm, ⟨20, _⟩ => ⟨S1024x32, .f32⟩
  | .hbm, ⟨21, _⟩ => ⟨S1024x32, .bf16⟩
  | .hbm, ⟨22, _⟩ => ⟨S2x1024, .f32⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S1024x64, .bf16⟩
  | .hbm, ⟨38, _⟩ => ⟨S64x1024, .bf16⟩
  | .hbm, ⟨39, _⟩ => ⟨S32, .f32⟩
  | .hbm, ⟨40, _⟩ => ⟨S32x1, .f32⟩
  | .hbm, ⟨41, _⟩ => ⟨S65536x1024, .f32⟩
  | .hbm, ⟨42, _⟩ => ⟨S65536x1024, .bf16⟩
  | .hbm, ⟨43, _⟩ => ⟨S4x65536, .i32⟩
  | .hbm, ⟨44, _⟩ => ⟨S4x65536, .f32⟩
  | .hbm, ⟨45, _⟩ => ⟨S128x32x1, .i32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1x1024, .f32⟩
  | .local _ .vmem, ⟨22, _⟩ => ⟨S64x1024, .bf16⟩
  | .local _ .vmem, ⟨23, _⟩ => ⟨S32x1, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S4x512, .i32⟩
  | .local _ .vmem, ⟨29, _⟩ => ⟨S4x512, .i32⟩
  | .local _ .vmem, ⟨30, _⟩ => ⟨S4x512, .f32⟩
  | .local _ .vmem, ⟨31, _⟩ => ⟨S4x512, .f32⟩
  | .local _ .vmem, ⟨32, _⟩ => ⟨S1x32x1, .i32⟩
  | .local _ .vmem, ⟨33, _⟩ => ⟨S1x32x1, .i32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_12 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x32x1 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S16x4096x1024 : Shape := ⟨3, ![16, 4096, 1024]⟩
abbrev S65536x1024 : Shape := ⟨2, ![65536, 1024]⟩
abbrev S65536x7680 : Shape := ⟨2, ![65536, 7680]⟩
abbrev S1x2x1024 : Shape := ⟨3, ![1, 2, 1024]⟩
abbrev S1x1024x1024 : Shape := ⟨3, ![1, 1024, 1024]⟩
abbrev S1x1024 : Shape := ⟨2, ![1, 1024]⟩
abbrev S4096x2048 : Shape := ⟨2, ![4096, 2048]⟩
abbrev S1x1024x32 : Shape := ⟨3, ![1, 1024, 32]⟩
abbrev S1x32 : Shape := ⟨2, ![1, 32]⟩
abbrev S16x4096x7680 : Shape := ⟨3, ![16, 4096, 7680]⟩
abbrev S16x256x2048 : Shape := ⟨3, ![16, 256, 2048]⟩
abbrev S1x1x1024 : Shape := ⟨3, ![1, 1, 1024]⟩
abbrev S1024 : Shape := ⟨1, ![1024]⟩
abbrev S_ : Shape := ⟨0, ![]⟩
abbrev S1024x1024 : Shape := ⟨2, ![1024, 1024]⟩
abbrev S16x4096 : Shape := ⟨2, ![16, 4096]⟩
abbrev S16x4096x1 : Shape := ⟨3, ![16, 4096, 1]⟩
abbrev S16x256x1024 : Shape := ⟨3, ![16, 256, 1024]⟩
abbrev S16x4096x4x256 : Shape := ⟨4, ![16, 4096, 4, 256]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩

abbrev nBuf : Space → Nat
  | .hbm => 129
  | .vmem => 0
  | .smem => 0
  | _ => 0

abbrev hbmTy0_0 (i : Nat) : BufTy := match i % 128 with
  | 0 => ⟨S16x4096x1024, .f32⟩
  | 1 => ⟨S65536x1024, .bf16⟩
  | 2 => ⟨S65536x1024, .bf16⟩
  | 3 => ⟨S65536x7680, .bf16⟩
  | 4 => ⟨S1x2x1024, .f32⟩
  | 5 => ⟨S1x1024x1024, .f32⟩
  | 6 => ⟨S1x1024x1024, .f32⟩
  | 7 => ⟨S1x1024x1024, .f32⟩
  | 8 => ⟨S1x1024, .f32⟩
  | 9 => ⟨S1x1024x1024, .f32⟩
  | 10 => ⟨S4096x2048, .bf16⟩
  | 11 => ⟨S1x1024x1024, .f32⟩
  | 12 => ⟨S1x1024, .f32⟩
  | 13 => ⟨S1x1024x32, .f32⟩
  | 14 => ⟨S1x32, .f32⟩
  | 15 => ⟨S65536x1024, .f32⟩
  | 16 => ⟨S16x4096x1024, .f32⟩
  | 17 => ⟨S65536x1024, .f32⟩
  | 18 => ⟨S16x4096x1024, .f32⟩
  | 19 => ⟨S65536x7680, .f32⟩
  | 20 => ⟨S16x4096x7680, .f32⟩
  | 21 => ⟨S16x4096x1024, .f32⟩
  | 22 => ⟨S16x4096x1024, .f32⟩
  | 23 => ⟨S4096x2048, .f32⟩
  | 24 => ⟨S16x256x2048, .f32⟩
  | 25 => ⟨S1x1x1024, .f32⟩
  | 26 => ⟨S1024, .f32⟩
  | 27 => ⟨S1x1x1024, .f32⟩
  | 28 => ⟨S16x4096x1024, .f32⟩
  | 29 => ⟨S16x4096x1024, .f32⟩
  | 30 => ⟨S16x4096x1024, .f32⟩
  | 31 => ⟨S16x4096x1024, .f32⟩
  | 32 => ⟨S_, .f32⟩
  | 33 => ⟨S16x4096x1024, .f32⟩
  | 34 => ⟨S16x4096x1024, .f32⟩
  | 35 => ⟨S_, .f32⟩
  | 36 => ⟨S16x4096x1024, .f32⟩
  | 37 => ⟨S16x4096x1024, .f32⟩
  | 38 => ⟨S1x1x1024, .f32⟩
  | 39 => ⟨S1024, .f32⟩
  | 40 => ⟨S1x1x1024, .f32⟩
  | 41 => ⟨S16x4096x1024, .f32⟩
  | 42 => ⟨S16x4096x1024, .f32⟩
  | 43 => ⟨S16x4096x1024, .f32⟩
  | 44 => ⟨S16x4096x1024, .f32⟩
  | 45 => ⟨S_, .f32⟩
  | 46 => ⟨S16x4096x1024, .f32⟩
  | 47 => ⟨S16x4096x1024, .f32⟩
  | 48 => ⟨S_, .f32⟩
  | 49 => ⟨S16x4096x1024, .f32⟩
  | 50 => ⟨S16x4096x1024, .f32⟩
  | 51 => ⟨S1024x1024, .f32⟩
  | 52 => ⟨S16x4096x1024, .f32⟩
  | 53 => ⟨S16x4096x1024, .f32⟩
  | 54 => ⟨S1024x1024, .f32⟩
  | 55 => ⟨S16x4096x1024, .f32⟩
  | 56 => ⟨S16x4096x1024, .f32⟩
  | 57 => ⟨S16x4096x1024, .f32⟩
  | 58 => ⟨S1024x1024, .f32⟩
  | 59 => ⟨S16x4096x1024, .f32⟩
  | 60 => ⟨S16x4096x1024, .f32⟩
  | 61 => ⟨S1024, .f32⟩
  | 62 => ⟨S16x4096x1024, .f32⟩
  | 63 => ⟨S_, .f32⟩
  | 64 => ⟨S16x4096, .f32⟩
  | 65 => ⟨S16x4096x1, .f32⟩
  | 66 => ⟨S_, .f32⟩
  | 67 => ⟨S16x4096x1, .f32⟩
  | 68 => ⟨S16x4096x1, .f32⟩
  | 69 => ⟨S_, .f32⟩
  | 70 => ⟨S16x4096x1, .f32⟩
  | 71 => ⟨S16x4096x1, .f32⟩
  | 72 => ⟨S16x4096x1, .f32⟩
  | 73 => ⟨S16x4096x1024, .f32⟩
  | 74 => ⟨S16x4096x1024, .f32⟩
  | 75 => ⟨S1x1x1024, .f32⟩
  | 76 => ⟨S16x4096x1024, .f32⟩
  | 77 => ⟨S16x4096x1024, .f32⟩
  | 78 => ⟨S16x256x1024, .f32⟩
  | 79 => ⟨S16x256x1024, .f32⟩
  | 80 => ⟨S1024x1024, .f32⟩
  | 81 => ⟨S1024x1024, .f32⟩
  | 82 => ⟨S16x4096x1024, .f32⟩
  | 83 => ⟨S16x4096x4x256, .f32⟩
  | 84 => ⟨S16x256x4x256, .f32⟩
  | 85 => ⟨S16x256x4x256, .f32⟩
  | 86 => ⟨S16x4x4096x256, .f32⟩
  | 87 => ⟨S_, .f32⟩
  | 88 => ⟨S16x4x4096x256, .f32⟩
  | 89 => ⟨S16x4x4096x256, .f32⟩
  | 90 => ⟨S_, .f32⟩
  | 91 => ⟨S16x4x4096, .f32⟩
  | 92 => ⟨S_, .f32⟩
  | 93 => ⟨S16x4x4096, .f32⟩
  | 94 => ⟨S16x4x4096, .f32⟩
  | 95 => ⟨S16x4x4096x1, .f32⟩
  | 96 => ⟨S16x4x4096x256, .f32⟩
  | 97 => ⟨S16x4x4096x256, .f32⟩
  | 98 => ⟨S16x4x4096x256, .f32⟩
  | 99 => ⟨S_, .f32⟩
  | 100 => ⟨S16x4x4096, .f32⟩
  | 101 => ⟨S16x4x4096x1, .f32⟩
  | 102 => ⟨S16x4x4096x256, .f32⟩
  | 103 => ⟨S16x4x4096x256, .f32⟩
  | 104 => ⟨S16x4x256x4096, .f32⟩
  | 105 => ⟨S16x4096x4x256, .f32⟩
  | 106 => ⟨S16x4096x1024, .f32⟩
  | 107 => ⟨S16x4096x1024, .f32⟩
  | 108 => ⟨S16x4096x1024, .f32⟩
  | 109 => ⟨S1024, .f32⟩
  | 110 => ⟨S16x4096x1024, .f32⟩
  | 111 => ⟨S_, .f32⟩
  | 112 => ⟨S16x4096, .f32⟩
  | 113 => ⟨S16x4096x1, .f32⟩
  | 114 => ⟨S_, .f32⟩
  | 115 => ⟨S16x4096x1, .f32⟩
  | 116 => ⟨S16x4096x1, .f32⟩
  | 117 => ⟨S_, .f32⟩
  | 118 => ⟨S16x4096x1, .f32⟩
  | 119 => ⟨S16x4096x1, .f32⟩
  | 120 => ⟨S16x4096x1, .f32⟩
  | 121 => ⟨S16x4096x1024, .f32⟩
  | 122 => ⟨S16x4096x1024, .f32⟩
  | 123 => ⟨S1x1x1024, .f32⟩
  | 124 => ⟨S16x4096x1024, .f32⟩
  | 125 => ⟨S16x4096x1024, .f32⟩
  | 126 => ⟨S65536x1024, .f32⟩
  | 127 => ⟨S65536x1024, .f32⟩
  | _ => ⟨S16x4096x1024, .f32⟩

abbrev hbmTy0_1 (i : Nat) : BufTy := match i % 128 with
  | 0 => ⟨S65536x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_cst_8 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_10 : Ref sig .tc := ⟨.hbm, 111, rfl⟩
abbrev main_v85 : Ref sig .tc := ⟨.hbm, 112, rfl⟩
abbrev main_v86 : Ref sig .tc := ⟨.hbm, 113, rfl⟩
abbrev main_cst_11 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== Proof.Soft.lean ====
/- The arithmetic of one row of the attention, over the extended reals: a row of 128 scores with a sink, softmaxed and
   divided after the weighted sum, against the same row spread over 257 columns, softmaxed whole and divided before. -/
module

public import Idealize.ShloMosaic.PureOps.Ideal.Laws
public import Idealize.ShloMosaic.Lib.Pointwise

@[expose] public section

set_option maxRecDepth 16384

noncomputable section

namespace Cert.Soft

open Idealize.ShloMosaic

/-- Multiplying by a nonnegative real distributes over a finite sum of extended reals. -/
theorem mul_sum {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, EReal.right_distrib_of_nonneg_of_ne_top (by exact_mod_cast ha) (EReal.coe_ne_top a), ih]

theorem exp_nonneg (x : EReal) : 0 ≤ Ideal.exp x := by
  induction x with
  | bot => exact le_refl _
  | top => exact le_top
  | coe r => exact EReal.coe_nonneg.2 (Real.exp_pos r).le

theorem exp_real {x : EReal} (h : x ≠ ⊤) : ∃ a : ℝ, 0 ≤ a ∧ Ideal.exp x = (a : EReal) := by
  induction x with
  | bot => exact ⟨0, le_refl _, rfl⟩
  | top => exact absurd rfl h
  | coe r => exact ⟨Real.exp r, (Real.exp_pos r).le, rfl⟩

theorem sum_real {ι : Type} (s : Finset ι) (f : ι → EReal) (h : ∀ i, ∃ a : ℝ, 0 ≤ a ∧ f i = (a : EReal)) :
    ∃ a : ℝ, 0 ≤ a ∧ ∑ i ∈ s, f i = (a : EReal) := by
  choose g hg hf using h
  refine ⟨∑ i ∈ s, g i, Finset.sum_nonneg fun i _ => hg i, ?_⟩
  classical
  induction s using Finset.induction_on with
  | empty => simp
  | insert i s hi ih => rw [Finset.sum_insert hi, Finset.sum_insert hi, EReal.coe_add, ih, hf i]

/-- The largest score of a row and the sink. -/
def top (S : Fin 128 → EReal) (z : EReal) : EReal := max (Finset.univ.fold max ⊥ S) z

/-- The kernel's row: scores `S`, sink `z`, weights on the first half of the keys where the column is right of the
    row and on the second half elsewhere, divided at the end. -/
def row (r : Fin 128) (S : Fin 128 → EReal) (z : EReal) (vP vC : Fin 128 → EReal) : EReal :=
  Ideal.div
    (∑ k : Fin 128, (if (k : ℕ) ≤ r then 0 else Ideal.exp (S k - top S z)) * vP k
      + ∑ k : Fin 128, (if (k : ℕ) ≤ r then Ideal.exp (S k - top S z) else 0) * vC k)
    (∑ k : Fin 128, Ideal.exp (S k - top S z) + Ideal.exp (z - top S z))

/-- The reference's row: 256 scores `T` and the sink, softmaxed whole. -/
def refTop (T : Fin 256 → EReal) (z : EReal) : EReal := max (Finset.univ.fold max ⊥ T) z

def refRow (T : Fin 256 → EReal) (z : EReal) (V : Fin 256 → EReal) : EReal :=
  ∑ k : Fin 256, V k * Ideal.div (Ideal.exp (T k - refTop T z))
    (∑ k : Fin 256, Ideal.exp (T k - refTop T z) + Ideal.exp (z - refTop T z))

theorem fold_max_le {n : ℕ} (f : Fin n → EReal) (c : EReal) : Finset.univ.fold max ⊥ f ≤ c ↔ ∀ k, f k ≤ c := by
  rw [Finset.fold_max_le]; simp

theorem fold_ne_top {n : ℕ} (f : Fin n → EReal) (h : ∀ k, f k ≠ ⊤) : Finset.univ.fold max ⊥ f ≠ ⊤ := by
  intro e
  have := (Finset.le_fold_max (s := Finset.univ) (f := f) (b := ⊥) ⊤).1 (by rw [e])
  rcases this with h' | ⟨k, _, hk⟩
  · exact absurd h' (by simp)
  · exact h k (top_le_iff.1 hk)

theorem row_eq (r : Fin 128) (S vP vC : Fin 128 → EReal) (T V : Fin 256 → EReal) (z : EReal)
    (hz : z ≠ ⊥) (hz' : z ≠ ⊤) (hS : ∀ c, S c ≠ ⊤)
    (hT0 : ∀ c : Fin 128, T ⟨c, by omega⟩ = if (c : ℕ) ≤ r then ⊥ else S c)
    (hT1 : ∀ c : Fin 128, T ⟨c + 128, by omega⟩ = if (c : ℕ) ≤ r then S c else ⊥)
    (hV0 : ∀ c : Fin 128, V ⟨c, by omega⟩ = vP c ∨ S c = ⊥)
    (hV1 : ∀ c : Fin 128, V ⟨c + 128, by omega⟩ = vC c) :
    row r S z vP vC = refRow T z V := by
  have split : ∀ f : Fin 256 → EReal, ∑ k, f k = ∑ k : Fin 128, f ⟨k, by omega⟩ + ∑ k : Fin 128, f ⟨k + 128, by omega⟩ := by
    intro f
    rw [Fin.sum_univ_two_halves 128 128 rfl f]
    refine congrArg₂ (· + ·) rfl (Finset.sum_congr rfl fun k _ => congrArg f (Fin.ext ?_))
    simp [Nat.add_comm]
  have hTop : refTop T z = top S z := by
    refine congrArg (max · z) (le_antisymm ((fold_max_le _ _).2 fun k => ?_) ((fold_max_le _ _).2 fun k => ?_))
    · by_cases hk : (k : ℕ) < 128
      · have := hT0 ⟨k, hk⟩
        rw [show k = ⟨((⟨k, hk⟩ : Fin 128) : ℕ), by omega⟩ from rfl, this]
        split_ifs
        · exact bot_le
        · exact (fold_max_le S _).1 le_rfl _
      · have hk2 : (k : ℕ) - 128 < 128 := by omega
        have := hT1 ⟨k - 128, hk2⟩
        rw [show k = ⟨((⟨k - 128, hk2⟩ : Fin 128) : ℕ) + 128, by simp; omega⟩ from Fin.ext (by simp; omega), this]
        split_ifs
        · exact (fold_max_le S _).1 le_rfl _
        · exact bot_le
    · by_cases hk : (k : ℕ) ≤ r
      · have := hT1 k; rw [if_pos hk] at this; rw [← this]
        exact (fold_max_le T _).1 le_rfl _
      · have := hT0 k; rw [if_neg hk] at this; rw [← this]
        exact (fold_max_le T _).1 le_rfl _
  have hm : top S z ≠ ⊤ := by
    unfold top
    rcases max_choice (Finset.univ.fold max ⊥ S) z with h | h <;> rw [h]
    · exact fold_ne_top S hS
    · exact hz'
  have hm' : top S z ≠ ⊥ := fun h => hz (le_bot_iff.1 (h ▸ le_max_right _ _))
  unfold row refRow
  rw [hTop]
  generalize top S z = M at hm hm'
  have hb : Ideal.exp (⊥ - M) = 0 := by
    rw [sub_eq_add_neg, EReal.bot_add]; rfl
  obtain ⟨M, rfl⟩ : ∃ x : ℝ, M = (x : EReal) := ⟨M.toReal, (EReal.coe_toReal hm hm').symm⟩
  have hne : ∀ {x : EReal}, x ≠ ⊤ → x - (M : EReal) ≠ ⊤ := by
    intro x hx
    induction x with
    | bot => rw [sub_eq_add_neg, EReal.bot_add]; exact bot_ne_top
    | top => exact absurd rfl hx
    | coe r => rw [← EReal.coe_sub]; exact EReal.coe_ne_top _
  have hden : ∑ k : Fin 256, Ideal.exp (T k - M) = ∑ k : Fin 128, Ideal.exp (S k - M) := by
    rw [split, ← Finset.sum_add_distrib]
    refine Finset.sum_congr rfl fun k _ => ?_
    rw [hT0, hT1]
    split_ifs <;> simp [hb]
  rw [hden]
  obtain ⟨a, ha, hA⟩ := sum_real Finset.univ (fun k : Fin 128 => Ideal.exp (S k - M)) fun k => exp_real (hne (hS k))
  obtain ⟨z, rfl⟩ : ∃ x : ℝ, z = (x : EReal) := ⟨z.toReal, (EReal.coe_toReal hz' hz).symm⟩
  rw [hA, ← EReal.coe_sub, show Ideal.exp ((z - M : ℝ) : EReal) = ((Real.exp (z - M) : ℝ) : EReal) from rfl, ← EReal.coe_add]
  have hd : a + Real.exp (z - M) ≠ 0 := (add_pos_of_nonneg_of_pos ha (Real.exp_pos _)).ne'
  have hd' : 0 ≤ 1 / (a + Real.exp (z - M)) := by positivity
  simp only [Ideal.div_coe hd]
  generalize 1 / (a + Real.exp (z - M)) = D at hd'
  rw [split, ← Finset.sum_add_distrib, ← Finset.sum_add_distrib, mul_sum _ _ hd']
  refine Finset.sum_congr rfl fun k _ => ?_
  rw [hT0, hT1, hV1]
  by_cases hk : (k : ℕ) ≤ r
  · simp only [if_pos hk, hb, zero_mul, mul_zero, zero_add]
    rw [mul_comm _ (vC k), mul_assoc]
  · simp only [if_neg hk, hb, zero_mul, mul_zero, add_zero]
    rcases hV0 k with h | h
    · rw [h, mul_comm _ (vP k), mul_assoc]
    · rw [h, hb]; simp

end Cert.Soft

end
-- ==== Proof.Where.lean ====
/- Where the projection's array keeps what a block of 128 queries reads. -/
module

public import proofs.«01_k».proof.Proof.Soft

@[expose] public section

namespace Cert.Where

/-- Row `r` of block `t`. -/
def row (t : Fin 512) (r : Fin 128) : Fin 65536 := ⟨t.val * 128 + r.val, by omega⟩
/-- The block before `t` in the same sequence (`t` itself where there is none). -/
def prev (t : Fin 512) : Fin 512 := ⟨if t.val % 32 = 0 then t.val else t.val - 1, by split <;> omega⟩
/-- Column `x` of query head `h`. -/
def colQ (h : Fin 16) (x : Fin 64) : Fin 7680 := ⟨4096 + (64 * h.val + x.val), by omega⟩
/-- Column `x` of the key head that query head `h` reads. -/
def colK (h : Fin 16) (x : Fin 64) : Fin 7680 := ⟨7168 + (64 * (h.val / 4) + x.val), by omega⟩
/-- Column `x` of the value head that query head `h` reads. -/
def colV (h : Fin 16) (x : Fin 64) : Fin 7680 := ⟨7424 + (64 * (h.val / 4) + x.val), by omega⟩
/-- Column `x` of head `h` in the result. -/
def colO (h : Fin 16) (x : Fin 64) : Fin 1024 := ⟨64 * h.val + x.val, by omega⟩

end Cert.Where
-- ==== Proof.Bias.lean ====
/- The bias the host code prepares for the kernel. -/
module

public import proofs.«01_k».proof.Proof.Gen.KernelIdeal.Value
public import proofs.«01_k».proof.Proof.Gen.ReferenceIdeal.Read
public import Idealize.ShloMosaic.Lib.Claim
public import Idealize.ShloMosaic.Lib.StableHlo.RunRead
public import Idealize.ShloMosaic.Lib.Pointwise

@[expose] public section

set_option maxRecDepth 16384

noncomputable section

namespace Cert.KernelIdeal.Bias

open Cert.KernelIdeal Cert.KernelIdeal.Gen
open Idealize.ShloMosaic Idealize.ShloMosaic.TcCoe Idealize.SL.Sem

variable (m : (ℓ : Loc nD τ sig) → Buf (Elt Ideal) ℓ)

/-- The lower triangle, as the host code makes it. -/
def tril : IVec S128x128 1 :=
  select (cmpi .sge (addi (iotaInDim S128x128 32 0) (broadcastInDim S128x128 ![] bcast_S_S128x128 (constantI S_ 32 0#32)))
      (iotaInDim S128x128 32 1))
    (broadcastInDim S128x128 ![] bcast_S_S128x128 (constantI S_ 1 1#1))
    (broadcastInDim S128x128 ![] bcast_S_S128x128 (constantI S_ 1 0#1))

/-- The bias of every head at every pair of a query and one of 256 keys, and the mask's number outside the band. -/
def wide (M : IVec S128x256 1) (G : FVec Ideal S128x256x16 .f32) : FVec Ideal S16x128x256 .f32 :=
  transpose S16x128x256 [2, 0, 1]
    (select (broadcastInDim S128x256x16 ![0, 1, 2] bcast_S128x256x1_S128x256x16_0_1_2
        (broadcastInDim S128x256x1 ![0, 1] bcast_S128x256_S128x256x1_0_1 M))
      G (broadcastInDim S128x256x16 ![] bcast_S_S128x256x16 (constant S_ .f32 0xF149F2CA#32)))
    transposes_S128x256x16_S16x128x256_2_0_1

/-- The two halves of it folded into one. -/
def folded (M : IVec S128x256 1) (G : FVec Ideal S128x256x16 .f32) : FVec Ideal S16x128x128 .f32 :=
  select (broadcastInDim S16x128x128 ![0, 1, 2] bcast_S1x128x128_S16x128x128_0_1_2
      (broadcastInDim S1x128x128 ![1, 2] bcast_S128x128_S1x128x128_1_2 tril))
    (extractStridedSlice S16x128x128 ![0, 0, 128] (wide M G) slices_S16x128x256_S16x128x128_0_0_128)
    (extractStridedSlice S16x128x128 ![0, 0, 0] (wide M G) slices_S16x128x256_S16x128x128_0_0_0)

/-- The sinks as the kernel reads them. -/
theorem sinks (c : Dev nD) : V m c main_v50 = shapeCast S16 (m ((c : Thread nD τ).loc main_arg1)) shapeCasts_S1x16_S16 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_simp
  rfl

set_option maxHeartbeats 2000000 in
/-- The bias as the kernel reads it: the reference's own table of biases, folded. -/
theorem bias (c : Dev nD) : V m c main_v49 = folded (Cert.ReferenceIdeal.Read.val_main_v28 (F := Ideal))
    (Cert.ReferenceIdeal.Read.val_main_v70 (F := Ideal) (m ((c : Thread nD τ).loc main_arg2))) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_simp
  simp only [StableHlo.TRef.ofBuf_toBuf, id_eq,
    Cert.ReferenceIdeal.Read.val_main_v15, Cert.ReferenceIdeal.Read.val_main_v16,
    Cert.ReferenceIdeal.Read.val_main_v17, Cert.ReferenceIdeal.Read.val_main_v18,
    Cert.ReferenceIdeal.Read.val_main_c_1, Cert.ReferenceIdeal.Read.val_main_v19,
    Cert.ReferenceIdeal.Read.val_main_v20, Cert.ReferenceIdeal.Read.val_main_v21,
    Cert.ReferenceIdeal.Read.val_main_v22, Cert.ReferenceIdeal.Read.val_main_v23,
    Cert.ReferenceIdeal.Read.val_main_c_2, Cert.ReferenceIdeal.Read.val_main_v24,
    Cert.ReferenceIdeal.Read.val_main_v25, Cert.ReferenceIdeal.Read.val_main_c_3,
    Cert.ReferenceIdeal.Read.val_main_v26, Cert.ReferenceIdeal.Read.val_main_v27,
    Cert.ReferenceIdeal.Read.val_main_v28, Cert.ReferenceIdeal.Read.val_main_v29,
    Cert.ReferenceIdeal.Read.val_main_v30, Cert.ReferenceIdeal.Read.val_main_v31,
    Cert.ReferenceIdeal.Read.val_main_c_4, Cert.ReferenceIdeal.Read.val_main_v32,
    Cert.ReferenceIdeal.Read.val_main_v33, Cert.ReferenceIdeal.Read.val_main_c_5,
    Cert.ReferenceIdeal.Read.val_main_v34, Cert.ReferenceIdeal.Read.val_main_v35,
    Cert.ReferenceIdeal.Read.val_main_v36, Cert.ReferenceIdeal.Read.val_main_v37,
    Cert.ReferenceIdeal.Read.val_main_v38, Cert.ReferenceIdeal.Read.val_main_v39,
    Cert.ReferenceIdeal.Read.val_main_v40, Cert.ReferenceIdeal.Read.val_main_v41,
    Cert.ReferenceIdeal.Read.val_main_v42, Cert.ReferenceIdeal.Read.val_main_v43,
    Cert.ReferenceIdeal.Read.val_main_c_6, Cert.ReferenceIdeal.Read.val_main_v44,
    Cert.ReferenceIdeal.Read.val_main_v45, Cert.ReferenceIdeal.Read.val_main_c_7,
    Cert.ReferenceIdeal.Read.val_main_v46, Cert.ReferenceIdeal.Read.val_main_v47,
    Cert.ReferenceIdeal.Read.val_main_v48, Cert.ReferenceIdeal.Read.val_main_cst,
    Cert.ReferenceIdeal.Read.val_main_v49, Cert.ReferenceIdeal.Read.val_main_v50,
    Cert.ReferenceIdeal.Read.val_main_v51, Cert.ReferenceIdeal.Read.val_main_cst_8,
    Cert.ReferenceIdeal.Read.val_main_v52, Cert.ReferenceIdeal.Read.val_main_v53,
    Cert.ReferenceIdeal.Read.val_main_cst_9, Cert.ReferenceIdeal.Read.val_main_v54,
    Cert.ReferenceIdeal.Read.val_main_v55, Cert.ReferenceIdeal.Read.val_main_v56,
    Cert.ReferenceIdeal.Read.val_main_c_10, Cert.ReferenceIdeal.Read.val_main_v57,
    Cert.ReferenceIdeal.Read.val_main_v58, Cert.ReferenceIdeal.Read.val_main_c_11,
    Cert.ReferenceIdeal.Read.val_main_v59, Cert.ReferenceIdeal.Read.val_main_v60,
    Cert.ReferenceIdeal.Read.val_main_c_12, Cert.ReferenceIdeal.Read.val_main_v61,
    Cert.ReferenceIdeal.Read.val_main_v62, Cert.ReferenceIdeal.Read.val_main_v63,
    Cert.ReferenceIdeal.Read.val_main_c_13, Cert.ReferenceIdeal.Read.val_main_v64,
    Cert.ReferenceIdeal.Read.val_main_v65, Cert.ReferenceIdeal.Read.val_main_c_14,
    Cert.ReferenceIdeal.Read.val_main_v66, Cert.ReferenceIdeal.Read.val_main_v67,
    Cert.ReferenceIdeal.Read.val_main_v68, Cert.ReferenceIdeal.Read.val_main_v69,
    Cert.ReferenceIdeal.Read.val_main_v70]
  rfl

end Cert.KernelIdeal.Bias
-- ==== Proof.RefMask.lean ====
/- Which keys the reference lets a query see. -/
module

public import proofs.«01_k».proof.Proof.Gen.ReferenceIdeal.Read
public import proofs.«01_k».proof.Proof.Where
public import Idealize.ShloMosaic.Lib.Pointwise

@[expose] public section

set_option maxRecDepth 16384

noncomputable section

namespace Cert.ReferenceIdeal.Ref

open Cert.ReferenceIdeal Cert.ReferenceIdeal.Read Cert.ReferenceIdeal.Gen Cert.Where
open Idealize.ShloMosaic Idealize.ShloMosaic.TcCoe Idealize.SL.Sem

theorem ofBool_iff (b : Bool) : BitVec.ofBool b = 1#1 ↔ b = true := by cases b <;> decide

theorem sge_iff (x y : BitVec 32) : IntOp.cmpi .sge x y = 1#1 ↔ y.toInt ≤ x.toInt := by
  rw [← BitVec.sle_iff_toInt_le]; exact ofBool_iff _

theorem slt_iff (x y : BitVec 32) : IntOp.cmpi .slt x y = 1#1 ↔ x.toInt < y.toInt := by
  rw [← BitVec.slt_iff_toInt_lt]; exact ofBool_iff _

theorem sgt_iff (x y : BitVec 32) : IntOp.cmpi .sgt x y = 1#1 ↔ y.toInt < x.toInt := by
  rw [← BitVec.slt_iff_toInt_lt]; exact ofBool_iff _

theorem toInt_small (a : ℕ) (ha : a < 1024) : (BitVec.ofNat 32 a).toInt = a := by
  rw [BitVec.toInt_ofNat']; norm_num [Int.bmod]; omega

/-- The distance from query `q` to key `s`, as a signed word. -/
theorem dist_at (q : Fin 128) (s : Fin 256) :
    (IntOp.subi (IntOp.addi (BitVec.ofNat 32 q.val) 128#32) (BitVec.ofNat 32 s.val)).toInt = (q.val : ℤ) + 128 - s.val := by
  show (BitVec.ofNat 32 q.val + 128#32 - BitVec.ofNat 32 s.val).toInt = _
  rw [BitVec.toInt_sub, BitVec.toInt_add, toInt_small q.val (by omega), toInt_small s.val (by omega)]
  rw [show (128#32 : BitVec 32).toInt = 128 from rfl]
  simp only [Int.bmod]
  omega

theorem and_iff (c d : BitVec 1) : IntOp.andi c d = 1#1 ↔ c = 1#1 ∧ d = 1#1 := by revert c d; decide

theorem or_iff (c d : BitVec 1) : IntOp.ori c d = 1#1 ↔ c = 1#1 ∨ d = 1#1 := by revert c d; decide

theorem band (q : Fin 128) (s : Fin 256) : (IntOp.andi
        (IntOp.cmpi CmpIPredicate.sge
          (IntOp.subi (IntOp.addi (BitVec.ofNat 32 q.val) 128#32) (BitVec.ofNat 32 s.val)) 0#32)
        (IntOp.cmpi CmpIPredicate.slt
          (IntOp.subi (IntOp.addi (BitVec.ofNat 32 q.val) 128#32) (BitVec.ofNat 32 s.val)) 128#32)) = 1#1
     ↔ s.val ≤ q.val + 128 ∧ q.val < s.val := by
  rw [and_iff, sge_iff, slt_iff, dist_at, show (0#32 : BitVec 32).toInt = 0 from rfl, show (128#32 : BitVec 32).toInt = 128 from rfl]
  omega

theorem exists_at (a : Fin 32) (s : Fin 256) : IntOp.ori (IntOp.cmpi CmpIPredicate.sgt (BitVec.ofNat 32 a.val) 0#32)
        (IntOp.cmpi CmpIPredicate.sge (BitVec.ofNat 32 s.val) 128#32) = 1#1 ↔ a.val ≠ 0 ∨ 128 ≤ s.val := by
  rw [or_iff, sgt_iff, sge_iff, toInt_small a.val (by omega), toInt_small s.val (by omega)]
  rw [show (0#32 : BitVec 32).toInt = 0 from rfl, show (128#32 : BitVec 32).toInt = 128 from rfl]
  omega

theorem mask_at (n : Fin 512) (q : Fin 128) (s : Fin 256) :
    (val_main_v43 (F := Ideal) (ix3 n q s) : BitVec 1) = 1#1 ↔ (s.val ≤ q.val + 128 ∧ q.val < s.val) ∧ (n.val % 32 ≠ 0 ∨ 128 ≤ s.val) := by
  simp only [val_main_v43_apply, val_main_v42_apply, val_main_v41_apply, val_main_v40_apply, val_main_v39_apply, val_main_v38_apply,
    val_main_v37_apply, val_main_v36_apply, val_main_v35_apply, val_main_v34_apply, val_main_v33_apply, val_main_v32_apply, val_main_v31_apply,
    val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_v18_apply, val_main_v17_apply,
    val_main_v16_apply, val_main_v15_apply, val_main_c_1_apply, val_main_c_2_apply, val_main_c_3_apply, val_main_c_4_apply, val_main_c_5_apply]
  refine (and_iff _ _).trans (and_congr (band q s) ?_)
  rw [show (((ix3 n q s) 0).val * 1 + 0) % 32 = n.val % 32 by simp]
  exact exists_at ⟨n.val % 32, Nat.mod_lt _ (by decide)⟩ s

theorem select_of {α : Type} {c : BitVec 1} {p : Prop} [Decidable p] (h : c = 1#1 ↔ p) (x y : α) :
    Scalar.select c x y = if p then x else y := by
  unfold Scalar.select; simp [h]

end Cert.ReferenceIdeal.Ref
-- ==== Proof.Fold.lean ====
/- The folded bias at an element: the reference's own table at the key the column stands for. -/
module

public import proofs.«01_k».proof.Proof.Bias
public import proofs.«01_k».proof.Proof.RefMask

@[expose] public section

set_option maxRecDepth 16384

noncomputable section

namespace Cert.KernelIdeal.Bias

open Cert.KernelIdeal Cert.KernelIdeal.Gen
open Idealize.ShloMosaic Idealize.ShloMosaic.TcCoe Idealize.SL.Sem

/-- The key of the pair of blocks that column `k` of row `r` stands for. -/
def key (r k : Fin 128) : Fin 256 := if k.val ≤ r.val then ⟨128 + k.val, by omega⟩ else ⟨k.val, by omega⟩

open Cert.ReferenceIdeal.Ref in
theorem tril_at (r k : Fin 128) : Scalar.select (IntOp.cmpi CmpIPredicate.sge (IntOp.addi (BitVec.ofNat 32 r.val) 0#32)
    (BitVec.ofNat 32 k.val)) (1#1 : BitVec 1) 0#1 = 1#1 ↔ k.val ≤ r.val := by
  have e : IntOp.addi (BitVec.ofNat 32 r.val) 0#32 = BitVec.ofNat 32 r.val := BitVec.add_zero _
  have h : ∀ c : BitVec 1, Scalar.select c (1#1 : BitVec 1) 0#1 = 1#1 ↔ c = 1#1 := by decide
  rw [h, e, sge_iff, toInt_small _ (by omega), toInt_small _ (by omega)]
  omega

open Cert.ReferenceIdeal.Read Cert.ReferenceIdeal.Ref in
theorem in_band (r : Fin 128) (s : Fin 256) (h : s.val ≤ r.val + 128 ∧ r.val < s.val) :
    val_main_v28 (F := Ideal) (ix2 r s) = 1#1 :=
  Eq.trans (by pointwise [val_main_v28, val_main_v27, val_main_v26, val_main_v25, val_main_v24, val_main_v23, val_main_v22, val_main_v21, val_main_v20, val_main_v19, val_main_v18, val_main_v17, val_main_v16, val_main_v15, val_main_c_1, val_main_c_2, val_main_c_3]) ((band r s).2 h)

open Cert.ReferenceIdeal.Read Cert.ReferenceIdeal.Ref in
/-- Both columns a row uses lie in the band, so the mask's number is never read. -/
theorem folded_at (G : FVec Ideal S128x256x16 .f32) (h : Fin 16) (r k : Fin 128) :
    folded (val_main_v28 (F := Ideal)) G (ix3 h r k) = G (ix3 r (key r k) h) := by
  unfold key
  have hb := in_band r
  generalize val_main_v28 (F := Ideal) = M at hb ⊢
  pointwise [folded, tril, wide]
  rw [select_of (tril_at r k)]
  by_cases hk : k.val ≤ r.val
  · rw [if_pos hk, if_pos hk, hb _ ⟨by show 128 + k.val ≤ _; omega, by show _ < 128 + k.val; omega⟩]
    rfl
  · rw [if_neg hk, if_neg hk, hb _ ⟨by show k.val ≤ _; omega, by show _ < k.val; omega⟩]
    rfl

end Cert.KernelIdeal.Bias
-- ==== Proof.Head.lean ====
/- One query head of one block of 128 queries: what the kernel's text computes for it, read at a row and a column. -/
module

public import proofs.«01_k».proof.Proof.Gen.KernelIdeal.Skeleton
public import proofs.«01_k».proof.Proof.Soft
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.TcCoe Idealize.SL.Sem

/-- One head, from the stacked keys and values of its group, its queries, its bias and its sink. -/
def head (i : grid0.Coords) (k0 k1 v0 v1 : FVec Ideal S128x64 .bf16) (q : FVec Ideal S128x64 .bf16)
    (b : FVec Ideal S1x128x128 .f32) (z : Elt Ideal .f32) : FVec Ideal S128x64 .f32 :=
  k0_pay19 k0_pay3 (k0_pay4 i) (k0_pay5 k0 k1) (k0_pay6 v0 v1) q b z

/-- The head after its scores: the softmax with the sink and the weighted sum of the values. -/
def tail (s : FVec Ideal S128x128 .f32) (v : FVec Ideal S256x64 .bf16) (z : Elt Ideal .f32) : FVec Ideal S128x64 .f32 :=
  have v3 : IVec S128x128 1 := k0_pay3
  have v96 : FVec Ideal S128 .f32 := multiReduction .maximumf [1] S128 s 0xFF800000#32 reduces_S128x128_S128 (.inl rfl) rfl
  have v97 : FVec Ideal S128x1 .f32 := shapeCast S128x1 v96 shapeCasts_S128_S128x1
  have v98 : FVec Ideal S128x1 .f32 := broadcast S128x1 z
  have v99 : FVec Ideal S128x1 .f32 := maximumf v97 v98
  have v100 : FVec Ideal S128x128 .f32 := broadcastTo S128x128 v99 broadcasts_S128x1_S128x128
  have v101 : FVec Ideal S128x128 .f32 := subf s v100
  have v102 : FVec Ideal S128x128 .f32 := exp v101
  have v103 : FVec Ideal S128 .f32 := multiReduction .add [1] S128 v102 0x00000000#32 reduces_S128x128_S128 (.inl rfl) rfl
  have v104 : FVec Ideal S128x1 .f32 := shapeCast S128x1 v103 shapeCasts_S128_S128x1
  have v105 : FVec Ideal S128x1 .f32 := broadcast S128x1 z
  have v106 : FVec Ideal S128x1 .f32 := subf v105 v99
  have v107 : FVec Ideal S128x1 .f32 := exp v106
  have v108 : FVec Ideal S128x1 .f32 := addf v104 v107
  have cst_41 : Ideal .f32 := Scalar.ofBits .f32 0x00000000#32
  have v109 : FVec Ideal S128x128 .f32 := broadcast S128x128 cst_41
  have v110 : FVec Ideal S128x128 .f32 := select v3 v109 v102
  have cst_42 : Ideal .f32 := Scalar.ofBits .f32 0x00000000#32
  have v111 : FVec Ideal S128x128 .f32 := broadcast S128x128 cst_42
  have v112 : FVec Ideal S128x128 .f32 := select v3 v102 v111
  have v113 : FVec Ideal S128x256 .f32 := concatenate S128x256 1 [⟨S128x128, v110⟩, ⟨S128x128, v112⟩] concatenates_S128x128_S128x128_S128x256_d1
  have v114 : FVec Ideal S128x256 .bf16 := truncf .bf16 v113 bitsLt_bf16_f32
  have cst_43 : FVec Ideal S128x64 .f32 := constant S128x64 .f32 0x00000000#32
  have v115 : FVec Ideal S128x64 .f32 := matmul dot_S128x256_S256x64_S128x64_1_0_0_1_n_n none v114 v cst_43
  have v116 : FVec Ideal S128x64 .f32 := broadcastTo S128x64 v108 broadcasts_S128x1_S128x64
  have v117 : FVec Ideal S128x64 .f32 := divf v115 v116
  v117

theorem head_eq (i : grid0.Coords) (k0 k1 v0 v1 q : FVec Ideal S128x64 .bf16)
    (b : FVec Ideal S1x128x128 .f32) (z : Elt Ideal .f32) :
    head i k0 k1 v0 v1 q b z = tail (k0_pay13 (F := Ideal) k0_pay3 (k0_pay4 i) (k0_pay5 k0 k1) q b) (k0_pay6 v0 v1) z := rfl

/-- A small natural number as a signed word is itself. -/
theorem toInt_small (a : ℕ) (ha : a < 128) : (BitVec.ofNat 32 a).toInt = a := by
  rw [BitVec.toInt_ofNat']; norm_num [Int.bmod]; omega

theorem ofBool_iff (b : Bool) : BitVec.ofBool b = 1#1 ↔ b = true := by cases b <;> decide

theorem bit_iff_sle (x y : BitVec 32) : IntOp.cmpi .sle x y = 1#1 ↔ x.toInt ≤ y.toInt := by
  rw [← BitVec.sle_iff_toInt_le]; exact ofBool_iff _

theorem bit_iff_sgt (x y : BitVec 32) : IntOp.cmpi .sgt x y = 1#1 ↔ y.toInt < x.toInt := by
  rw [← BitVec.slt_iff_toInt_lt]; exact ofBool_iff _

theorem sle_iff (a b : Fin 128) : IntOp.cmpi .sle (BitVec.ofNat 32 a.val) (BitVec.ofNat 32 b.val) = 1#1 ↔ a.val ≤ b.val := by
  rw [bit_iff_sle, toInt_small _ a.isLt, toInt_small _ b.isLt]
  omega

theorem sgt_iff (a b : Fin 128) : IntOp.cmpi .sgt (BitVec.ofNat 32 a.val) (BitVec.ofNat 32 b.val) = 1#1 ↔ b.val < a.val := by
  rw [bit_iff_sgt, toInt_small _ a.isLt, toInt_small _ b.isLt]
  omega

theorem eq_zero_iff (a : ℕ) (ha : a < 128) : Scalar.cmpi .eq (BitVec.ofNat 32 a) 0#32 = 1#1 ↔ a = 0 := by
  rw [show Scalar.cmpi .eq (BitVec.ofNat 32 a) 0#32 = BitVec.ofBool (BitVec.ofNat 32 a == 0#32) from rfl,
    ofBool_iff, beq_iff_eq, ← BitVec.toInt_inj, toInt_small _ ha]
  simp

theorem and_iff (c d : BitVec 1) : IntOp.andi c d = 1#1 ↔ c = 1#1 ∧ d = 1#1 := by revert c d; decide

/-- A selection by a decided bit. -/
theorem select_of {α : Type} {c : BitVec 1} {p : Prop} [Decidable p] (h : c = 1#1 ↔ p) (x y : α) :
    Scalar.select c x y = if p then x else y := by
  unfold Scalar.select; simp [h]

/-- The score of row `r` at column `c`: the current block's key where `c ≤ r`, else the block before's;
    masked where that block does not exist. -/
def score (i : grid0.Coords) (k0 k1 q : FVec Ideal S128x64 .bf16) (b : FVec Ideal S1x128x128 .f32)
    (r c : Fin 128) : EReal :=
  if (i 1).val = 0 ∧ r.val < c.val then ⊥ else
    (if c.val ≤ r.val then ∑ x, q (ix2 r x) * k1 (ix2 c x) else ∑ x, q (ix2 r x) * k0 (ix2 c x))
      * Ideal.ofBits .f32 0x3E000000#32 + b (ix3 0 r c)

theorem score_at (i : grid0.Coords) (k0 k1 q : FVec Ideal S128x64 .bf16)
    (b : FVec Ideal S1x128x128 .f32) (r c : Fin 128) :
    k0_pay13 (F := Ideal) k0_pay3 (k0_pay4 i) (k0_pay5 k0 k1) q b (ix2 r c) = score i k0 k1 q b r c := by
  have hi : (i 1).val < 128 := lt_of_lt_of_le (i 1).isLt (by decide)
  pointwise [k0_pay3, k0_pay4, k0_pay5, k0_pay13]
  rw [select_of ((and_iff _ _).trans (and_congr (eq_zero_iff _ hi) (sgt_iff c r))), select_of (sle_iff c r),
    IdealRules.named_const.ideal_named_scalar _ _ _ _ rfl]
  rfl

theorem neg_inf : Ideal.ofBits .f32 0xFF800000#32 = ⊥ := by
  simp [Ideal.ofBits, Ideal.ieee]

theorem tail_at (s : FVec Ideal S128x128 .f32) (v0 v1 : FVec Ideal S128x64 .bf16)
    (z : Elt Ideal .f32) (r : Fin 128) (d : Fin 64) :
    tail s (k0_pay6 v0 v1) z (ix2 r d)
      = Soft.row r (fun c => s (ix2 r c)) z (fun c => v0 (ix2 c d)) (fun c => v1 (ix2 c d)) := by
  pointwise [tail, k0_pay3, k0_pay6]
  simp only [fun x => select_of (α := EReal) (sle_iff x r), neg_inf]
  unfold Soft.row Soft.top
  congr 1
  congr 1
  · refine Finset.sum_congr rfl fun x _ => ?_
    split <;> simp
  · refine Finset.sum_congr rfl fun x _ => ?_
    split <;> simp

theorem head_at (i : grid0.Coords) (k0 k1 v0 v1 q : FVec Ideal S128x64 .bf16)
    (b : FVec Ideal S1x128x128 .f32) (z : Elt Ideal .f32) (r : Fin 128) (d : Fin 64) :
    head i k0 k1 v0 v1 q b z (ix2 r d)
      = Soft.row r (score i k0 k1 q b r) z (fun c => v0 (ix2 c d)) (fun c => v1 (ix2 c d)) := by
  rw [head_eq, tail_at]
  exact congrArg (fun S => Soft.row r S z _ _) (funext fun c => score_at i k0 k1 q b r c)

end Cert.KernelIdeal.Head

end
-- ==== Proof.Block.lean ====
/- What one grid point writes: sixteen heads side by side. -/
module

public import proofs.«01_k».proof.Proof.Gen.KernelIdeal.Value
public import proofs.«01_k».proof.Proof.Head
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ)

/-- Columns `64·h` to `64·h + 63` of a block of keys or values. -/
theorem inb_kv (h : ℕ) (hh : h < 4) : ∀ a, (![0, 64 * h] : Fin 2 → ℕ) a + S128x64.size a ≤ S128x256.size a := by
  intro a; fin_cases a <;> simp [S128x64, S128x256] <;> omega

/-- Columns `64·h` to `64·h + 63` of a block of queries. -/
theorem inb_q (h : ℕ) (hh : h < 16) : ∀ a, (![0, 64 * h] : Fin 2 → ℕ) a + S128x64.size a ≤ S128x1024.size a := by
  intro a; fin_cases a <;> simp [S128x64, S128x1024] <;> omega

theorem inb_b (h : ℕ) (hh : h < 16) : ∀ a, (![h, 0, 0] : Fin 3 → ℕ) a + S1x128x128.size a ≤ S16x128x128.size a := by
  intro a; fin_cases a <;> simp [S1x128x128, S16x128x128] <;> omega

theorem inb_z (h : ℕ) (hh : h < 16) : ∀ a, (![h] : Fin 1 → ℕ) a + S1.size a ≤ S16.size a := by
  intro a; fin_cases a; simp [S1, S16]; omega

/-- The head `h` of the sixteen, from the blocks of the point. -/
def headOf (i : grid0.Coords) (x0 : Vec Ideal S16 .f32) (x1 : Vec Ideal S128x1024 .bf16)
    (x2 x3 x4 x5 : Vec Ideal S128x256 .bf16) (x6 : Vec Ideal S16x128x128 .f32) (h : Fin 16) : FVec Ideal S128x64 .f32 :=
  Head.head i
    (View.ld x2 (Rect.unit ![0, 64 * (h.val / 4)] S128x64.size (inb_kv _ (by omega))))
    (View.ld x3 (Rect.unit ![0, 64 * (h.val / 4)] S128x64.size (inb_kv _ (by omega))))
    (View.ld x4 (Rect.unit ![0, 64 * (h.val / 4)] S128x64.size (inb_kv _ (by omega))))
    (View.ld x5 (Rect.unit ![0, 64 * (h.val / 4)] S128x64.size (inb_kv _ (by omega))))
    (View.ld x1 (Rect.unit ![0, 64 * h.val] S128x64.size (inb_q _ h.isLt)))
    (View.ld x6 (Rect.unit ![h.val, 0, 0] S1x128x128.size (inb_b _ h.isLt)))
    (View.ld x0 (Rect.unit ![h.val] S1.size (inb_z _ h.isLt)) (ix1 0))

/-- The body's last line: sixteen heads side by side (the roundings are the identity over the reals). -/
theorem joined (v0 v1 v2 v3 v4 v5 v6 v7 v8 v9 v10 v11 v12 v13 v14 v15 : FVec Ideal S128x64 .f32) (f : Fin 16 → FVec Ideal S128x64 .f32)
    (h0 : v0 = f 0) (h1 : v1 = f 1) (h2 : v2 = f 2) (h3 : v3 = f 3) (h4 : v4 = f 4) (h5 : v5 = f 5) (h6 : v6 = f 6) (h7 : v7 = f 7) (h8 : v8 = f 8) (h9 : v9 = f 9) (h10 : v10 = f 10) (h11 : v11 = f 11) (h12 : v12 = f 12) (h13 : v13 = f 13) (h14 : v14 = f 14) (h15 : v15 = f 15) (y : S128x1024.Idx) :
    (k0_pay2 v0 v1 v2 v3 v4 v5 v6 v7 v8 v9 v10 v11 v12 v13 v14 v15 y : EReal) = concatenate S128x1024 1
      (List.ofFn fun h : Fin 16 => (⟨S128x64, f h⟩ : (s : Shape) × (s.Idx → EReal))) concatenates_S128x64_S128x64_S128x64_S128x64_S128x64_S128x64_S128x64_S128x64_S128x64_S128x64_S128x64_S128x64_S128x64_S128x64_S128x64_S128x64_S128x1024_d1 y := by
  subst h0 h1 h2 h3 h4 h5 h6 h7 h8 h9 h10 h11 h12 h13 h14 h15
  rfl

set_option maxHeartbeats 2000000 in
/-- What the body leaves at point `t`. -/
theorem opened (c : Dev nD) (t : Fin cfg0.N) (y : S128x1024.Idx) :
    (outsAt0 m c t y : EReal) = concatenate S128x1024 1
      (List.ofFn fun h : Fin 16 => (⟨S128x64, headOf (grid0.coords t) (iblk m c 0 t) (X0_1 m c t) (iblk m c 2 t)
        (iblk m c 3 t) (iblk m c 4 t) (iblk m c 5 t) (iblk m c 6 t) h⟩ : (s : Shape) × (s.Idx → EReal)))
      concatenates_S128x64_S128x64_S128x64_S128x64_S128x64_S128x64_S128x64_S128x64_S128x64_S128x64_S128x64_S128x64_S128x64_S128x64_S128x64_S128x64_S128x1024_d1 y := by
  unfold outsAt0
  frame_out
  refine joined _ _ _ _ _ _ _ _ _ _ _ _ _ _ _ _ (headOf (grid0.coords t) (iblk m c 0 t) (X0_1 m c t) (iblk m c 2 t)
        (iblk m c 3 t) (iblk m c 4 t) (iblk m c 5 t) (iblk m c 6 t)) ?_ ?_ ?_ ?_ ?_ ?_ ?_ ?_ ?_ ?_ ?_ ?_ ?_ ?_ ?_ ?_ y
  · rfl
  all_goals rfl

end Cert.KernelIdeal.Block
-- ==== Proof.Point.lean ====
/- What one grid point writes, element by element, over the arrays the kernel reads. -/
module

public import proofs.«01_k».proof.Proof.Block
public import proofs.«01_k».proof.Proof.Where

@[expose] public section

set_option maxRecDepth 16384

noncomputable section

namespace Cert.KernelIdeal.Point

open Cert.KernelIdeal Cert.KernelIdeal.Gen Cert.KernelIdeal.Block Cert.Where
open Idealize.ShloMosaic Idealize.ShloMosaic.TcCoe Idealize.SL.Sem

variable (m : (ℓ : Loc nD τ sig) → Buf (Elt Ideal) ℓ)

/-- The windows' index maps at every point: the current block of queries, keys and values at the point's own number,
    the previous block of keys and values one before it within the sequence. -/
theorem idx : ∀ t : Fin cfg0.N, win0_0.index t = ![0] ∧ win0_1.index t = ![t.val, 4]
    ∧ win0_2.index t = ![if t.val % 32 = 0 then t.val else t.val - 1, 28] ∧ win0_3.index t = ![t.val, 28]
    ∧ win0_4.index t = ![if t.val % 32 = 0 then t.val else t.val - 1, 29] ∧ win0_5.index t = ![t.val, 29]
    ∧ win0_6.index t = ![0, 0, 0] ∧ win0_7.index t = ![t.val, 0] ∧ (grid0.coords t 1).val = t.val % 32 :=
  (by decide +kernel : ∀ t : Fin grid0.N, _)

theorem at_z (c : Dev nD) (t : Fin cfg0.N) (h : Fin 16) :
    iblk m c 0 t (ix1 h) = V m c main_v50 (ix1 h) := by
  blk_ext [iblk, idx t]

theorem at_q (c : Dev nD) (t : Fin cfg0.N) (r : Fin 128) (h : Fin 16) (x : Fin 64) :
    X0_1 m c t (ix2 r (colO h x)) = m ((c : Thread nD τ).loc main_arg0) (ix2 (row t r) (colQ h x)) := by
  unfold X0_1 Pipeline.Window.fill
  rw [dif_pos (moved0_1 t _)]
  blk_ext [iblk, V, idx t, row, colQ, colO]

theorem at_kp (c : Dev nD) (t : Fin cfg0.N) (r : Fin 128) (j : Fin 256) :
    iblk m c 2 t (ix2 r j) = m ((c : Thread nD τ).loc main_arg0) (ix2 (row (prev t) r) ⟨7168 + j.val, by omega⟩) := by
  blk_ext [iblk, V, idx t, row, prev]

theorem at_kc (c : Dev nD) (t : Fin cfg0.N) (r : Fin 128) (j : Fin 256) :
    iblk m c 3 t (ix2 r j) = m ((c : Thread nD τ).loc main_arg0) (ix2 (row t r) ⟨7168 + j.val, by omega⟩) := by
  blk_ext [iblk, V, idx t, row]

theorem at_vp (c : Dev nD) (t : Fin cfg0.N) (r : Fin 128) (j : Fin 256) :
    iblk m c 4 t (ix2 r j) = m ((c : Thread nD τ).loc main_arg0) (ix2 (row (prev t) r) ⟨7424 + j.val, by omega⟩) := by
  blk_ext [iblk, V, idx t, row, prev]

theorem at_vc (c : Dev nD) (t : Fin cfg0.N) (r : Fin 128) (j : Fin 256) :
    iblk m c 5 t (ix2 r j) = m ((c : Thread nD τ).loc main_arg0) (ix2 (row t r) ⟨7424 + j.val, by omega⟩) := by
  blk_ext [iblk, V, idx t, row]

theorem at_b (c : Dev nD) (t : Fin cfg0.N) (h : Fin 16) (r k : Fin 128) :
    iblk m c 6 t (ix3 h r k) = V m c main_v49 (ix3 h r k) := by
  blk_ext [iblk, idx t]

end Cert.KernelIdeal.Point
-- ==== Proof.Final.lean ====
/- The result array after the run, element by element. -/
module

public import proofs.«01_k».proof.Proof.Point
public import Idealize.ShloMosaic.Lib.Pipeline.Value

@[expose] public section

set_option maxRecDepth 16384

noncomputable section

namespace Cert.KernelIdeal.Final

open Cert.KernelIdeal Cert.KernelIdeal.Gen Cert.KernelIdeal.Block Cert.KernelIdeal.Point Cert.Where
open Idealize.ShloMosaic Idealize.ShloMosaic.TcCoe Idealize.SL.Sem

/-- The score of row `r` of block `t` at column `k`, for query head `h`, over the arrays. -/
def score (P : FVec Ideal S65536x7680 .bf16) (B : FVec Ideal S16x128x128 .f32) (t : Fin 512) (h : Fin 16) (r k : Fin 128) : EReal :=
  if t.val % 32 = 0 ∧ r.val < k.val then ⊥ else
    (∑ x : Fin 64, P (ix2 (row t r) (colQ h x)) * P (ix2 (row (if k.val ≤ r.val then t else prev t) k) (colK h x)))
      * Ideal.ofBits .f32 0x3E000000#32 + B (ix3 h r k)

/-- What the kernel leaves at row `r` of block `t` and column `d` of head `h`. -/
def out (P : FVec Ideal S65536x7680 .bf16) (Z : FVec Ideal S16 .f32) (B : FVec Ideal S16x128x128 .f32)
    (t : Fin 512) (r : Fin 128) (h : Fin 16) (d : Fin 64) : EReal :=
  Soft.row r (score P B t h r) (Z (ix1 h)) (fun k => P (ix2 (row (prev t) k) (colV h d))) (fun k => P (ix2 (row t k) (colV h d)))

variable (m : (ℓ : Loc nD τ sig) → Buf (Elt Ideal) ℓ)

/-- One head of one point, read at an element. -/
theorem head_point (c : Dev nD) (t : Fin cfg0.N) (r : Fin 128) (h : Fin 16) (d : Fin 64) :
    headOf (grid0.coords t) (iblk m c 0 t) (X0_1 m c t) (iblk m c 2 t)
        (iblk m c 3 t) (iblk m c 4 t) (iblk m c 5 t) (iblk m c 6 t) h (ix2 r d)
      = out (m ((c : Thread nD τ).loc main_arg0)) (V m c main_v50) (V m c main_v49) t r h d := by
  have hk : ∀ x : Fin 64, 64 * (h.val / 4) + x.val < 256 := fun x => by omega
  unfold headOf
  rw [Head.head_at]
  have hS : ∀ k : Fin 128, Head.score (grid0.coords t)
      (View.ld (iblk m c 2 t) (Rect.unit ![0, 64 * (h.val / 4)] S128x64.size (inb_kv _ (by omega))))
      (View.ld (iblk m c 3 t) (Rect.unit ![0, 64 * (h.val / 4)] S128x64.size (inb_kv _ (by omega))))
      (View.ld (X0_1 m c t) (Rect.unit ![0, 64 * h.val] S128x64.size (inb_q _ h.isLt)))
      (View.ld (iblk m c 6 t) (Rect.unit ![h.val, 0, 0] S1x128x128.size (inb_b _ h.isLt))) r k
      = score (m ((c : Thread nD τ).loc main_arg0)) (V m c main_v49) t h r k := by
    intro k
    unfold Head.score score
    rw [(idx t).2.2.2.2.2.2.2.2]
    refine if_congr Iff.rfl rfl ?_
    refine congrArg₂ (· + ·) (congrArg₂ (· * ·) ?_ rfl) ?_
    · by_cases hkr : k.val ≤ r.val
      · refine (if_pos hkr).trans (Finset.sum_congr rfl fun x _ => ?_)
        pointwise
        exact congrArg₂ (· * ·) (at_q m c t r h x) ((at_kc m c t k _).trans
          (congrArg (fun u : Fin 512 => (m ((c : Thread nD τ).loc main_arg0) (ix2 (row u k) (colK h x)) : EReal)) (if_pos hkr).symm))
      · refine (if_neg hkr).trans (Finset.sum_congr rfl fun x _ => ?_)
        pointwise
        exact congrArg₂ (· * ·) (at_q m c t r h x) ((at_kp m c t k _).trans
          (congrArg (fun u : Fin 512 => (m ((c : Thread nD τ).loc main_arg0) (ix2 (row u k) (colK h x)) : EReal)) (if_neg hkr).symm))
    · pointwise
      exact at_b m c t h r k
  refine congr (congr (congr (congrArg (Soft.row r) (funext hS)) ?_) (funext fun k => ?_)) (funext fun k => ?_) <;> pointwise
  · exact at_z m c t h
  · exact at_vp m c t k _
  · exact at_vc m c t k _

theorem wrote (c : Dev nD) (t : Fin cfg0.N) (r : Fin 128) (h : Fin 16) (d : Fin 64) :
    (outsAt0 m c t (ix2 r (colO h d)) : EReal)
      = out (m ((c : Thread nD τ).loc main_arg0)) (V m c main_v50) (V m c main_v49) t r h d := by
  rw [opened]
  refine Eq.trans (concatenate_ofFn_apply (t := S128x1024) (s₁ := S128x64) 1 _ _ rfl 64 rfl (ix2 r (colO h d)) h ?_ (ix2 r d) ?_ ?_)
    (head_point m c t r h d)
  · show (64 * h.val + d.val) / 64 = h.val
    omega
  · show d.val = (64 * h.val + d.val) % 64
    omega
  · intro b hb
    fin_cases b
    · rfl
    · exact absurd rfl hb

/-- The kernel's result array. -/
theorem final (c : Dev nD) (t : Fin 512) (r : Fin 128) (h : Fin 16) (d : Fin 64) :
    ((dats m 0 c).arrAt 7 cfg0.N : S65536x1024.Idx → EReal) (ix2 (row t r) (colO h d))
      = out (m ((c : Thread nD τ).loc main_arg0)) (V m c main_v50) (V m c main_v49) t r h d := by
  have hb := congrFun (Value.blocks7 m c t ((by decide +kernel : ∀ t : Fin grid0.N, (cfg0.win 7).flush t = true) t)) (ix2 r (colO h d))
  refine Eq.trans ?_ (hb.trans ((congrFun (Value.flushed7 m c t) _).trans ?_))
  rotate_left
  · exact wrote m c t r h d
  blk_ext [idx t, row]

end Cert.KernelIdeal.Final
-- ==== Proof.RefKeys.lean ====
/- The keys and values the reference gathers for a block of queries. -/
module

public import proofs.«01_k».proof.Proof.Gen.ReferenceIdeal.Read
public import proofs.«01_k».proof.Proof.Where
public import Idealize.ShloMosaic.Lib.Pointwise

@[expose] public section

set_option maxRecDepth 16384

noncomputable section

namespace Cert.ReferenceIdeal.Ref

open Cert.ReferenceIdeal Cert.ReferenceIdeal.Read Cert.ReferenceIdeal.Gen Cert.Where
open Idealize.ShloMosaic Idealize.ShloMosaic.TcCoe Idealize.SL.Sem

/-- Rows `s` of the two blocks of 128 that a query of block `n` may see, at column `c` of the projection:
    the block before (zeros where there is none), then the block itself. -/
def pair (P : FVec Ideal S65536x7680 .bf16) (n : Fin 512) (s : Fin 256) (c : Fin 7680) : EReal :=
  if hs : s.val < 128 then (if n.val % 32 = 0 then 0 else P (ix2 (row (prev n) ⟨s.val, hs⟩) c))
  else P (ix2 (row n ⟨s.val - 128, by omega⟩) c)

theorem zero_word : (val_main_call0_v0 (F := Ideal) (Shape.Idx.first h_S_) : EReal) = 0 := by
  rw [val_main_call0_v0_apply, val_main_c_apply]
  show (((0#32 : BitVec 32).toInt : ℝ) : EReal) = 0
  simp

theorem zero_word' : (val_main_call1_v0 (F := Ideal) (Shape.Idx.first h_S_) : EReal) = 0 := by
  rw [val_main_call1_v0_apply, val_main_c_0_apply]
  show (((0#32 : BitVec 32).toInt : ℝ) : EReal) = 0
  simp

theorem split_at (P : FVec Ideal S65536x7680 .bf16) (b : Fin 16) (n : Fin 32) (s : Fin 128) (h : Fin 4) (d : Fin 64) :
    val_main_v5 (F := Ideal) P (ix5 b n s h d)
      = P (ix2 (row ⟨32 * b.val + n.val, by omega⟩ s) ⟨7168 + (64 * h.val + d.val), by omega⟩) := by
  rw [val_main_v5_apply, val_main_v2_apply, val_main_v0_apply]
  refine congrArg P (funext fun a => ?_)
  match a with
  | ⟨0, _⟩ => exact Fin.ext (show ((((b.val * 32 + n.val) * 128 + s.val) * 4 + h.val) * 64 + d.val) / 256 = (32 * b.val + n.val) * 128 + s.val by omega)
  | ⟨1, _⟩ => exact Fin.ext (show 7168 + ((((b.val * 32 + n.val) * 128 + s.val) * 4 + h.val) * 64 + d.val) % 256 = 7168 + (64 * h.val + d.val) by omega)

theorem joined_at (P : FVec Ideal S65536x7680 .bf16) (b : Fin 16) (n : Fin 32) (s : Fin 256) (h : Fin 4) (d : Fin 64) :
    val_main_v9 (F := Ideal) P (ix5 b n s h d)
      = if hs : s.val < 128 then (if n.val = 0 then (0 : EReal) else val_main_v5 (F := Ideal) P (ix5 b ⟨n.val - 1, by omega⟩ ⟨s.val, hs⟩ h d))
        else val_main_v5 (F := Ideal) P (ix5 b n ⟨s.val - 128, by omega⟩ h d) := by
  pointwise [val_main_v9, val_main_v8, val_main_v7]
  refine dite_congr rfl (fun hs => ?_) (fun hs => rfl)
  by_cases hn : n.val = 0
  · have hn' : ¬ ((1 ≤ n.val ∧ n.val - 1 < 31) ∧ s.val < 128) := by omega
    exact (dif_neg hn').trans (Eq.trans zero_word (if_pos hn).symm)
  · have hn' : (1 ≤ n.val ∧ n.val - 1 < 31) ∧ s.val < 128 := by
      have : s.val < 128 := hs
      omega
    exact (dif_pos hn').trans (if_neg hn).symm

theorem keys_at (P : FVec Ideal S65536x7680 .bf16) (n : Fin 512) (s : Fin 256) (h : Fin 4) (d : Fin 64) :
    val_main_v10 (F := Ideal) P (ix4 n s h d) = pair P n s ⟨7168 + (64 * h.val + d.val), by omega⟩ := by
  have e : idx_main_v10 (ix4 n s h d) = ix5 (⟨n.val / 32, by omega⟩ : Fin 16) (⟨n.val % 32, by omega⟩ : Fin 32) s h d := by
    funext a
    match a with
    | ⟨0, _⟩ => exact Fin.ext (show (((n.val * 256 + s.val) * 4 + h.val) * 64 + d.val) / 2097152 = n.val / 32 by omega)
    | ⟨1, _⟩ => exact Fin.ext (show (((n.val * 256 + s.val) * 4 + h.val) * 64 + d.val) / 65536 % 32 = n.val % 32 by omega)
    | ⟨2, _⟩ => exact Fin.ext (show (((n.val * 256 + s.val) * 4 + h.val) * 64 + d.val) / 256 % 256 = s.val by omega)
    | ⟨3, _⟩ => exact Fin.ext (show (((n.val * 256 + s.val) * 4 + h.val) * 64 + d.val) / 64 % 4 = h.val by omega)
    | ⟨4, _⟩ => exact Fin.ext (show (((n.val * 256 + s.val) * 4 + h.val) * 64 + d.val) % 64 = d.val by omega)
  rw [val_main_v10_apply, e, joined_at]
  unfold pair
  by_cases hs : s.val < 128
  · rw [dif_pos hs, dif_pos hs]
    by_cases hn : n.val % 32 = 0
    · rw [if_pos hn, if_pos hn]
    · rw [if_neg hn, if_neg hn, split_at]
      refine congrArg P (congrArg₂ ix2 (congrArg₂ row (Fin.ext ?_) rfl) rfl)
      show 32 * (n.val / 32) + (n.val % 32 - 1) = if n.val % 32 = 0 then n.val else n.val - 1
      rw [if_neg hn]; omega
  · rw [dif_neg hs, dif_neg hs, split_at]
    refine congrArg P (congrArg₂ ix2 (congrArg₂ row (Fin.ext ?_) rfl) rfl)
    show 32 * (n.val / 32) + n.val % 32 = n.val
    omega

theorem splitV_at (P : FVec Ideal S65536x7680 .bf16) (b : Fin 16) (n : Fin 32) (s : Fin 128) (h : Fin 4) (d : Fin 64) :
    val_main_v6 (F := Ideal) P (ix5 b n s h d)
      = P (ix2 (row ⟨32 * b.val + n.val, by omega⟩ s) ⟨7424 + (64 * h.val + d.val), by omega⟩) := by
  rw [val_main_v6_apply, val_main_v3_apply, val_main_v0_apply]
  refine congrArg P (funext fun a => ?_)
  match a with
  | ⟨0, _⟩ => exact Fin.ext (show ((((b.val * 32 + n.val) * 128 + s.val) * 4 + h.val) * 64 + d.val) / 256 = (32 * b.val + n.val) * 128 + s.val by omega)
  | ⟨1, _⟩ => exact Fin.ext (show 7424 + ((((b.val * 32 + n.val) * 128 + s.val) * 4 + h.val) * 64 + d.val) % 256 = 7424 + (64 * h.val + d.val) by omega)

theorem joinedV_at (P : FVec Ideal S65536x7680 .bf16) (b : Fin 16) (n : Fin 32) (s : Fin 256) (h : Fin 4) (d : Fin 64) :
    val_main_v13 (F := Ideal) P (ix5 b n s h d)
      = if hs : s.val < 128 then (if n.val = 0 then (0 : EReal) else val_main_v6 (F := Ideal) P (ix5 b ⟨n.val - 1, by omega⟩ ⟨s.val, hs⟩ h d))
        else val_main_v6 (F := Ideal) P (ix5 b n ⟨s.val - 128, by omega⟩ h d) := by
  pointwise [val_main_v13, val_main_v12, val_main_v11]
  refine dite_congr rfl (fun hs => ?_) (fun hs => rfl)
  by_cases hn : n.val = 0
  · have hn' : ¬ ((1 ≤ n.val ∧ n.val - 1 < 31) ∧ s.val < 128) := by omega
    exact (dif_neg hn').trans (Eq.trans zero_word' (if_pos hn).symm)
  · have hn' : (1 ≤ n.val ∧ n.val - 1 < 31) ∧ s.val < 128 := by
      have : s.val < 128 := hs
      omega
    exact (dif_pos hn').trans (if_neg hn).symm

theorem values_at (P : FVec Ideal S65536x7680 .bf16) (n : Fin 512) (s : Fin 256) (h : Fin 4) (d : Fin 64) :
    val_main_v14 (F := Ideal) P (ix4 n s h d) = pair P n s ⟨7424 + (64 * h.val + d.val), by omega⟩ := by
  have e : idx_main_v14 (ix4 n s h d) = ix5 (⟨n.val / 32, by omega⟩ : Fin 16) (⟨n.val % 32, by omega⟩ : Fin 32) s h d := by
    funext a
    match a with
    | ⟨0, _⟩ => exact Fin.ext (show (((n.val * 256 + s.val) * 4 + h.val) * 64 + d.val) / 2097152 = n.val / 32 by omega)
    | ⟨1, _⟩ => exact Fin.ext (show (((n.val * 256 + s.val) * 4 + h.val) * 64 + d.val) / 65536 % 32 = n.val % 32 by omega)
    | ⟨2, _⟩ => exact Fin.ext (show (((n.val * 256 + s.val) * 4 + h.val) * 64 + d.val) / 256 % 256 = s.val by omega)
    | ⟨3, _⟩ => exact Fin.ext (show (((n.val * 256 + s.val) * 4 + h.val) * 64 + d.val) / 64 % 4 = h.val by omega)
    | ⟨4, _⟩ => exact Fin.ext (show (((n.val * 256 + s.val) * 4 + h.val) * 64 + d.val) % 64 = d.val by omega)
  rw [val_main_v14_apply, e, joinedV_at]
  unfold pair
  by_cases hs : s.val < 128
  · rw [dif_pos hs, dif_pos hs]
    by_cases hn : n.val % 32 = 0
    · rw [if_pos hn, if_pos hn]
    · rw [if_neg hn, if_neg hn, splitV_at]
      refine congrArg P (congrArg₂ ix2 (congrArg₂ row (Fin.ext ?_) rfl) rfl)
      show 32 * (n.val / 32) + (n.val % 32 - 1) = if n.val % 32 = 0 then n.val else n.val - 1
      rw [if_neg hn]; omega
  · rw [dif_neg hs, dif_neg hs, splitV_at]
    refine congrArg P (congrArg₂ ix2 (congrArg₂ row (Fin.ext ?_) rfl) rfl)
    show 32 * (n.val / 32) + n.val % 32 = n.val
    omega

end Cert.ReferenceIdeal.Ref
-- ==== Proof.Ref.lean ====
/- The reference's result, element by element. -/
module

public import proofs.«01_k».proof.Proof.Gen.ReferenceIdeal.Read
public import proofs.«01_k».proof.Proof.RefKeys
public import proofs.«01_k».proof.Proof.RefMask
public import Idealize.ShloMosaic.Lib.Pointwise

@[expose] public section

set_option maxRecDepth 16384

noncomputable section

namespace Cert.ReferenceIdeal.Ref

open Cert.ReferenceIdeal Cert.ReferenceIdeal.Read Cert.ReferenceIdeal.Gen Cert.Where
open Idealize.ShloMosaic Idealize.ShloMosaic.TcCoe Idealize.SL.Sem

/-- The reference's score. -/
def score (P : FVec Ideal S65536x7680 .bf16) (T : FVec Ideal S32x16 .f32) (n : Fin 512) (q : Fin 128) (h : Fin 16) (s : Fin 256) : EReal :=
  if (s.val ≤ q.val + 128 ∧ q.val < s.val) ∧ (n.val % 32 ≠ 0 ∨ 128 ≤ s.val) then
    (∑ x : Fin 64, pair P n s (colK h x) * P (ix2 (row n q) (colQ h x))) * Ideal.ofBits .f32 0x3E000000#32
      + val_main_v70 (F := Ideal) T (ix3 q s h)
  else ⊥

theorem score_at (P : FVec Ideal S65536x7680 .bf16) (T : FVec Ideal S32x16 .f32) (n : Fin 512) (q : Fin 128) (s : Fin 256) (h g : Fin 4) :
    val_main_v81 (F := Ideal) P T (ix5 n h g q s) = score P T n q ⟨4 * h.val + g.val, by omega⟩ s := by
  pointwise [val_main_v81, val_main_v79, val_main_v78, val_main_v77, val_main_v76, val_main_v75, val_main_v74, val_main_v73, val_main_v72, val_main_v71,
    val_main_v4, val_main_v1, val_main_v0, val_main_v80, val_main_call3_v0, val_main_call3_v1, val_main_call3_v2, val_main_cst_16, val_main_cst_15]
  rw [select_of (mask_at n q s)]
  unfold score
  refine if_congr Iff.rfl (congrArg₂ (· + ·) (congrArg₂ (· * ·) (Finset.sum_congr rfl fun x _ => ?_) rfl) ?_) ?_
  · rw [keys_at]
    refine congrArg₂ (· * ·) (congrArg (pair P n s) (Fin.ext ?_)) (congrArg P ?_)
    · simp [colK]; omega
    · refine congrArg₂ ix2 rfl (Fin.ext ?_)
      simp [colQ]; omega
  · refine congrArg (val_main_v70 (F := Ideal) T) (congrArg (ix3 q s) (Fin.ext ?_))
    show h.val * 4 + g.val = 4 * h.val + g.val
    omega
  · show Ideal.ofBits .f32 0xFF800000#32 = ⊥
    simp [Ideal.ofBits, Ideal.ieee]

end Cert.ReferenceIdeal.Ref
-- ==== Proof.RefTop.lean ====
/- The reference's result, element by element: its softmax over the keys of two blocks and the sink. -/
module

public import proofs.«01_k».proof.Proof.Gen.ReferenceIdeal.Read
public import proofs.«01_k».proof.Proof.Ref
public import proofs.«01_k».proof.Proof.Soft
public import Idealize.ShloMosaic.Lib.Pointwise

@[expose] public section

set_option maxRecDepth 16384

noncomputable section

namespace Cert.ReferenceIdeal.Ref

open Cert.ReferenceIdeal Cert.ReferenceIdeal.Read Cert.ReferenceIdeal.Gen Cert.Where
open Idealize.ShloMosaic Idealize.ShloMosaic.TcCoe Idealize.SL.Sem

/-- The head whose group and place in the group are `h` and `g`. -/
abbrev headOf (h g : Fin 4) : Fin 16 := ⟨4 * h.val + g.val, by omega⟩

/-- Column 256 of the scores is the sink. -/
theorem cat_at (P : FVec Ideal S65536x7680 .bf16) (Z : FVec Ideal S1x16 .f32) (T : FVec Ideal S32x16 .f32)
    (n : Fin 512) (q : Fin 128) (h g : Fin 4) (s : Fin 257) :
    val_main_v85 (F := Ideal) P Z T (ix5 n h g q s)
      = if hs : s.val < 256 then score P T n q (headOf h g) ⟨s.val, hs⟩ else Z (ix2 0 (headOf h g)) := by
  pointwise [val_main_v85, val_main_v84, val_main_v83, val_main_v82]
  refine dite_congr rfl (fun hs => score_at P T n q ⟨s.val, hs⟩ h g) (fun hs => congrArg Z (congrArg (ix2 0) (Fin.ext ?_)))
  show h.val * 4 + g.val = 4 * h.val + g.val
  omega

/-- The maximum over the 257 columns. -/
theorem top_at (P : FVec Ideal S65536x7680 .bf16) (Z : FVec Ideal S1x16 .f32) (T : FVec Ideal S32x16 .f32)
    (n : Fin 512) (q : Fin 128) (h g : Fin 4) :
    val_main_v86 (F := Ideal) P Z T (ix4 n h g q)
      = Finset.univ.fold max (⊥ : EReal) (fun k : Fin 257 => val_main_v85 (F := Ideal) P Z T (ix5 n h g q k)) := by
  unfold val_main_v86
  generalize val_main_v85 (F := Ideal) P Z T = y
  rw [Host.reduce_eq_fold_single FloatOps.maximumf _ _ _ (by decide : S512x4x4x128x257.Reduces [4] S512x4x4x128)]
  have e : val_main_cst_17 (F := Ideal) (Shape.Idx.first h_S_) = (⊥ : EReal) := by
    show Ideal.ofBits .f32 0xFF800000#32 = ⊥
    simp [Ideal.ofBits, Ideal.ieee]
  rw [e]
  refine congrArg (Finset.fold max (⊥ : EReal) · Finset.univ) (funext fun k => congrArg y (funext fun a => ?_))
  match a with
  | ⟨0, _⟩ => rfl
  | ⟨1, _⟩ => rfl
  | ⟨2, _⟩ => rfl
  | ⟨3, _⟩ => rfl
  | ⟨4, _⟩ => rfl

theorem max_at (P : FVec Ideal S65536x7680 .bf16) (Z : FVec Ideal S1x16 .f32) (T : FVec Ideal S32x16 .f32)
    (n : Fin 512) (q : Fin 128) (h g : Fin 4) :
    val_main_v88 (F := Ideal) P Z T (ix4 n h g q)
      = Soft.refTop (score P T n q (headOf h g)) (Z (ix2 0 (headOf h g))) := by
  have e : (val_main_v87 (F := Ideal) (ix4 n h g q) : EReal) = ⊥ := by
    rw [val_main_v87_apply]
    show Ideal.ofBits .f32 0xFF800000#32 = ⊥
    simp [Ideal.ofBits, Ideal.ieee]
  rw [val_main_v88_apply, e, top_at]
  show max (⊥ : EReal) _ = _
  rw [max_eq_right bot_le]
  unfold Soft.refTop
  refine eq_of_forall_ge_iff fun c => ?_
  rw [Soft.fold_max_le, max_le_iff, Soft.fold_max_le]
  simp only [cat_at]
  constructor
  · intro H
    refine ⟨fun k => ?_, ?_⟩
    · have := H ⟨k.val, by omega⟩
      rwa [dif_pos k.isLt] at this
    · have := H ⟨256, by omega⟩
      rwa [dif_neg (by simp)] at this
  · rintro ⟨H, H'⟩ k
    by_cases hk : k.val < 256
    · rw [dif_pos hk]; exact H _
    · rw [dif_neg hk]; exact H'

theorem exp_at (P : FVec Ideal S65536x7680 .bf16) (Z : FVec Ideal S1x16 .f32) (T : FVec Ideal S32x16 .f32)
    (n : Fin 512) (q : Fin 128) (h g : Fin 4) (s : Fin 257) :
    val_main_v92 (F := Ideal) P Z T (ix5 n h g q s)
      = Ideal.exp ((if hs : s.val < 256 then score P T n q (headOf h g) ⟨s.val, hs⟩ else Z (ix2 0 (headOf h g)))
          - Soft.refTop (score P T n q (headOf h g)) (Z (ix2 0 (headOf h g)))) := by
  rw [val_main_v92_apply, val_main_v91_apply, cat_at, val_main_v90_apply, val_main_v89_apply]
  have e : idx_main_v89 (idx_main_v90 (ix5 n h g q s)) = ix4 n h g q := by
    funext a
    match a with
    | ⟨0, _⟩ => rfl
    | ⟨1, _⟩ => rfl
    | ⟨2, _⟩ => rfl
    | ⟨3, _⟩ => rfl
  rw [e, max_at]
  rfl

theorem sum_at (P : FVec Ideal S65536x7680 .bf16) (Z : FVec Ideal S1x16 .f32) (T : FVec Ideal S32x16 .f32)
    (n : Fin 512) (q : Fin 128) (h g : Fin 4) :
    val_main_v93 (F := Ideal) P Z T (ix4 n h g q)
      = ∑ k : Fin 256, Ideal.exp (score P T n q (headOf h g) k - Soft.refTop (score P T n q (headOf h g)) (Z (ix2 0 (headOf h g))))
        + Ideal.exp (Z (ix2 0 (headOf h g)) - Soft.refTop (score P T n q (headOf h g)) (Z (ix2 0 (headOf h g)))) := by
  have e : ∀ k : Fin 257, idx_main_v93 (ix4 n h g q) k = ix5 n h g q k := by
    intro k; funext a
    match a with
    | ⟨0, _⟩ => rfl
    | ⟨1, _⟩ => rfl
    | ⟨2, _⟩ => rfl
    | ⟨3, _⟩ => rfl
    | ⟨4, _⟩ => rfl
  have z : (val_main_cst_19 (F := Ideal) (Shape.Idx.first h_S_) : EReal) = 0 := by
    rw [val_main_cst_19_apply]
    show Ideal.ofBits .f32 _ = 0
    simp [Ideal.ofBits, Ideal.ieee]
  rw [val_main_v93_apply, z]
  simp only [e, exp_at]
  rw [zero_add, Fin.sum_univ_castSucc]
  refine congrArg₂ (· + ·) (Finset.sum_congr rfl fun k _ => ?_) ?_
  · rw [dif_pos (show (Fin.castSucc k).val < 256 from k.isLt)]
    rfl
  · rw [dif_neg (show ¬ (Fin.last 256).val < 256 by simp)]

theorem weight_at (P : FVec Ideal S65536x7680 .bf16) (Z : FVec Ideal S1x16 .f32) (T : FVec Ideal S32x16 .f32)
    (n : Fin 512) (q : Fin 128) (h g : Fin 4) (s : Fin 256) :
    val_main_v97 (F := Ideal) P Z T (ix5 n h g q s)
      = Ideal.div (Ideal.exp (score P T n q (headOf h g) s - Soft.refTop (score P T n q (headOf h g)) (Z (ix2 0 (headOf h g)))))
          (∑ k : Fin 256, Ideal.exp (score P T n q (headOf h g) k - Soft.refTop (score P T n q (headOf h g)) (Z (ix2 0 (headOf h g))))
        + Ideal.exp (Z (ix2 0 (headOf h g)) - Soft.refTop (score P T n q (headOf h g)) (Z (ix2 0 (headOf h g))))) := by
  have e : idx_main_v97 (ix5 n h g q s) = ix5 n h g q (⟨s.val, by omega⟩ : Fin 257) := by
    funext a
    match a with
    | ⟨0, _⟩ => rfl
    | ⟨1, _⟩ => rfl
    | ⟨2, _⟩ => rfl
    | ⟨3, _⟩ => rfl
    | ⟨4, _⟩ => rfl
  have e' : idx_main_v94 (idx_main_v95 (ix5 n h g q (⟨s.val, by omega⟩ : Fin 257))) = ix4 n h g q := by
    funext a
    match a with
    | ⟨0, _⟩ => rfl
    | ⟨1, _⟩ => rfl
    | ⟨2, _⟩ => rfl
    | ⟨3, _⟩ => rfl
  rw [val_main_v97_apply, e, val_main_v96_apply, val_main_v95_apply, val_main_v94_apply, e', sum_at, exp_at, dif_pos s.isLt]
  rfl

/-- The reference's result for query `q` of block `n`. -/
theorem out_at (P : FVec Ideal S65536x7680 .bf16) (Z : FVec Ideal S1x16 .f32) (T : FVec Ideal S32x16 .f32)
    (n : Fin 512) (q : Fin 128) (h : Fin 16) (d : Fin 64) :
    val_main_v101 (F := Ideal) P Z T (ix2 (row n q) (colO h d))
      = Soft.refRow (score P T n q h) (Z (ix2 0 h)) (fun s => pair P n s (colV h d)) := by
  obtain ⟨a, g, rfl⟩ : ∃ a g : Fin 4, h = headOf a g :=
    ⟨⟨h.val / 4, by omega⟩, ⟨h.val % 4, by omega⟩, Fin.ext (show h.val = 4 * (h.val / 4) + h.val % 4 by omega)⟩
  have e : idx_main_v100 (ix2 (row n q) (colO (headOf a g) d)) = ix5 n q a g d := by
    funext x
    match x with
    | ⟨0, _⟩ => exact Fin.ext (show ((n.val * 128 + q.val) * 1024 + (64 * (4 * a.val + g.val) + d.val)) / 131072 = n.val by omega)
    | ⟨1, _⟩ => exact Fin.ext (show ((n.val * 128 + q.val) * 1024 + (64 * (4 * a.val + g.val) + d.val)) / 1024 % 128 = q.val by omega)
    | ⟨2, _⟩ => exact Fin.ext (show ((n.val * 128 + q.val) * 1024 + (64 * (4 * a.val + g.val) + d.val)) / 256 % 4 = a.val by omega)
    | ⟨3, _⟩ => exact Fin.ext (show ((n.val * 128 + q.val) * 1024 + (64 * (4 * a.val + g.val) + d.val)) / 64 % 4 = g.val by omega)
    | ⟨4, _⟩ => exact Fin.ext (show ((n.val * 128 + q.val) * 1024 + (64 * (4 * a.val + g.val) + d.val)) % 64 = d.val by omega)
  have e' : idx_main_v99 (ix5 n q a g d) = ix5 n a d g q := by
    funext x
    match x with
    | ⟨0, _⟩ => rfl
    | ⟨1, _⟩ => rfl
    | ⟨2, _⟩ => rfl
    | ⟨3, _⟩ => rfl
    | ⟨4, _⟩ => rfl
  have el : ∀ k : Fin 256, lidx_main_v98 (ix5 n a d g q) k = ix4 n k a d := by
    intro k; funext x
    match x with
    | ⟨0, _⟩ => rfl
    | ⟨1, _⟩ => rfl
    | ⟨2, _⟩ => rfl
    | ⟨3, _⟩ => rfl
  have er : ∀ k : Fin 256, ridx_main_v98 (ix5 n a d g q) k = ix5 n a g q k := by
    intro k; funext x
    match x with
    | ⟨0, _⟩ => rfl
    | ⟨1, _⟩ => rfl
    | ⟨2, _⟩ => rfl
    | ⟨3, _⟩ => rfl
    | ⟨4, _⟩ => rfl
  rw [val_main_v101_apply, val_main_v100_apply, e, val_main_v99_apply, e', val_main_v98_apply]
  show (∑ k : Fin 256, _ : EReal) = _
  unfold Soft.refRow
  refine Finset.sum_congr rfl fun k _ => ?_
  rw [el, er, weight_at, values_at]
  refine congrArg₂ (· * ·) (congrArg (pair P n k) (Fin.ext ?_)) rfl
  show 7424 + (64 * a.val + d.val) = 7424 + (64 * ((4 * a.val + g.val) / 4) + d.val)
  omega

end Cert.ReferenceIdeal.Ref
-- ==== Proof.Equation.lean ====
/- The kernel's row and the reference's row are one number, where queries, keys, sinks and biases are finite. -/
module

public import proofs.«01_k».proof.Proof.Fold
public import proofs.«01_k».proof.Proof.Final
public import proofs.«01_k».proof.Proof.RefTop

@[expose] public section

set_option maxRecDepth 16384

noncomputable section

namespace Cert.Equation

open Idealize.ShloMosaic Idealize.ShloMosaic.TcCoe Idealize.SL.Sem Cert.Where
open Cert.KernelIdeal (S65536x7680 S1x16 S32x16 S16x128x128 S16 S128x256x16)
open Cert.ReferenceIdeal.Ref (pair)

/-- A finite number. -/
abbrev IsReal (x : EReal) : Prop := ∃ a : ℝ, x = (a : EReal)

theorem sum_fin {n : ℕ} (f : Fin n → EReal) (h : ∀ i, IsReal (f i)) : IsReal (∑ i, f i) := by
  choose g hg using h
  refine ⟨∑ i, g i, ?_⟩
  simp only [hg]
  exact (map_sum (⟨⟨Real.toEReal, EReal.coe_zero⟩, EReal.coe_add⟩ : ℝ →+ EReal) g Finset.univ).symm

theorem mul_fin {x y : EReal} (hx : IsReal x) (hy : IsReal y) : IsReal (x * y) := by
  obtain ⟨a, rfl⟩ := hx; obtain ⟨b, rfl⟩ := hy
  exact ⟨a * b, (EReal.coe_mul a b).symm⟩

theorem add_fin {x y : EReal} (hx : IsReal x) (hy : IsReal y) : IsReal (x + y) := by
  obtain ⟨a, rfl⟩ := hx; obtain ⟨b, rfl⟩ := hy
  exact ⟨a + b, (EReal.coe_add a b).symm⟩

theorem eighth_fin : IsReal (Ideal.ofBits .f32 0x3E000000#32) := by
  refine ⟨1 / 8, ?_⟩
  simp [Ideal.ofBits, Ideal.ieee, -EReal.coe_mul]
  norm_num

/-- A row does not read the earlier block where the current one is taken. -/
theorem row_earlier (r : Fin 128) (S : Fin 128 → EReal) (z : EReal) (vP vP' vC : Fin 128 → EReal)
    (h : ∀ k : Fin 128, ¬ k.val ≤ r.val → vP k = vP' k) : Soft.row r S z vP vC = Soft.row r S z vP' vC := by
  unfold Soft.row
  refine congrArg (Ideal.div · _) (congrArg (· + _) (Finset.sum_congr rfl fun k _ => ?_))
  by_cases hk : (k : ℕ) ≤ r
  · rw [if_pos hk, zero_mul, zero_mul]
  · rw [h k hk]

theorem eq (P : FVec Ideal S65536x7680 .bf16) (Z : FVec Ideal S1x16 .f32) (T : FVec Ideal S32x16 .f32)
    (Z' : FVec Ideal S16 .f32) (B : FVec Ideal S16x128x128 .f32)
    (hZ : ∀ h : Fin 16, Z' (ix1 h) = Z (ix2 0 h))
    (hB : ∀ (h : Fin 16) (r k : Fin 128), B (ix3 h r k)
      = Cert.ReferenceIdeal.Read.val_main_v70 (F := Ideal) T (ix3 r (KernelIdeal.Bias.key r k) h))
    (fq : ∀ i h x, IsReal (P (ix2 i (colQ h x)))) (fk : ∀ i h x, IsReal (P (ix2 i (colK h x)))) (fz : ∀ h, IsReal (Z (ix2 0 h)))
    (ft : ∀ r s h, IsReal (Cert.ReferenceIdeal.Read.val_main_v70 (F := Ideal) T (ix3 r s h)))
    (t : Fin 512) (r : Fin 128) (h : Fin 16) (d : Fin 64) :
    KernelIdeal.Final.out P Z' B t r h d
      = Soft.refRow (ReferenceIdeal.Ref.score P T t r h) (Z (ix2 0 h)) (fun s => pair P t s (colV h d)) := by
  unfold KernelIdeal.Final.out
  rw [hZ h, row_earlier r _ _ _ (fun k => if k.val ≤ r.val then pair P t ⟨k.val, by omega⟩ (colV h d)
    else P (ix2 (row (prev t) k) (colV h d))) _ (fun k hk => (if_neg hk).symm)]
  obtain ⟨z, hz⟩ := fz h
  refine Soft.row_eq r _ _ _ _ _ _ ?_ ?_ ?_ ?_ ?_ ?_ ?_
  · rw [hz]; exact EReal.coe_ne_bot z
  · rw [hz]; exact EReal.coe_ne_top z
  · intro k
    unfold KernelIdeal.Final.score
    split
    · exact bot_ne_top
    · rw [hB]
      obtain ⟨a, ha⟩ := add_fin (mul_fin (sum_fin _ fun x => mul_fin (fq (row t r) h x) (fk (row (if k.val ≤ r.val then t else prev t) k) h x)) eighth_fin)
        (ft r (KernelIdeal.Bias.key r k) h)
      exact ha ▸ EReal.coe_ne_top a
  · intro k
    by_cases hk : (k : ℕ) ≤ r
    · rw [if_pos hk]
      exact if_neg fun H => absurd H.1.2 (by show ¬ r.val < k.val; omega)
    · rw [if_neg hk]
      unfold ReferenceIdeal.Ref.score KernelIdeal.Final.score
      by_cases ht : t.val % 32 = 0
      · exact (if_neg fun H => H.2.elim (fun h => h ht) (fun h => absurd h (by show ¬ 128 ≤ k.val; omega))).trans
          (if_pos ⟨ht, by omega⟩).symm
      · refine (if_pos ⟨⟨by show k.val ≤ _; omega, by show _ < k.val; omega⟩, Or.inl ht⟩).trans
          (Eq.trans ?_ (if_neg (fun H => ht H.1)).symm)
        rw [hB]
        unfold KernelIdeal.Bias.key
        rw [if_neg hk, if_neg hk]
        refine congrArg (· + _) (congrArg (· * _) (Finset.sum_congr rfl fun x _ => ?_))
        unfold pair
        rw [dif_pos k.isLt, if_neg ht]
        exact mul_comm _ _
  · intro k
    by_cases hk : (k : ℕ) ≤ r
    · rw [if_pos hk]
      unfold ReferenceIdeal.Ref.score KernelIdeal.Final.score
      refine (if_pos ⟨⟨by show k.val + 128 ≤ _; omega, by show _ < k.val + 128; omega⟩, Or.inr (by show 128 ≤ k.val + 128; omega)⟩).trans
        (Eq.trans ?_ (if_neg (fun H => absurd H.2 (by omega))).symm)
      rw [hB]
      unfold KernelIdeal.Bias.key
      rw [if_pos hk, if_pos hk]
      refine congrArg₂ (· + ·) (congrArg (· * _) (Finset.sum_congr rfl fun x _ => ?_)) (congrArg _ (congrArg (ix3 r · h) (Fin.ext (Nat.add_comm _ _))))
      unfold pair
      rw [dif_neg (by show ¬ k.val + 128 < 128; omega)]
      exact mul_comm _ _
    · rw [if_neg hk]
      exact if_neg fun H => absurd H.1.1 (by show ¬ k.val + 128 ≤ r.val + 128; omega)
  · intro k
    by_cases hk : (k : ℕ) ≤ r
    · exact Or.inl (if_pos hk).symm
    · by_cases ht : t.val % 32 = 0
      · exact Or.inr (if_pos ⟨ht, by omega⟩)
      · refine Or.inl ?_
        rw [if_neg hk]
        unfold pair
        rw [dif_pos k.isLt, if_neg ht]
  · intro k
    unfold pair
    rw [dif_neg (by show ¬ k.val + 128 < 128; omega)]
    rfl

/-- What a gather reads is an element of the table. -/
theorem gather_fin (T : FVec Ideal S32x16 .f32) (h : ∀ i, IsReal (T i)) (r : Fin 128) (s : Fin 256) (a : Fin 16) :
    IsReal (Cert.ReferenceIdeal.Read.val_main_v70 (F := Ideal) T (ix3 r s a)) := by
  unfold Cert.ReferenceIdeal.Read.val_main_v70
  exact h _

end Cert.Equation
-- ==== Proof.Pre.lean ====
/- What the precondition says: the queries, the keys, the sinks and the table are finite numbers. -/
module

public import proofs.«01_k».proof.Pre_finite
public import proofs.«01_k».proof.Proof.Gen.Pre_finite
public import proofs.«01_k».proof.Proof.Where
public import proofs.«01_k».proof.Proof.Equation
public import Idealize.ShloMosaic.Lib.Pointwise

@[expose] public section

set_option maxRecDepth 16384

noncomputable section

namespace Cert.Pre

open Cert.Pre_finite Cert.Where Cert.Equation
open Idealize.ShloMosaic Idealize.ShloMosaic.TcCoe Idealize.SL.Sem

/-- An absolute value below the top is that of a finite number. -/
theorem fin_of (x : EReal) (h : Ideal.cmp .olt (max x (-x)) (Ideal.ofBits .f32 0x7F800000#32) = 1#1) : IsReal x := by
  have e : Ideal.ofBits .f32 0x7F800000#32 = (⊤ : EReal) := by simp [Ideal.ofBits, Ideal.ieee]
  rw [e] at h
  have h' : max x (-x) < ⊤ := by
    by_contra hn
    simp [Ideal.cmp, hn] at h
  induction x with
  | bot => simp at h'
  | top => simp at h'
  | coe a => exact ⟨a, rfl⟩

variable [Facts] (P : FVec Ideal Cert.KernelIdeal.S65536x7680 .bf16) (Z : FVec Ideal Cert.KernelIdeal.S1x16 .f32) (T : FVec Ideal Cert.KernelIdeal.S32x16 .f32)

theorem queries (h : (fn (F := Ideal) P Z T).1 = fun _ => 1#1) (i : Fin 65536) (a : Fin 16) (x : Fin 64) : IsReal (P (ix2 i (colQ a x))) := by
  have := congrFun h (ix2 i (⟨64 * a.val + x.val, by omega⟩ : Fin 1024))
  refine fin_of _ (Eq.trans ?_ this)
  pointwise [fn]
  rfl

theorem keys (h : (fn (F := Ideal) P Z T).2.1 = fun _ => 1#1) (i : Fin 65536) (a : Fin 16) (x : Fin 64) : IsReal (P (ix2 i (colK a x))) := by
  have := congrFun h (ix2 i (⟨64 * (a.val / 4) + x.val, by omega⟩ : Fin 256))
  refine fin_of _ (Eq.trans ?_ this)
  pointwise [fn]
  rfl

theorem sinks (h : (fn (F := Ideal) P Z T).2.2.1 = fun _ => 1#1) (a : Fin 16) : IsReal (Z (ix2 0 a)) := by
  have := congrFun h (ix2 0 a)
  refine fin_of _ (Eq.trans ?_ this)
  pointwise [fn]
  rfl

theorem table (h : (fn (F := Ideal) P Z T).2.2.2 = fun _ => 1#1) (i : Cert.KernelIdeal.S32x16.Idx) : IsReal (T i) :=
  fin_of _ (congrFun h i)

end Cert.Pre
-- ==== Proof.Result.lean ====
/- The array the kernel leaves is the reference's result. -/
module

public import proofs.«01_k».proof.Proof.Equation

@[expose] public section

set_option maxRecDepth 16384

noncomputable section

namespace Cert.KernelIdeal.Result

open Cert.KernelIdeal Cert.KernelIdeal.Gen Cert.Where Cert.Equation
open Idealize.ShloMosaic Idealize.ShloMosaic.TcCoe Idealize.SL.Sem

variable (m : (ℓ : Loc nD τ sig) → Buf (Elt Ideal) ℓ)

theorem result (c : Dev nD)
    (P : FVec Ideal S65536x7680 .bf16) (hP : m ((c : Thread nD τ).loc main_arg0) = P)
    (Z : FVec Ideal S1x16 .f32) (hZ : m ((c : Thread nD τ).loc main_arg1) = Z)
    (T : FVec Ideal S32x16 .f32) (hT : m ((c : Thread nD τ).loc main_arg2) = T)
    (fq : ∀ i h x, IsReal (P (ix2 i (colQ h x)))) (fk : ∀ i h x, IsReal (P (ix2 i (colK h x))))
    (fz : ∀ h, IsReal (Z (ix2 0 h))) (ft : ∀ i, IsReal (T i)) :
    (dats m 0 c).arrAt 7 cfg0.N = Cert.ReferenceIdeal.Read.val_main_v101 (F := Ideal) P Z T := by
  refine funext fun (i : S65536x1024.Idx) => ?_
  obtain ⟨t, r, h, d, rfl⟩ : ∃ (t : Fin 512) (r : Fin 128) (h : Fin 16) (d : Fin 64), i = ix2 (row t r) (colO h d) := by
    have h0 : (i 0).val < 65536 := (i 0).isLt
    have h1 : (i 1).val < 1024 := (i 1).isLt
    refine ⟨⟨(i 0).val / 128, by omega⟩, ⟨(i 0).val % 128, by omega⟩, ⟨(i 1).val / 64, by omega⟩, ⟨(i 1).val % 64, by omega⟩, funext fun a => ?_⟩
    match a with
    | ⟨0, _⟩ => exact Fin.ext (show (i 0).val = (i 0).val / 128 * 128 + (i 0).val % 128 by omega)
    | ⟨1, _⟩ => exact Fin.ext (show (i 1).val = 64 * ((i 1).val / 64) + (i 1).val % 64 by omega)
  refine (Final.final m c t r h d).trans (Eq.trans ?_ (Cert.ReferenceIdeal.Ref.out_at P Z T t r h d).symm)
  rw [hP]
  refine eq P Z T _ _ (fun h => ?_) (fun h r k => ?_) fq fk fz (gather_fin T ft) t r h d
  · rw [Bias.sinks, hZ]
    pointwise
  · rw [Bias.bias, hT]
    exact Bias.folded_at _ h r k

end Cert.KernelIdeal.Result
-- ==== Proof.NormRow.lean ====
/- One block of the input projection: a row's norm and its product with a column of the weights, read at an element. -/
module

public import proofs.«01_k».proof.Proof.Gen.Kernel2Ideal.Skeleton
public import Idealize.ShloMosaic.Lib.Pointwise
public import Idealize.ShloMosaic.PureOps.Ideal.Laws

@[expose] public section

set_option maxRecDepth 16384

noncomputable section

namespace Cert.Kernel2Ideal.NormRow

open Cert.Kernel2Ideal Cert.Kernel2Ideal.Gen Idealize.ShloMosaic Idealize.ShloMosaic.TcCoe Idealize.SL.Sem

/-- A row over the root of its mean square, times the gain. -/
def normed (x g : Fin 1024 → EReal) (k : Fin 1024) : EReal :=
  x k * Ideal.rsqrt (Ideal.div (∑ j, x j * x j) (Ideal.ofBits .f32 0x44800000#32) + Ideal.ofBits .f32 0x3727C5AC#32) * g k

theorem norm_at (x : FVec Ideal S2048x1024 .f32) (g : FVec Ideal S1x1024 .f32) (r : Fin 2048) (k : Fin 1024) :
    (k0_pay1 (F := Ideal) x g (ix2 r k) : EReal) = normed (fun j => x (ix2 r j)) (fun j => g (ix2 0 j)) k := by
  pointwise [k0_pay1]
  rfl

theorem product_at (h : FVec Ideal S2048x1024 .bf16) (w : FVec Ideal S1024x1536 .bf16) (r : Fin 2048) (n : Fin 1536) :
    (k0_pay2 (F := Ideal) h w (ix2 r n) : EReal) = ∑ k : Fin 1024, (h (ix2 r k) * w (ix2 k n) : EReal) := by
  pointwise [k0_pay2]

end Cert.Kernel2Ideal.NormRow

end
-- ==== Proof.NormPoint.lean ====
/- What each point of the input projection's grid holds: the scratch carries the normed rows of the point's row block from the
   block's first point to its last, and every point multiplies them by its own block of columns. -/
module

public import proofs.«01_k».proof.Proof.Gen.Kernel2Ideal.Value
public import proofs.«01_k».proof.Proof.NormRow
public import Idealize.ShloMosaic.Lib.Pipeline.ValueKit

@[expose] public section

set_option maxRecDepth 16384

noncomputable section

namespace Cert.Kernel2Ideal.NormPoint

open Cert.Kernel2Ideal Cert.Kernel2Ideal.Gen Cert.Kernel2Ideal.NormRow
open Idealize.ShloMosaic Idealize.ShloMosaic.TcCoe Idealize.SL.Sem

variable (m : (ℓ : Loc nD τ sig) → Buf (Elt Ideal) ℓ)

/-- At the first point of a row block the body norms the block and keeps it in the scratch. -/
theorem first (c : Dev nD) (t : Fin cfg0.N) (h0 : t.val % 5 = 0) :
    outsAt0 m c t.val t.isLt
      = (k0_pay2 (F := Ideal) (k0_pay1 (F := Ideal) (iblk m c 0 t) (iblk m c 1 t)) (iblk m c 2 t),
          k0_pay1 (F := Ideal) (iblk m c 0 t) (iblk m c 1 t)) := by
  rw [outsAt0_A m c t h0]
  refine Prod.ext ?_ ?_
  · dsimp only
    frame_out
  · dsimp only
    frame_out

/-- At the others it takes the scratch as it is. -/
theorem other (c : Dev nD) (t : Fin cfg0.N) (h0 : ¬t.val % 5 = 0) :
    outsAt0 m c t.val t.isLt
      = (k0_pay2 (F := Ideal) (outsAt0 m c (t.val - 1) (Nat.lt_of_le_of_lt (Nat.sub_le _ _) t.isLt)).2 (iblk m c 2 t),
          (outsAt0 m c (t.val - 1) (Nat.lt_of_le_of_lt (Nat.sub_le _ _) t.isLt)).2) := by
  rw [outsAt0_B m c t h0]
  refine Prod.ext ?_ ?_
  · dsimp only
    frame_out
    exact congrArg (fun h => k0_pay2 (F := Ideal) h (iblk m c 2 t)) ((Memref.isWhole_whole cc0_scratch0).read_unread _)
  · rfl

/-- The windows' index maps at every point. -/
theorem idx : ∀ t : Fin cfg0.N, win0_0.index t = ![t.val / 5, 0] ∧ win0_1.index t = ![0, 0]
    ∧ win0_2.index t = ![0, t.val % 5] ∧ win0_3.index t = ![t.val / 5, t.val % 5] :=
  (by decide +kernel : ∀ t : Fin grid0.N, _)

/-- Row `r` of the row block of the points `5·b` to `5·b + 4`. -/
abbrev row (b : Fin 32) (r : Fin 2048) : Fin 65536 := ⟨2048 * b.val + r.val, by omega⟩

/-- Column `n` of the column block `j`. -/
abbrev col (j : Fin 5) (n : Fin 1536) : Fin 7680 := ⟨1536 * j.val + n.val, by omega⟩

abbrev blockOf (t : Fin cfg0.N) : Fin 32 := ⟨t.val / 5, by have := lt_of_lt_of_eq t.isLt N_0; omega⟩
abbrev stepOf (t : Fin cfg0.N) : Fin 5 := ⟨t.val % 5, by omega⟩

theorem at_x (c : Dev nD) (t : Fin cfg0.N) (r : Fin 2048) (k : Fin 1024) :
    iblk m c 0 t (ix2 r k) = V m c main_v0 (ix2 (row (blockOf t) r) k) := by
  blk_ext [iblk, idx t, row]

theorem at_g (c : Dev nD) (t : Fin cfg0.N) (k : Fin 1024) :
    iblk m c 1 t (ix2 0 k) = V m c main_v14 (ix2 0 k) := by
  blk_ext [iblk, idx t]

theorem at_w (c : Dev nD) (t : Fin cfg0.N) (k : Fin 1024) (n : Fin 1536) :
    iblk m c 2 t (ix2 k n) = V m c main_v12 (ix2 k (col (stepOf t) n)) := by
  blk_ext [iblk, idx t, col]

/-- What the scratch holds after point `n`: the normed rows of its row block. -/
theorem scratch (c : Dev nD) : ∀ (n : ℕ) (hn : n < cfg0.N) (r : Fin 2048) (k : Fin 1024),
    ((outsAt0 m c n hn).2 (ix2 r k) : EReal)
      = normed (fun j => V m c main_v0 (ix2 (row (blockOf ⟨n, hn⟩) r) j)) (fun j => V m c main_v14 (ix2 0 j)) k
  | n, hn, r, k => by
    by_cases h0 : n % 5 = 0
    · have e := first m c ⟨n, hn⟩ h0
      dsimp only at e
      rw [e]
      refine (norm_at _ _ r k).trans ?_
      exact congr (congr (congrArg normed (funext fun j => at_x m c ⟨n, hn⟩ r j)) (funext fun j => at_g m c ⟨n, hn⟩ j)) rfl
    · match n, hn, h0 with
      | 0, _, h0 => exact absurd rfl h0
      | n + 1, hn, h0 =>
        have e := other m c ⟨n + 1, hn⟩ h0
        dsimp only at e
        rw [e]
        refine (scratch c n (Nat.lt_of_succ_lt hn) r k).trans ?_
        have hb : blockOf ⟨n, Nat.lt_of_succ_lt hn⟩ = blockOf ⟨n + 1, hn⟩ :=
          Fin.ext (show n / 5 = (n + 1) / 5 by omega)
        rw [hb]

/-- What a point writes. -/
theorem wrote (c : Dev nD) (t : Fin cfg0.N) (r : Fin 2048) (n : Fin 1536) :
    ((outsAt0 m c t.val t.isLt).1 (ix2 r n) : EReal)
      = ∑ k : Fin 1024, (normed (fun j => V m c main_v0 (ix2 (row (blockOf t) r) j)) (fun j => V m c main_v14 (ix2 0 j)) k
          * V m c main_v12 (ix2 k (col (stepOf t) n)) : EReal) := by
  have e : (outsAt0 m c t.val t.isLt).1 = k0_pay2 (F := Ideal) (outsAt0 m c t.val t.isLt).2 (iblk m c 2 t) := by
    by_cases h0 : t.val % 5 = 0
    · rw [first m c t h0]
    · rw [other m c t h0]
  rw [e]
  refine (product_at _ _ r n).trans (Finset.sum_congr rfl fun k _ => ?_)
  exact congrArg₂ (· * ·) (scratch m c t.val t.isLt r k) (at_w m c t k n)

/-- The result array after the run. -/
theorem final (c : Dev nD) (b : Fin 32) (r : Fin 2048) (s : Fin 5) (n : Fin 1536) :
    ((dats m 0 c).arrAt 3 cfg0.N : S65536x7680.Idx → EReal) (ix2 (row b r) (col s n))
      = ∑ k : Fin 1024, (normed (fun j => V m c main_v0 (ix2 (row b r) j)) (fun j => V m c main_v14 (ix2 0 j)) k
          * V m c main_v12 (ix2 k (col s n)) : EReal) := by
  obtain ⟨t, rfl, rfl⟩ : ∃ t : Fin cfg0.N, b = blockOf t ∧ s = stepOf t :=
    ⟨⟨5 * b.val + s.val, lt_of_lt_of_eq (by omega) N_0.symm⟩, Fin.ext (show b.val = (5 * b.val + s.val) / 5 by omega),
      Fin.ext (show s.val = (5 * b.val + s.val) % 5 by omega)⟩
  have hb := congrFun (Value.blocks3 m c t (flush0_3 t)) (ix2 r n)
  refine Eq.trans ?_ (hb.trans ((congrFun (Value.flushed3 m c t) _).trans ?_))
  rotate_left
  · exact wrote m c t r n
  blk_ext [idx t, row, col]

end Cert.Kernel2Ideal.NormPoint

end
-- ==== Proof.NormHost.lean ====
/- What the host code hands the input projection: the tokens in one axis, the gain as a row, the columns of the weights in the
   order in which the later calls read them. -/
module

public import proofs.«01_k».proof.Proof.Gen.Kernel2Ideal.Value
public import Idealize.ShloMosaic.Lib.Claim
public import Idealize.ShloMosaic.Lib.StableHlo.RunRead
public import Idealize.ShloMosaic.Lib.Pointwise

@[expose] public section

set_option maxRecDepth 16384

noncomputable section

namespace Cert.Kernel2Ideal.NormHost

open Cert.Kernel2Ideal Cert.Kernel2Ideal.Gen
open Idealize.ShloMosaic Idealize.ShloMosaic.TcCoe Idealize.SL.Sem

variable (m : (ℓ : Loc nD τ sig) → Buf (Elt Ideal) ℓ)

/-- The column of the projection's weights that column `j` of the result reads: the gates' columns come before the
    keys' and values'. -/
def source (j : Fin 7680) : Fin 7680 :=
  if j.val < 5120 then j else if h : j.val < 7168 then ⟨j.val + 512, by omega⟩ else ⟨j.val - 2048, by omega⟩

theorem source_val (j : Fin 7680) : (source j).val = if j.val < 5120 then j.val else if j.val < 7168 then j.val + 512 else j.val - 2048 := by
  unfold source
  split_ifs <;> rfl

theorem tokens (c : Dev nD) : V m c main_v0 = shapeCast S65536x1024 (m ((c : Thread nD τ).loc main_arg0)) shapeCasts_S16x4096x1024_S65536x1024 := by
  unfold V
  simp only [hostOps0]
  after_reads_simp
  rfl

theorem gain (c : Dev nD) : V m c main_v14 = broadcastInDim S1x1024 ![1] bcast_S1024_S1x1024_1
    (shapeCast S1024 (m ((c : Thread nD τ).loc main_arg1)) shapeCasts_S1x1024_S1024) := by
  unfold V
  simp only [hostOps0]
  after_reads_simp
  rfl

/-- The weights with their columns reordered. -/
def moved (w : FVec Ideal S1024x7680 .f32) : FVec Ideal S1024x7680 .f32 :=
  concatenate S1024x7680 1 [⟨S1024x1024, extractStridedSlice S1024x1024 ![0, 0] w slices_S1024x7680_S1024x1024_0_0⟩,
    ⟨S1024x1024, extractStridedSlice S1024x1024 ![0, 1024] w slices_S1024x7680_S1024x1024_0_1024⟩,
    ⟨S1024x1024, extractStridedSlice S1024x1024 ![0, 2048] w slices_S1024x7680_S1024x1024_0_2048⟩,
    ⟨S1024x1024, extractStridedSlice S1024x1024 ![0, 3072] w slices_S1024x7680_S1024x1024_0_3072⟩,
    ⟨S1024x1024, extractStridedSlice S1024x1024 ![0, 4096] w slices_S1024x7680_S1024x1024_0_4096⟩,
    ⟨S1024x1024, extractStridedSlice S1024x1024 ![0, 5632] w slices_S1024x7680_S1024x1024_0_5632⟩,
    ⟨S1024x1024, extractStridedSlice S1024x1024 ![0, 6656] w slices_S1024x7680_S1024x1024_0_6656⟩,
    ⟨S1024x256, extractStridedSlice S1024x256 ![0, 5120] w slices_S1024x7680_S1024x256_0_5120⟩,
    ⟨S1024x256, extractStridedSlice S1024x256 ![0, 5376] w slices_S1024x7680_S1024x256_0_5376⟩]
    concatenates_S1024x1024_S1024x1024_S1024x1024_S1024x1024_S1024x1024_S1024x1024_S1024x1024_S1024x256_S1024x256_S1024x7680_d1

theorem weights (c : Dev nD) : V m c main_v12 = truncf .bf16 (moved (shapeCast S1024x7680 (m ((c : Thread nD τ).loc main_arg2)) shapeCasts_S1x1024x7680_S1024x7680)) bitsLt_bf16_f32 := by
  unfold V
  simp only [hostOps0]
  after_reads_simp
  rfl

theorem moved_at (w : FVec Ideal S1024x7680 .f32) (k : Fin 1024) (j : Fin 7680) :
    moved w (ix2 k j) = w (ix2 k (source j)) := by
  pointwise [moved]
  have hs := source_val j
  repeat' split
  all_goals
    refine congrArg w (congrArg (ix2 k) (Fin.ext ?_))
    rw [hs]
    try dsimp only
    split_ifs <;> omega

theorem weights_at (c : Dev nD) (W : FVec Ideal S1x1024x7680 .f32) (hW : m ((c : Thread nD τ).loc main_arg2) = W)
    (k : Fin 1024) (j : Fin 7680) : (V m c main_v12 (ix2 k j) : EReal) = W (ix3 0 k (source j)) := by
  rw [weights, hW]
  refine Eq.trans (moved_at _ k j) ?_
  generalize source j = n
  exact shapeCast_apply W shapeCasts_S1x1024x7680_S1024x7680 (ix2 k n) (ix3 0 k n)
    (by rewrite [Shape.rowMajor_val_three, Shape.rowMajor_val_two]; show (0 * 1024 + k.val) * 7680 + n.val = k.val * 7680 + n.val; omega)

theorem gain_at (c : Dev nD) (G : FVec Ideal S1x1024 .f32) (hG : m ((c : Thread nD τ).loc main_arg1) = G)
    (k : Fin 1024) : (V m c main_v14 (ix2 0 k) : EReal) = G (ix2 0 k) := by
  rw [gain, hG]
  pointwise

theorem tokens_at (c : Dev nD) (X : FVec Ideal S16x4096x1024 .f32) (hX : m ((c : Thread nD τ).loc main_arg0) = X)
    (i : Fin 65536) (k : Fin 1024) :
    (V m c main_v0 (ix2 i k) : EReal) = X (ix3 ⟨i.val / 4096, by omega⟩ ⟨i.val % 4096, by omega⟩ k) := by
  rw [tokens, hX]
  exact shapeCast_apply X shapeCasts_S16x4096x1024_S65536x1024 (ix2 i k) (ix3 ⟨i.val / 4096, by omega⟩ ⟨i.val % 4096, by omega⟩ k)
    (by rewrite [Shape.rowMajor_val_three, Shape.rowMajor_val_two]; show (i.val / 4096 * 4096 + i.val % 4096) * 1024 + k.val = i.val * 1024 + k.val; omega)

end Cert.Kernel2Ideal.NormHost

end
-- ==== Proof.NormRef.lean ====
/- The reference's projection, read at a token and a column. -/
module

public import proofs.«01_k».proof.Proof.Gen.Reference2Ideal.Read
public import proofs.«01_k».proof.Proof.NormHost
public import proofs.«01_k».proof.Proof.NormRow

@[expose] public section

set_option maxRecDepth 16384

noncomputable section

namespace Cert.Reference2Ideal.NormRef

open Cert.Reference2Ideal Cert.Reference2Ideal.Gen Cert.Reference2Ideal.Read Cert.Kernel2Ideal.NormRow
open Cert.Kernel2Ideal.NormHost (source source_val)
open Idealize.ShloMosaic Idealize.ShloMosaic.TcCoe Idealize.SL.Sem

variable (X : FVec Ideal S16x4096x1024 .f32) (G : FVec Ideal S1x1024 .f32) (W : FVec Ideal S1x1024x7680 .f32)

theorem square_at (b : Fin 16) (s : Fin 4096) :
    val_main_v2 (F := Ideal) X (ix2 b s) = ∑ j : Fin 1024, (X (ix3 b s j) * X (ix3 b s j) : EReal) := by
  have e : ∀ k : Fin 1024, idx_main_v2 (ix2 b s) k = ix3 b s k := fun k => funext fun a => by
    match a with
    | ⟨0, _⟩ => rfl
    | ⟨1, _⟩ => rfl
    | ⟨2, _⟩ => rfl
  rw [val_main_v2_apply]
  refine Eq.trans (congrArg (· + _) (?_ : _ = (0 : EReal))) ((zero_add _).trans (Finset.sum_congr rfl fun k _ => ?_))
  · rw [val_main_cst_apply]
    show Ideal.ofBits .f32 0x00000000#32 = 0
    simp [Ideal.ofBits, Ideal.ieee]
  · rw [e]
    rfl

theorem root_at (b : Fin 16) (s : Fin 4096) :
    (val_main_v8 (F := Ideal) X (ix3 b s 0) : EReal)
      = Ideal.rsqrt (Ideal.div (∑ j : Fin 1024, (X (ix3 b s j) * X (ix3 b s j) : EReal)) (Ideal.ofBits .f32 0x44800000#32)
          + Ideal.ofBits .f32 0x3727C5AC#32) := by
  have e : idx_main_v3 (ix3 b s 0) = ix2 b s := funext fun a => by
    match a with
    | ⟨0, _⟩ => rfl
    | ⟨1, _⟩ => rfl
  rw [val_main_v8_apply, val_main_v7_apply, val_main_v5_apply, val_main_v3_apply, e, square_at, val_main_v4_apply, val_main_v6_apply]
  rfl

theorem normed_at (b : Fin 16) (s : Fin 4096) (k : Fin 1024) :
    (val_main_v13 (F := Ideal) X G (ix3 b s k) : EReal) = normed (fun j => X (ix3 b s j)) (fun j => G (ix2 0 j)) k := by
  have e : idx_main_v9 (ix3 b s k) = ix3 b s 0 := funext fun a => by
    match a with
    | ⟨0, _⟩ => rfl
    | ⟨1, _⟩ => rfl
    | ⟨2, _⟩ => rfl
  have e' : idx_main_v0 (idx_main_v11 (idx_main_v12 (ix3 b s k))) = ix2 0 k := funext fun a => by
    match a with
    | ⟨0, _⟩ => rfl
    | ⟨1, _⟩ => exact Fin.ext (show k.val % 1024 = k.val by omega)
  rw [val_main_v13_apply, val_main_v10_apply, val_main_v9_apply, e, root_at, val_main_v12_apply, val_main_v11_apply, val_main_v0_apply, e']
  rfl

theorem product_at (b : Fin 16) (s : Fin 4096) (n : Fin 7680) :
    (val_main_v15 (F := Ideal) X G W (ix3 b s n) : EReal)
      = ∑ k : Fin 1024, (normed (fun j => X (ix3 b s j)) (fun j => G (ix2 0 j)) k * W (ix3 0 k n) : EReal) := by
  rw [val_main_v15_apply]
  refine Finset.sum_congr rfl fun k _ => congrArg₂ (· * ·) ?_ ?_
  · have e : lidx_main_v15 (ix3 b s n) k = ix3 b s k := funext fun a => by
      match a with
      | ⟨0, _⟩ => rfl
      | ⟨1, _⟩ => rfl
      | ⟨2, _⟩ => rfl
    rw [e]
    exact normed_at X G b s k
  · rw [val_main_v14_apply]
    refine congrArg W (funext fun a => ?_)
    match a with
    | ⟨0, _⟩ => rfl
    | ⟨1, _⟩ => exact Fin.ext (by show (k.val * 7680 + n.val) / 7680 % 1024 = k.val; omega)
    | ⟨2, _⟩ => exact Fin.ext (by show (k.val * 7680 + n.val) % 7680 = n.val; omega)

theorem moved_at (b : Fin 16) (s : Fin 4096) (j : Fin 7680) :
    (val_main_v25 (F := Ideal) X G W (ix3 b s j) : EReal) = val_main_v15 (F := Ideal) X G W (ix3 b s (source j)) := by
  have hs := source_val j
  unfold val_main_v25 val_main_v16 val_main_v17 val_main_v18 val_main_v19 val_main_v20 val_main_v21 val_main_v22 val_main_v23 val_main_v24
  generalize val_main_v15 (F := Ideal) X G W = y
  pointwise
  repeat' split
  all_goals
    refine congrArg y (congrArg (ix3 b s) (Fin.ext ?_))
    rw [hs]
    try dsimp only
    split_ifs <;> omega

theorem out_at (i : Fin 65536) (j : Fin 7680) :
    (val_main_v27 (F := Ideal) X G W (ix2 i j) : EReal)
      = ∑ k : Fin 1024, (normed (fun l => X (ix3 ⟨i.val / 4096, by omega⟩ ⟨i.val % 4096, by omega⟩ l)) (fun l => G (ix2 0 l)) k
          * W (ix3 0 k (source j)) : EReal) := by
  refine Eq.trans ?_ (product_at X G W _ _ _)
  refine Eq.trans ?_ (moved_at X G W _ _ _)
  rw [val_main_v27_apply, val_main_v26_apply]
  refine congrArg (val_main_v25 (F := Ideal) X G W) (funext fun a => ?_)
  match a with
  | ⟨0, _⟩ => exact Fin.ext (by show (i.val * 7680 + j.val) / 31457280 = i.val / 4096; omega)
  | ⟨1, _⟩ => exact Fin.ext (by show (i.val * 7680 + j.val) / 7680 % 4096 = i.val % 4096; omega)
  | ⟨2, _⟩ => exact Fin.ext (by show (i.val * 7680 + j.val) % 7680 = j.val; omega)

end Cert.Reference2Ideal.NormRef

end
-- ==== Proof.NormResult.lean ====
/- The array the input projection leaves is the reference's. -/
module

public import proofs.«01_k».proof.Proof.NormPoint
public import proofs.«01_k».proof.Proof.NormRef

@[expose] public section

set_option maxRecDepth 16384

noncomputable section

namespace Cert.Kernel2Ideal.NormResult

open Cert.Kernel2Ideal Cert.Kernel2Ideal.Gen Cert.Kernel2Ideal.NormRow Cert.Kernel2Ideal.NormPoint Cert.Kernel2Ideal.NormHost
open Idealize.ShloMosaic Idealize.ShloMosaic.TcCoe Idealize.SL.Sem

variable (m : (ℓ : Loc nD τ sig) → Buf (Elt Ideal) ℓ)

theorem result (c : Dev nD)
    (X : FVec Ideal S16x4096x1024 .f32) (hX : m ((c : Thread nD τ).loc main_arg0) = X)
    (G : FVec Ideal S1x1024 .f32) (hG : m ((c : Thread nD τ).loc main_arg1) = G)
    (W : FVec Ideal S1x1024x7680 .f32) (hW : m ((c : Thread nD τ).loc main_arg2) = W) :
    (dats m 0 c).arrAt 3 cfg0.N = Cert.Reference2Ideal.Read.val_main_v27 (F := Ideal) X G W := by
  refine funext fun (i : S65536x7680.Idx) => ?_
  obtain ⟨b, r, s, n, rfl⟩ : ∃ (b : Fin 32) (r : Fin 2048) (s : Fin 5) (n : Fin 1536), i = ix2 (row b r) (col s n) := by
    have h0 : (i 0).val < 65536 := (i 0).isLt
    have h1 : (i 1).val < 7680 := (i 1).isLt
    refine ⟨⟨(i 0).val / 2048, by omega⟩, ⟨(i 0).val % 2048, by omega⟩, ⟨(i 1).val / 1536, by omega⟩, ⟨(i 1).val % 1536, by omega⟩, funext fun a => ?_⟩
    match a with
    | ⟨0, _⟩ => exact Fin.ext (show (i 0).val = 2048 * ((i 0).val / 2048) + (i 0).val % 2048 by omega)
    | ⟨1, _⟩ => exact Fin.ext (show (i 1).val = 1536 * ((i 1).val / 1536) + (i 1).val % 1536 by omega)
  refine (final m c b r s n).trans (Eq.trans ?_ (Cert.Reference2Ideal.NormRef.out_at X G W _ _).symm)
  exact (Finset.sum_congr rfl fun k _ => congrArg₂ (· * ·)
    (congr (congr (congrArg normed (funext fun l => tokens_at m c X hX _ l)) (funext fun l => gain_at m c G hG l)) rfl)
    (weights_at m c W hW k _) :
    (∑ k : Fin 1024, (normed (fun j => V m c main_v0 (ix2 (row b r) j)) (fun j => V m c main_v14 (ix2 0 j)) k
          * V m c main_v12 (ix2 k (col s n)) : EReal)) = _)

end Cert.Kernel2Ideal.NormResult

end
-- ==== Proof.MoeBase.lean ====
/- The experts' matmuls: the buffers when the pipeline is entered, the table of experts as the launch memory holds it, the windows'
   blocks, and the pipeline's post read at the argument arrays. -/
module

public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Claim
public import Idealize.ShloMosaic.Lib.VecWindow
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S545 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl)
/-- Window 1 is never idle (an input). -/
theorem liveAt0_1 (hO : Ok m) : ∀ t : Fin (cfgM m hO).N, (cfgM m hO).idle 1 (grid0.coords t) = false :=
  (fun _ => rfl)
/-- Window 2 is never idle (an input). -/
theorem liveAt0_2 (hO : Ok m) : ∀ t : Fin (cfgM m hO).N, (cfgM m hO).idle 2 (grid0.coords t) = false :=
  (fun _ => rfl)
/-- Window 3 is never idle (an input). -/
theorem liveAt0_3 (hO : Ok m) : ∀ t : Fin (cfgM m hO).N, (cfgM m hO).idle 3 (grid0.coords t) = false :=
  (fun _ => rfl)
/-- Window 4 is never idle (an input). -/
theorem liveAt0_4 (hO : Ok m) : ∀ t : Fin (cfgM m hO).N, (cfgM m hO).idle 4 (grid0.coords t) = false :=
  (fun _ => rfl)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 5 (result 0 (%6)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

end Cert.Kernel3Ideal.Moe

end
-- ==== Proof.MoeBody.lean ====
/- What the body of the experts' call leaves at a grid point, in the four cases of its conditionals: it takes the expert's weights
   anew or keeps them, and the block is in use or not. -/
module

public import proofs.«01_k».proof.Proof.MoeBase

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The word of the table at an offset, as the body reads it. -/
abbrev word (c : Dev nD) (xt : TbBuf0 (F := F) c tbM0_0) (off : Fin 1 → ℕ) (inb : ∀ a, off a + S1.size a ≤ S545.size a) : BitVec 32 :=
  View.readAt (Elt F) tbM0_0.view (Rect.unit (s := S545) off S1.size inb).toLoadRect xt (Shape.Idx.first (numel1_S1.symm ▸ Nat.one_pos))

/-- The body takes its expert's weights anew: at the first block, and where the block's expert is not the one before's. -/
abbrev fills (c : Dev nD) (xt : TbBuf0 (F := F) c tbM0_0) (i : grid0.Coords) : Prop :=
  Scalar.cmpi .ne (Scalar.extui (Scalar.ori (Scalar.cmpi .eq (BitVec.ofNat 32 (i 0).val) 0#32)
    (Scalar.cmpi .ne (word c xt (k0_off1 i) (k0_off1_inb i)) (word c xt (k0_off2 i) (k0_off2_inb i))) : BitVec 1) : BitVec 32) 0#32 = 1#1

/-- The number of blocks in use. -/
abbrev nUsed (c : Dev nD) (xt : TbBuf0 (F := F) c tbM0_0) : BitVec 32 := word c xt ![544] inb_S545_S1_544

/-- The block is one of those. -/
abbrev used (c : Dev nD) (xt : TbBuf0 (F := F) c tbM0_0) (i : grid0.Coords) : Prop := k0_cond2 i (nUsed c xt) = 1#1

/-- It is not. -/
abbrev unused (c : Dev nD) (xt : TbBuf0 (F := F) c tbM0_0) (i : grid0.Coords) : Prop := k0_cond3 i (nUsed c xt) = 1#1

set_option maxHeartbeats 1000000 in
/-- The body where it takes the weights anew and the block is in use. -/
theorem run_fill_used (c : Dev nD) (i : grid0.Coords) (arg2 : Memref sig .tc .vmem S512x512 .i32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S512x1024 .bf16) (harg7 : arg7.IsWhole) (arg8 : Memref sig .tc .vmem S1024x2048 .bf16) (harg8 : arg8.IsWhole) (arg9 : Memref sig .tc .vmem S1024x1024 .bf16) (harg9 : arg9.IsWhole) (xt : TbBuf0 (F := F) c tbM0_0) (hc0 : fills c xt i) (hc1 : used c xt i) (hc2 : ¬unused c xt i)
    (x0 : Vec F S512x512 .i32) (x1 : Vec F S1x1024x2048 .f32) (x2 : Vec F S1x1x2048 .f32) (x3 : Vec F S1x1024x1024 .f32) (x4 : Vec F S1x1x1024 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ tbPt0 c tbM0_0 xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (k0_pay5 x0 (k0_pay1 x1) x2 (k0_pay2 x3)) (k0_pay6 x4)) ∗ owns (c : Thread nD τ) arg8 fullShare (k0_pay1 x1) ∗ owns (c : Thread nD τ) arg9 fullShare (k0_pay2 x3) ∗ tbPt0 c tbM0_0 xt) -∗ K ⟨⟩))
          ⊢ wp frame (wpE (defs₀ (F := F)) Variants.none c none) E (cc0_moe_experts i tbM0_0 htbM0_0 arg2 harg2 arg3 harg3 arg4 harg4 arg5 harg5 arg6 harg6 arg7 harg7 arg8 harg8 arg9 harg9) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; frame_out; exact View.read_writes_full _ _ _ _ _
    isplitl [HS0]
    · iexists _; isplitr; swap; · iexact HS0
      ipureintro; frame_out; exact View.read_writes_full _ _ _ _ _
    isplitl [HS1]
    · iexists _; isplitr; swap; · iexact HS1
      ipureintro; frame_out; exact View.read_writes_full _ _ _ _ _
    iexact HT0

set_option maxHeartbeats 1000000 in
/-- The body where it takes the weights anew and the block is not in use. -/
theorem run_fill_unused (c : Dev nD) (i : grid0.Coords) (arg2 : Memref sig .tc .vmem S512x512 .i32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S512x1024 .bf16) (harg7 : arg7.IsWhole) (arg8 : Memref sig .tc .vmem S1024x2048 .bf16) (harg8 : arg8.IsWhole) (arg9 : Memref sig .tc .vmem S1024x1024 .bf16) (harg9 : arg9.IsWhole) (xt : TbBuf0 (F := F) c tbM0_0) (hc0 : fills c xt i) (hc1 : ¬used c xt i) (hc2 : unused c xt i)
    (x0 : Vec F S512x512 .i32) (x1 : Vec F S1x1024x2048 .f32) (x2 : Vec F S1x1x2048 .f32) (x3 : Vec F S1x1024x1024 .f32) (x4 : Vec F S1x1x1024 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ tbPt0 c tbM0_0 xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (F := F)) ∗ owns (c : Thread nD τ) arg8 fullShare (k0_pay1 x1) ∗ owns (c : Thread nD τ) arg9 fullShare (k0_pay2 x3) ∗ tbPt0 c tbM0_0 xt) -∗ K ⟨⟩))
          ⊢ wp frame (wpE (defs₀ (F := F)) Variants.none c none) E (cc0_moe_experts i tbM0_0 htbM0_0 arg2 harg2 arg3 harg3 arg4 harg4 arg5 harg5 arg6 harg6 arg7 harg7 arg8 harg8 arg9 harg9) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact View.read_writes_full _ _ _ _ _
    isplitl [HS0]
    · iexists _; isplitr; swap; · iexact HS0
      ipureintro; frame_out; exact View.read_writes_full _ _ _ _ _
    isplitl [HS1]
    · iexists _; isplitr; swap; · iexact HS1
      ipureintro; frame_out; exact View.read_writes_full _ _ _ _ _
    iexact HT0

set_option maxHeartbeats 1000000 in
/-- The body where it keeps the weights it has and the block is in use. -/
theorem run_keep_used (c : Dev nD) (i : grid0.Coords) (arg2 : Memref sig .tc .vmem S512x512 .i32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S512x1024 .bf16) (harg7 : arg7.IsWhole) (arg8 : Memref sig .tc .vmem S1024x2048 .bf16) (harg8 : arg8.IsWhole) (arg9 : Memref sig .tc .vmem S1024x1024 .bf16) (harg9 : arg9.IsWhole) (xt : TbBuf0 (F := F) c tbM0_0) (hc0 : ¬fills c xt i) (hc1 : used c xt i) (hc2 : ¬unused c xt i)
    (x0 : Vec F S512x512 .i32) (x1 : Vec F S1x1024x2048 .f32) (x2 : Vec F S1x1x2048 .f32) (x3 : Vec F S1x1024x1024 .f32) (x4 : Vec F S1x1x1024 .f32) (xs0 : Vec F S1024x2048 .bf16) (xs1 : Vec F S1024x1024 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ tbPt0 c tbM0_0 xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (k0_pay5 x0 (xs0) x2 (xs1)) (k0_pay6 x4)) ∗ owns (c : Thread nD τ) arg8 fullShare (xs0) ∗ owns (c : Thread nD τ) arg9 fullShare (xs1) ∗ tbPt0 c tbM0_0 xt) -∗ K ⟨⟩))
          ⊢ wp frame (wpE (defs₀ (F := F)) Variants.none c none) E (cc0_moe_experts i tbM0_0 htbM0_0 arg2 harg2 arg3 harg3 arg4 harg4 arg5 harg5 arg6 harg6 arg7 harg7 arg8 harg8 arg9 harg9) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; frame_out; exact View.read_writes_full _ _ _ _ _
    isplitl [HS0]
    · iexists _; isplitr; swap; · iexact HS0
      ipureintro; exact harg8.read_unread _
    isplitl [HS1]
    · iexists _; isplitr; swap; · iexact HS1
      ipureintro; exact harg9.read_unread _
    iexact HT0

set_option maxHeartbeats 1000000 in
/-- The body where it keeps the weights it has and the block is not in use. -/
theorem run_keep_unused (c : Dev nD) (i : grid0.Coords) (arg2 : Memref sig .tc .vmem S512x512 .i32) (harg2 : arg2.IsWhole) (arg3 : Memref sig .tc .vmem S1x1024x2048 .f32) (harg3 : arg3.IsWhole) (arg4 : Memref sig .tc .vmem S1x1x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S512x1024 .bf16) (harg7 : arg7.IsWhole) (arg8 : Memref sig .tc .vmem S1024x2048 .bf16) (harg8 : arg8.IsWhole) (arg9 : Memref sig .tc .vmem S1024x1024 .bf16) (harg9 : arg9.IsWhole) (xt : TbBuf0 (F := F) c tbM0_0) (hc0 : ¬fills c xt i) (hc1 : ¬used c xt i) (hc2 : unused c xt i)
    (x0 : Vec F S512x512 .i32) (x1 : Vec F S1x1024x2048 .f32) (x2 : Vec F S1x1x2048 .f32) (x3 : Vec F S1x1024x1024 .f32) (x4 : Vec F S1x1x1024 .f32) (xs0 : Vec F S1024x2048 .bf16) (xs1 : Vec F S1024x1024 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ tbPt0 c tbM0_0 xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (F := F)) ∗ owns (c : Thread nD τ) arg8 fullShare (xs0) ∗ owns (c : Thread nD τ) arg9 fullShare (xs1) ∗ tbPt0 c tbM0_0 xt) -∗ K ⟨⟩))
          ⊢ wp frame (wpE (defs₀ (F := F)) Variants.none c none) E (cc0_moe_experts i tbM0_0 htbM0_0 arg2 harg2 arg3 harg3 arg4 harg4 arg5 harg5 arg6 harg6 arg7 harg7 arg8 harg8 arg9 harg9) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact View.read_writes_full _ _ _ _ _
    isplitl [HS0]
    · iexists _; isplitr; swap; · iexact HS0
      ipureintro; exact harg8.read_unread _
    isplitl [HS1]
    · iexists _; isplitr; swap; · iexact HS1
      ipureintro; exact harg9.read_unread _
    iexact HT0

end Cert.Kernel3Ideal.Moe

end
-- ==== Proof.MoeTable.lean ====
/- The table of experts at a grid point: which expert the windows' blocks are of, when the body takes the weights anew, and that a
   block is either in use or not. -/
module

public import proofs.«01_k».proof.Proof.MoeBody

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

theorem ofBool_one (p : Bool) : (BitVec.ofBool p = 1#1) ↔ p = true := by cases p <;> decide

theorem ext_ofBool (p : Bool) :
    (Scalar.cmpi .ne (Scalar.extui (BitVec.ofBool p) : BitVec 32) 0#32 = 1#1) ↔ p = true := by
  cases p <;> decide

/-- A block is not in use exactly where it is not in use. -/
theorem unused_iff (i : grid0.Coords) (v : BitVec 32) : (k0_cond3 i v = 1#1) ↔ ¬(k0_cond2 i v = 1#1) := by
  unfold k0_cond3 k0_cond2
  show (Scalar.cmpi .ne (Scalar.extui (BitVec.ofBool _) : BitVec 32) 0#32 = 1#1) ↔ ¬(Scalar.cmpi .ne (Scalar.extui (BitVec.ofBool _) : BitVec 32) 0#32 = 1#1)
  rw [ext_ofBool, ext_ofBool]
  simp [BitVec.sle, BitVec.slt]

/-- A block in use comes before the number of blocks in use. -/
theorem used_iff (i : grid0.Coords) (v : BitVec 32) : (k0_cond2 i v = 1#1) ↔ (BitVec.ofNat 32 (i 0).val).slt v = true := by
  unfold k0_cond2
  show (Scalar.cmpi .ne (Scalar.extui (BitVec.ofBool _) : BitVec 32) 0#32 = 1#1) ↔ _
  rw [ext_ofBool]

theorem off1_val : ∀ t : Fin grid0.N, k0_off1 (grid0.coords t) = ![t.val] :=
  (by decide +kernel : ∀ t : Fin grid0.N, _)

theorem off2_val : ∀ t : Fin grid0.N, k0_off2 (grid0.coords t) = ![t.val - 1] :=
  (by decide +kernel : ∀ t : Fin grid0.N, _)

theorem coord_val : ∀ t : Fin grid0.N, (grid0.coords t 0).val = t.val :=
  (by decide +kernel : ∀ t : Fin grid0.N, _)

/-- The word of the table at an offset is the table's element there. -/
theorem word_eq (c : Dev nD) (xt : TbBuf0 (F := F) c tbM0_0) (off : Fin 1 → ℕ) (inb : ∀ a, off a + S1.size a ≤ S545.size a)
    (n : Fin 545) (h : off = ![n.val]) : word c xt off inb = (xt : S545.Idx → BitVec 32) (ix1 n) := by
  subst h
  show (xt : S545.Idx → BitVec 32) _ = _
  refine congrArg (xt : S545.Idx → BitVec 32) (funext fun a => Fin.ext ?_)
  match a with
  | ⟨0, _⟩ => rfl

/-- The expert of the block at a point. -/
abbrev expert (t : Fin grid0.N) : BitVec 32 := (tbl m 0 : S545.Idx → BitVec 32) (ix1 ⟨t.val, by have := lt_of_lt_of_eq t.isLt N_0; omega⟩)

/-- The body takes the weights anew at the first point. -/
theorem fills_first (c : Dev nD) (t : Fin grid0.N) (h : t.val = 0) : fills c (tbl m 0) (grid0.coords t) := by
  unfold fills
  rw [coord_val t, h]
  generalize Scalar.cmpi .ne (word c (tbl m 0) (k0_off1 (grid0.coords t)) _) _ = q
  revert q
  decide

/-- Where it keeps them the block before has the same expert. -/
theorem keeps (c : Dev nD) (t : Fin grid0.N) (h : ¬fills c (tbl m 0) (grid0.coords t)) :
    ∃ h0 : t.val ≠ 0, expert m ⟨t.val - 1, lt_of_le_of_lt (Nat.sub_le _ _) t.isLt⟩ = expert m t := by
  refine ⟨fun h0 => h (fills_first m c t h0), ?_⟩
  have hN := lt_of_lt_of_eq t.isLt N_0
  by_contra hne
  refine h ?_
  unfold fills
  rw [word_eq c (tbl m 0) _ _ ⟨t.val, by omega⟩ (off1_val t), word_eq c (tbl m 0) _ _ ⟨t.val - 1, by omega⟩ (off2_val t)]
  have e : Scalar.cmpi .ne ((tbl m 0 : S545.Idx → BitVec 32) (ix1 ⟨t.val, by omega⟩)) ((tbl m 0 : S545.Idx → BitVec 32) (ix1 ⟨t.val - 1, by omega⟩)) = 1#1 := by
    refine (ofBool_one _).mpr ?_
    exact bne_iff_ne.mpr (fun e => hne e.symm)
  rw [e]
  generalize Scalar.cmpi .eq (BitVec.ofNat 32 (grid0.coords t 0).val) 0#32 = q
  revert q
  decide

/-! ## The windows' index maps -/

theorem idx0 (hO : Ok m) : ∀ t : Fin grid0.N, ((cfgM m hO).win 0).index t = ![t.val, 0] :=
  (by decide +kernel : ∀ t : Fin grid0.N, cc0_transform_0 (grid0.coords t) = ![t.val, 0])

theorem idx5 (hO : Ok m) : ∀ t : Fin grid0.N, ((cfgM m hO).win 5).index t = ![t.val, 0] :=
  (by decide +kernel : ∀ t : Fin grid0.N, cc0_transform_5 (grid0.coords t) = ![t.val, 0])

theorem at_expert (t : Fin grid0.N) :
    (tbl m).at 0 (Rect.unit (s := S545) (k0_off1 (grid0.coords t)) S1.size (k0_off1_inb (grid0.coords t))) numel1_S1 = expert m t :=
  word_eq 0 (tbl m 0) _ (k0_off1_inb _) ⟨t.val, by have := lt_of_lt_of_eq t.isLt N_0; omega⟩ (off1_val t)

theorem idx1 (hO : Ok m) (t : Fin grid0.N) : ((cfgM m hO).win 1).index t = ![(expert m t).toNat, 0, 0] := by
  rw [← at_expert m t]; rfl

theorem idx2 (hO : Ok m) (t : Fin grid0.N) : ((cfgM m hO).win 2).index t = ![(expert m t).toNat, 0, 0] := by
  rw [← at_expert m t]; rfl

theorem idx3 (hO : Ok m) (t : Fin grid0.N) : ((cfgM m hO).win 3).index t = ![(expert m t).toNat, 0, 0] := by
  rw [← at_expert m t]; rfl

theorem idx4 (hO : Ok m) (t : Fin grid0.N) : ((cfgM m hO).win 4).index t = ![(expert m t).toNat, 0, 0] := by
  rw [← at_expert m t]; rfl

/-- The side condition says that every expert named is there. -/
theorem expert_lt (hO : Ok m) (t : Fin grid0.N) : (expert m t).toNat < 32 := by
  obtain ⟨h, -⟩ := hO.1 (grid0.coords t)
  have h0 := h 0
  have e : cc0_transform_1 k0_off1_inb numel1_S1 (tbl m) (grid0.coords t) = ![(expert m t).toNat, 0, 0] := idx1 m hO t
  rw [e] at h0
  have : ((expert m t).toNat + 1) * 1 ≤ 32 := h0
  omega

/-! ## The blocks -/

abbrev expertAt (hO : Ok m) (t : Fin grid0.N) : Fin 32 := ⟨(expert m t).toNat, expert_lt m hO t⟩

/-- Row `r` of the block at a point. -/
abbrev rowAt (t : Fin grid0.N) (r : Fin 512) : Fin 278528 :=
  ⟨512 * t.val + r.val, by have := lt_of_lt_of_eq t.isLt N_0; omega⟩

theorem at_x (hO : Ok m) (c : Dev nD) (t : Fin grid0.N) (r k : Fin 512) :
    iblk m hO c 0 t (ix2 r k) = V m c main_arg1 (ix2 (rowAt t r) k) := by
  blk_ext [iblk, idx0 m hO t, rowAt]

theorem at_wgu (hO : Ok m) (c : Dev nD) (t : Fin grid0.N) (k : Fin 1024) (n : Fin 2048) :
    iblk m hO c 1 t (ix3 0 k n) = V m c main_v0 (ix3 (expertAt m hO t) k n) := by
  blk_ext [iblk, idx1 m hO t, expertAt]

theorem at_bgu (hO : Ok m) (c : Dev nD) (t : Fin grid0.N) (n : Fin 2048) :
    iblk m hO c 2 t (ix3 0 0 n) = V m c main_v2 (ix3 (expertAt m hO t) 0 n) := by
  blk_ext [iblk, idx2 m hO t, expertAt]

theorem at_wd (hO : Ok m) (c : Dev nD) (t : Fin grid0.N) (k n : Fin 1024) :
    iblk m hO c 3 t (ix3 0 k n) = V m c main_v3 (ix3 (expertAt m hO t) k n) := by
  blk_ext [iblk, idx3 m hO t, expertAt]

theorem at_bd (hO : Ok m) (c : Dev nD) (t : Fin grid0.N) (n : Fin 1024) :
    iblk m hO c 4 t (ix3 0 0 n) = V m c main_v5 (ix3 (expertAt m hO t) 0 n) := by
  blk_ext [iblk, idx4 m hO t, expertAt]

/-- Two points of one expert have the same block of the first weights, -/
theorem same_wgu (hO : Ok m) (c : Dev nD) (t t' : Fin grid0.N) (h : expert m t = expert m t') :
    iblk m hO c 1 t = iblk m hO c 1 t' := by
  have e : expertAt m hO t = expertAt m hO t' := Fin.ext (congrArg BitVec.toNat h)
  refine funext fun (y : S1x1024x2048.Idx) => ?_
  obtain ⟨k, n, rfl⟩ : ∃ (k : Fin 1024) (n : Fin 2048), y = ix3 (0 : Fin 1) k n :=
    ⟨y 1, y 2, funext fun a => match a with | ⟨0, _⟩ => Subsingleton.elim (α := Fin 1) _ _ | ⟨1, _⟩ => rfl | ⟨2, _⟩ => rfl⟩
  exact (at_wgu m hO c t k n).trans (by rw [e]; exact (at_wgu m hO c t' k n).symm)

/-- and of the second. -/
theorem same_wd (hO : Ok m) (c : Dev nD) (t t' : Fin grid0.N) (h : expert m t = expert m t') :
    iblk m hO c 3 t = iblk m hO c 3 t' := by
  have e : expertAt m hO t = expertAt m hO t' := Fin.ext (congrArg BitVec.toNat h)
  refine funext fun (y : S1x1024x1024.Idx) => ?_
  obtain ⟨k, n, rfl⟩ : ∃ (k : Fin 1024) (n : Fin 1024), y = ix3 (0 : Fin 1) k n :=
    ⟨y 1, y 2, funext fun a => match a with | ⟨0, _⟩ => Subsingleton.elim (α := Fin 1) _ _ | ⟨1, _⟩ => rfl | ⟨2, _⟩ => rfl⟩
  exact (at_wd m hO c t k n).trans (by rw [e]; exact (at_wd m hO c t' k n).symm)

end Cert.Kernel3Ideal.Moe

end
-- ==== Proof.MoeRun.lean ====
/- The experts' call runs: what its grid points leave, the proof data of the pipeline, the body at every point, and the run. -/
module

public import proofs.«01_k».proof.Proof.MoeTable

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The two weight matrices as the scratch holds them after the body at a point. -/
abbrev wgu (hO : Ok m) (c : Dev nD) (t : Fin (cfgM m hO).N) : Vec F S1024x2048 .bf16 := k0_pay1 (iblk m hO c 1 t)
abbrev wd (hO : Ok m) (c : Dev nD) (t : Fin (cfgM m hO).N) : Vec F S1024x1024 .bf16 := k0_pay2 (iblk m hO c 3 t)

/-- What the body leaves in the output's block at a point: the expert's result where the block is in use, zeros where it is not. -/
def left (hO : Ok m) (c : Dev nD) (t : Fin (cfgM m hO).N) : Vec F S512x1024 .bf16 :=
  if used c (tbl m 0) (grid0.coords t) then
    k0_pay3 (k0_pay5 (iblk m hO c 0 t) (wgu m hO c t) (iblk m hO c 2 t) (wd m hO c t)) (k0_pay6 (iblk m hO c 4 t))
  else k0_pay4 (F := F)

/-- What the kernel holds of its own before position `n`: the scratch at anything before the first point, at the weights of the
    point before afterwards; the generator register; its half of the table. -/
def Phi (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare (wgu m hO c ⟨n, hn⟩) ∗ owns (c : Thread nD τ) scM0_1 fullShare (wd m hO c ⟨n, hn⟩)) ∗ (∃ r, prngReg c r)) ∗ Pipeline.ΦT pre0 (tbl m) c)

theorem Phi_zero (hO : Ok m) (c : Dev nD) (n : ℕ) (h : n ≤ (cfgM m hO).N) (hz : n = 0) :
    Phi m hO c n h = iprop(Pipeline.ΦA spec0 c ∗ Pipeline.ΦT pre0 (tbl m) c) := by
  subst hz; rfl

theorem Phi_succ (hO : Ok m) (c : Dev nD) (n : ℕ) (hn : n < (cfgM m hO).N) :
    Phi m hO c (n + 1) hn = iprop(iprop(iprop(owns (c : Thread nD τ) scM0_0 fullShare (wgu m hO c ⟨n, hn⟩) ∗ owns (c : Thread nD τ) scM0_1 fullShare (wd m hO c ⟨n, hn⟩)) ∗ (∃ r, prngReg c r)) ∗ Pipeline.ΦT pre0 (tbl m) c) := rfl

theorem Phi_pos (hO : Ok m) (c : Dev nD) (n : ℕ) (h : n ≤ (cfgM m hO).N) (hz : n ≠ 0) :
    Phi m hO c n h = iprop(iprop(iprop(owns (c : Thread nD τ) scM0_0 fullShare (wgu m hO c ⟨n - 1, by omega⟩) ∗ owns (c : Thread nD τ) scM0_1 fullShare (wd m hO c ⟨n - 1, by omega⟩)) ∗ (∃ r, prngReg c r)) ∗ Pipeline.ΦT pre0 (tbl m) c) := by
  cases n with
  | zero => exact absurd rfl hz
  | succ n => rfl

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => left m hO c t
  Φ t := Phi m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Phi_castSucc (hO : Ok m) (c : Dev nD) (t : Fin (cfgM m hO).N) :
    (dats m hO 0 c).Φ t.castSucc = Phi m hO c t.val (Nat.le_of_lt t.isLt) := by
  dsimp only [dats]; exact Pipeline.Dat.Φ_castSucc (Phi m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = left m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- The output is written at every point: a block is in use or it is not. -/
theorem live5 (pf : pre0.Contents (Elt F)) (i : grid0.Coords) : idle0 pf 5 i = false := by
  show (!(k0_cond2 i (pf.atD 0 ![544]) == 1#1) && !(k0_cond3 i (pf.atD 0 ![544]) == 1#1)) = false
  generalize pf.atD 0 ![544] = v
  by_cases h : k0_cond2 i v = 1#1
  · rw [h]; rfl
  · rw [(unused_iff i v).mpr h]; simp

set_option maxHeartbeats 1600000 in
theorem liveAt0_5 (hO : Ok m) (t : Fin (cfgM m hO).N) : (cfgM m hO).idle 5 (grid0.coords t) = false := live5 (tbl m) _

/-- What the body is called with at a point, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

theorem leaves0_0 (hO : Ok m) (c : Dev nD) (t : Fin (cfgM m hO).N) :
    (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after0_0]

theorem leaves0_1 (hO : Ok m) (c : Dev nD) (t : Fin (cfgM m hO).N) :
    (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after0_1]

theorem leaves0_2 (hO : Ok m) (c : Dev nD) (t : Fin (cfgM m hO).N) :
    (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after0_2]

theorem leaves0_3 (hO : Ok m) (c : Dev nD) (t : Fin (cfgM m hO).N) :
    (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after0_3]

theorem leaves0_4 (hO : Ok m) (c : Dev nD) (t : Fin (cfgM m hO).N) :
    (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after0_4]

theorem leaves0_5 (hO : Ok m) (c : Dev nD) (t : Fin (cfgM m hO).N) :
    (dats m hO 0 c).leavesExact 5 t = owns (c : Thread nD τ) (ms0_5 m hO t) fullShare (left m hO c t) := by
  rw [show (dats m hO 0 c).leavesExact 5 t = owns (c : Thread nD τ) (ms0_5 m hO t) fullShare ((dats m hO 0 c).after 5 t) from by
    unfold Dat.leavesExact; rw [liveAt0_5 m hO t]; try rfl, after0_5]

set_option maxHeartbeats 3200000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [leaves0_0 m hO c t, leaves0_1 m hO c t, leaves0_2 m hO c t, leaves0_3 m hO c t, leaves0_4 m hO c t, leaves0_5 m hO c t]
  rw [show (dats m hO 0 c).owesAt () t.succ = (dats m hO 0 c).owesAt () t.castSucc from rfl,
    show (dats m hO 0 c).Φ t.succ = Phi m hO c (t.val + 1) t.isLt from rfl, Phi_succ, Phi_castSucc m hO c t]
  by_cases h0 : fills c (tbl m 0) (grid0.coords t)
  · by_cases hz : t.val = 0
    · rw [Phi_zero m hO c _ _ hz, PhiT0_eq, PhiA0_eq]
      by_cases h1 : used c (tbl m 0) (grid0.coords t)
      · rw [show left m hO c t = _ from if_pos h1]
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((run_fill_used c (grid0.coords t) _ _ _ _ _ _ _ _ _ _ _ _ _ _ _ _ (tbl m 0) h0 h1 (fun h => (unused_iff _ _).mp h h1) (iblk m hO c 0 t) (iblk m hO c 1 t) (iblk m hO c 2 t) (iblk m hO c 3 t) (iblk m hO c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        iintro ⟨H0, H1, H2, H3, H4, H5, HS0, HS1, HT0⟩
        isplitl [HS0 HS1 Hg HT0]
        · isplitl [HS0 HS1 Hg]
          · isplitl [HS0 HS1]
            · isplitl [HS0]
              · iexact HS0
              iexact HS1
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5
      · rw [show left m hO c t = _ from if_neg h1]
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((run_fill_unused c (grid0.coords t) _ _ _ _ _ _ _ _ _ _ _ _ _ _ _ _ (tbl m 0) h0 h1 ((unused_iff _ _).mpr h1) (iblk m hO c 0 t) (iblk m hO c 1 t) (iblk m hO c 2 t) (iblk m hO c 3 t) (iblk m hO c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        iintro ⟨H0, H1, H2, H3, H4, H5, HS0, HS1, HT0⟩
        isplitl [HS0 HS1 Hg HT0]
        · isplitl [HS0 HS1 Hg]
          · isplitl [HS0 HS1]
            · isplitl [HS0]
              · iexact HS0
              iexact HS1
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5
    · rw [Phi_pos m hO c _ _ hz, PhiT0_eq]
      by_cases h1 : used c (tbl m 0) (grid0.coords t)
      · rw [show left m hO c t = _ from if_pos h1]
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((run_fill_used c (grid0.coords t) _ _ _ _ _ _ _ _ _ _ _ _ _ _ _ _ (tbl m 0) h0 h1 (fun h => (unused_iff _ _).mp h h1) (iblk m hO c 0 t) (iblk m hO c 1 t) (iblk m hO c 2 t) (iblk m hO c 3 t) (iblk m hO c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexists _; iexact HS1
        isplitl [HT0]; · iexact HT0
        iintro ⟨H0, H1, H2, H3, H4, H5, HS0, HS1, HT0⟩
        isplitl [HS0 HS1 Hg HT0]
        · isplitl [HS0 HS1 Hg]
          · isplitl [HS0 HS1]
            · isplitl [HS0]
              · iexact HS0
              iexact HS1
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5
      · rw [show left m hO c t = _ from if_neg h1]
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((run_fill_unused c (grid0.coords t) _ _ _ _ _ _ _ _ _ _ _ _ _ _ _ _ (tbl m 0) h0 h1 ((unused_iff _ _).mpr h1) (iblk m hO c 0 t) (iblk m hO c 1 t) (iblk m hO c 2 t) (iblk m hO c 3 t) (iblk m hO c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexists _; iexact HS1
        isplitl [HT0]; · iexact HT0
        iintro ⟨H0, H1, H2, H3, H4, H5, HS0, HS1, HT0⟩
        isplitl [HS0 HS1 Hg HT0]
        · isplitl [HS0 HS1 Hg]
          · isplitl [HS0 HS1]
            · isplitl [HS0]
              · iexact HS0
              iexact HS1
            iexact Hg
          iexact HT0
        isplitl [Ho]; · iexact Ho
        isplitl [H0]; · iexact H0
        isplitl [H1]; · iexact H1
        isplitl [H2]; · iexact H2
        isplitl [H3]; · iexact H3
        isplitl [H4]; · iexact H4
        iexact H5
  · obtain ⟨hz, he⟩ := keeps m c t h0
    rw [Phi_pos m hO c _ _ hz, PhiT0_eq]
    rw [show wgu m hO c ⟨t.val - 1, by omega⟩ = wgu m hO c t from congrArg k0_pay1 (same_wgu m hO c _ t he), show wd m hO c ⟨t.val - 1, by omega⟩ = wd m hO c t from congrArg k0_pay2 (same_wd m hO c _ t he)]
    by_cases h1 : used c (tbl m 0) (grid0.coords t)
    · rw [show left m hO c t = _ from if_pos h1]
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
      iapply ((run_keep_used c (grid0.coords t) _ _ _ _ _ _ _ _ _ _ _ _ _ _ _ _ (tbl m 0) h0 h1 (fun h => (unused_iff _ _).mp h h1) (iblk m hO c 0 t) (iblk m hO c 1 t) (iblk m hO c 2 t) (iblk m hO c 3 t) (iblk m hO c 4 t) _ _) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      iintro ⟨H0, H1, H2, H3, H4, H5, HS0, HS1, HT0⟩
      isplitl [HS0 HS1 Hg HT0]
      · isplitl [HS0 HS1 Hg]
        · isplitl [HS0 HS1]
          · isplitl [HS0]
            · iexact HS0
            iexact HS1
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5
    · rw [show left m hO c t = _ from if_neg h1]
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
      iapply ((run_keep_unused c (grid0.coords t) _ _ _ _ _ _ _ _ _ _ _ _ _ _ _ _ (tbl m 0) h0 h1 ((unused_iff _ _).mpr h1) (iblk m hO c 0 t) (iblk m hO c 1 t) (iblk m hO c 2 t) (iblk m hO c 3 t) (iblk m hO c 4 t) _ _) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      iintro ⟨H0, H1, H2, H3, H4, H5, HS0, HS1, HT0⟩
      isplitl [HS0 HS1 Hg HT0]
      · isplitl [HS0 HS1 Hg]
        · isplitl [HS0 HS1]
          · isplitl [HS0]
            · iexact HS0
            iexact HS1
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 1600000 in
/-- The body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is what the kernel holds before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 (Nat.zero_le _) from rfl, Phi_zero m hO c 0 _ rfl]
  try exact Idealize.SL.BI.Entails.refl _

/-- and after the last one it gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N (Nat.le_refl _) from rfl,
    Phi_pos m hO c _ _ (by have : (cfgM m hO).N = 544 := N_0; omega), PhiA0_eq]
  iintro ⟨⟨⟨HS0, HS1⟩, Hg⟩, -⟩
  isplitl [HS0 HS1]
  · isplitl [HS0]
    · iexists _; iexact HS0
    iexists _; iexact HS1
  iexact Hg

set_option backward.isDefEq.respectTransparency.types false in
/-- The run. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.Kernel3Ideal.Moe

end
-- ==== Proof.MoeFrame.lean ====
/- The experts' call leaves its arguments as they were, and its result array is what the grid points wrote; the tables that
   name experts there are admit a run. -/
module

public import proofs.«01_k».proof.Proof.MoeRun
public import proofs.«01_k».proof.Pre_experts_exist
public import proofs.«01_k».proof.Proof.Gen.Pre_experts_exist

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every coordinate is a point's. -/
theorem coords_at (i : grid0.Coords) : ∃ t : Fin grid0.N, grid0.coords t = i := by
  have h : (i 0).val < 544 := (i 0).isLt
  refine ⟨⟨(i 0).val, lt_of_lt_of_eq h N_0.symm⟩, funext fun a => ?_⟩
  match a with
  | ⟨0, _⟩ => exact Fin.ext (coord_val _)

/-- A table whose blocks name experts there are is admissible. -/
theorem ok_of_experts (h : ∀ t : Fin grid0.N, (expert m t).toNat < 32) : Ok m := by
  have e1 : ∀ t : Fin grid0.N, cc0_transform_1 k0_off1_inb numel1_S1 (tbl m) (grid0.coords t) = ![(expert m t).toNat, 0, 0] := fun t => by
    rw [← at_expert m t]; rfl
  have e2 : ∀ t : Fin grid0.N, cc0_transform_2 k0_off1_inb numel1_S1 (tbl m) (grid0.coords t) = ![(expert m t).toNat, 0, 0] := fun t => by
    rw [← at_expert m t]; rfl
  have e3 : ∀ t : Fin grid0.N, cc0_transform_3 k0_off1_inb numel1_S1 (tbl m) (grid0.coords t) = ![(expert m t).toNat, 0, 0] := fun t => by
    rw [← at_expert m t]; rfl
  have e4 : ∀ t : Fin grid0.N, cc0_transform_4 k0_off1_inb numel1_S1 (tbl m) (grid0.coords t) = ![(expert m t).toNat, 0, 0] := fun t => by
    rw [← at_expert m t]; rfl
  refine ⟨fun i => ⟨fun a => ?_, .inl rfl⟩, fun i => ⟨fun a => ?_, .inl rfl⟩, fun i => ⟨fun a => ?_, .inl rfl⟩, fun i => ⟨fun a => ?_, .inl rfl⟩⟩
  · obtain ⟨t, rfl⟩ := coords_at i
    rw [e1]
    have := h t
    match a with
    | ⟨0, _⟩ => show ((expert m t).toNat + 1) * 1 ≤ 32; omega
    | ⟨1, _⟩ => show (0 + 1) * 1024 ≤ 1024; omega
    | ⟨2, _⟩ => show (0 + 1) * 2048 ≤ 2048; omega
  · obtain ⟨t, rfl⟩ := coords_at i
    rw [e2]
    have := h t
    match a with
    | ⟨0, _⟩ => show ((expert m t).toNat + 1) * 1 ≤ 32; omega
    | ⟨1, _⟩ => show (0 + 1) * 1 ≤ 1; omega
    | ⟨2, _⟩ => show (0 + 1) * 2048 ≤ 2048; omega
  · obtain ⟨t, rfl⟩ := coords_at i
    rw [e3]
    have := h t
    match a with
    | ⟨0, _⟩ => show ((expert m t).toNat + 1) * 1 ≤ 32; omega
    | ⟨1, _⟩ => show (0 + 1) * 1024 ≤ 1024; omega
    | ⟨2, _⟩ => show (0 + 1) * 1024 ≤ 1024; omega
  · obtain ⟨t, rfl⟩ := coords_at i
    rw [e4]
    have := h t
    match a with
    | ⟨0, _⟩ => show ((expert m t).toNat + 1) * 1 ≤ 32; omega
    | ⟨1, _⟩ => show (0 + 1) * 1 ≤ 1; omega
    | ⟨2, _⟩ => show (0 + 1) * 1024 ≤ 1024; omega

/-- The precondition's two comparisons, together: a block's expert is one of the thirty-two. -/
theorem range_of (w : BitVec 32) (h1 : IntOp.cmpi .sge w 0#32 = 1#1) (h2 : IntOp.cmpi .slt w 32#32 = 1#1) : w.toNat < 32 := by
  simp only [IntOp.cmpi, ofBool_one] at h1 h2
  have a1 : (0#32).sle w = true := h1
  have a2 : w.slt 32#32 = true := h2
  rw [BitVec.sle_iff_toInt_le] at a1
  rw [BitVec.slt_iff_toInt_lt] at a2
  rw [show (0#32).toInt = 0 from rfl] at a1
  rw [show (32#32).toInt = 32 from rfl] at a2
  have e := BitVec.toInt_eq_toNat_cond w
  have := w.isLt
  split_ifs at e <;> omega

theorem slice_at (x : IVec Cert.Pre_experts_exist.S545 32) (n : Fin 544) :
    extractStridedSlice Cert.Pre_experts_exist.S544 ![0] x Cert.Pre_experts_exist.Facts.slices_S545_S544_0 (ix1 n)
      = x (ix1 ⟨n.val, by omega⟩) := by
  refine extractStridedSlice_apply ![0] x _ _ _ fun a => ?_
  match a with
  | ⟨0, _⟩ => show n.val = 0 + n.val; omega

theorem ok_of_pre (a1 a2 a3 a4 a5)
    (h1 : (Cert.Pre_experts_exist.fn (F := F) (m (((0 : Dev nD).tc : Thread nD τ).loc main_arg0)) a1 a2 a3 a4 a5).1 = fun _ => 1#1)
    (h2 : (Cert.Pre_experts_exist.fn (F := F) (m (((0 : Dev nD).tc : Thread nD τ).loc main_arg0)) a1 a2 a3 a4 a5).2 = fun _ => 1#1) : Ok m := by
  refine ok_of_experts m fun t => ?_
  have ht := lt_of_lt_of_eq t.isLt N_0
  have k1 := congrFun h1 (ix1 ⟨t.val, ht⟩)
  have k2 := congrFun h2 (ix1 ⟨t.val, ht⟩)
  have e : expert m t = extractStridedSlice Cert.Pre_experts_exist.S544 ![0] (m (((0 : Dev nD).tc : Thread nD τ).loc main_arg0))
      Cert.Pre_experts_exist.Facts.slices_S545_S544_0 (ix1 ⟨t.val, ht⟩) := by
    have := V_main_arg0 m 0
    show (V m 0 main_arg0 : S545.Idx → BitVec 32) _ = _
    rw [this]
    exact (slice_at _ ⟨t.val, ht⟩).symm
  rw [e]
  exact range_of _ k1 k2

theorem kept (hO : Ok m) (r : PUnit × MemSt nD τ sig (Elt F)) (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide : main_arg0 ∈ Pipeline.restRefs sig spec0)).trans (V_main_arg0 m c),
    (Pipeline.FramePost.in_eq h c 0 rfl).trans ((A_eq m hO c 0).trans (V_main_arg1 m c)),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c)⟩

/-- The frame. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept m hO r h.1 c, h.2⟩) (run_main_quiescent m ρ hO)

/-- The run with the result array named. -/
theorem run_blocks (hO : Ok m) : θ_run defs (onTc (τ := τ) (main (F := F))) ⟨m, fun _ => 0, ρ⟩ (fun r => ∀ c : Dev nD,
      r.2.mem ((c.tc : Thread nD τ).loc main_v6) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 5, kept m hO r h.1 c⟩) (run_main_quiescent m ρ hO)

/-- Distinct points write distinct blocks, -/
theorem idx_inj5 (hO : Ok m) (t t' : Fin (cfgM m hO).N) (h : ((cfgM m hO).win 5).index t = ((cfgM m hO).win 5).index t') : t = t' := by
  rw [idx5 m hO t, idx5 m hO t'] at h
  exact Fin.ext (congrFun h 0)

theorem disjoint5 (hO : Ok m) : ∀ t t' : Fin (cfgM m hO).N, ((cfgM m hO).win 5).flush t = true → ((cfgM m hO).win 5).flush t' = true → t ≠ t' →
    Disjoint (((cfgM m hO).win 5).blk t).view.set (((cfgM m hO).win 5).blk t').view.set :=
  fun t t' _ _ hne => ((cfgM m hO).win 5).disjoint_blk fun h => hne (idx_inj5 m hO t t' h)

/-- so a point's block of the result is what the point wrote. -/
theorem blocks5 (hO : Ok m) (c : Dev nD) (t : Fin (cfgM m hO).N) :
    (((cfgM m hO).win 5).blk t).view.read (Elt F) ((dats m hO 0 c).arrAt 5 (cfgM m hO).N) = ((cfgM m hO).win 5).cut (grid0.coords t) (left m hO c t) :=
  ((dats m hO 0 c).read_blk_arrAt_eq_flushed 5 (disjoint5 m hO) (cfgM m hO).N t t.isLt (flush0_5 (adm m hO) t)).trans (by
    show ((cfgM m hO).win 5).cut (grid0.coords t) ((dats m hO 0 c).after 5 t) = _
    rw [after0_5])

theorem block_at (hO : Ok m) (t : Fin grid0.N) (G : S278528x1024.Idx → Elt F .bf16) (r : Fin 512) (d : Fin 1024) :
    (((cfgM m hO).win 5).blk t).view.read (Elt F) G (ix2 r d) = G (ix2 (rowAt t r) d) := by
  blk_ext [idx5 m hO t, rowAt]

/-- The result array after the run, at every row. -/
theorem final (hO : Ok m) (c : Dev nD) (t : Fin grid0.N) (r : Fin 512) (d : Fin 1024) :
    ((dats m hO 0 c).arrAt 5 (cfgM m hO).N : S278528x1024.Idx → Elt F .bf16) (ix2 (rowAt t r) d) = left m hO c t (ix2 r d) :=
  (block_at m hO t _ r d).symm.trans (congrFun (blocks5 m hO c t) (ix2 r d))

end Cert.Kernel3Ideal.Moe

end
-- ==== Proof.MoeMath.lean ====
/- What a block in use computes: the words' halves as numbers, the hidden layer, the gated activation, the result. -/
module

public import proofs.«01_k».proof.Proof.Gen.Kernel3Ideal.Skeleton
public import Idealize.ShloMosaic.Lib.Claim
public import Idealize.ShloMosaic.Lib.Pointwise

@[expose] public section

set_option maxRecDepth 16384

noncomputable section

namespace Cert.Kernel3Ideal.Moe

open Cert.Kernel3Ideal Cert.Kernel3Ideal.Gen Idealize.ShloMosaic Idealize.ShloMosaic.TcCoe Idealize.SL.Sem

/-- The two features a token's word holds: its high half, and its low half. -/
def high (w : BitVec 32) : EReal := Ideal.ofBits .f32 (IntOp.andi w 4294901760#32)
def low (w : BitVec 32) : EReal := Ideal.ofBits .f32 (IntOp.shli .vector w 16#32)

/-- The hidden layer before its activation: a token's features are the high halves of its words, then the low halves. -/
def hidden (w : Fin 512 → BitVec 32) (W : Fin 1024 → Fin 2048 → EReal) (B : Fin 2048 → EReal) (n : Fin 2048) : EReal :=
  (∑ k : Fin 512, high (w k) * W ⟨k.val, by omega⟩ n) + (∑ k : Fin 512, low (w k) * W ⟨512 + k.val, by omega⟩ n) + B n

/-- The gated activation, its gate a quotient. -/
def act (g l : EReal) : EReal :=
  Ideal.div (min g (Ideal.ofBits .f32 0x40E00000#32))
      (1 + Ideal.exp (Ideal.ofBits .f32 0xBFD9DB23#32 * min g (Ideal.ofBits .f32 0x40E00000#32)))
    * (min (Ideal.ofBits .f32 0x40E00000#32) (max (Ideal.ofBits .f32 0xC0E00000#32) l) + 1)

/-- A token's result. -/
def answer (w : Fin 512 → BitVec 32) (W : Fin 1024 → Fin 2048 → EReal) (B : Fin 2048 → EReal)
    (D : Fin 1024 → Fin 1024 → EReal) (E : Fin 1024 → EReal) (d : Fin 1024) : EReal :=
  (∑ f : Fin 1024, act (hidden w W B ⟨f.val, by omega⟩) (hidden w W B ⟨1024 + f.val, by omega⟩) * D f d) + E d

theorem first_at (v : FVec Ideal S1x1024x2048 .f32) (k : Fin 1024) (n : Fin 2048) :
    (k0_pay1 (F := Ideal) v (ix2 k n) : EReal) = v (ix3 0 k n) := by
  pointwise [k0_pay1]

theorem second_at (v : FVec Ideal S1x1024x1024 .f32) (k n : Fin 1024) :
    (k0_pay2 (F := Ideal) v (ix2 k n) : EReal) = v (ix3 0 k n) := by
  pointwise [k0_pay2]

theorem bias_at (v : FVec Ideal S1x1x1024 .f32) (r : Fin 512) (n : Fin 1024) :
    (k0_pay6 (F := Ideal) v (ix2 r n) : EReal) = v (ix3 0 0 n) := by
  pointwise [k0_pay6]

theorem sum_at (x y : FVec Ideal S512x1024 .f32) (i : S512x1024.Idx) :
    (k0_pay3 (F := Ideal) x y i : EReal) = x i + y i := rfl

theorem zero_at (i : S512x1024.Idx) : (k0_pay4 (F := Ideal) i : EReal) = 0 := by
  show Ideal.ofBits .bf16 0x0000#16 = 0
  simp [Ideal.ofBits, Ideal.ieee]

theorem product_at (x : IVec S512x512 32) (W : FVec Ideal S1024x2048 .bf16) (B : FVec Ideal S1x1x2048 .f32)
    (D : FVec Ideal S1024x1024 .bf16) (r : Fin 512) (d : Fin 1024) :
    (k0_pay5 (F := Ideal) x W B D (ix2 r d) : EReal)
      = ∑ f : Fin 1024, act (hidden (fun k => x (ix2 r k)) (fun k n => W (ix2 k n)) (fun n => B (ix3 0 0 n)) ⟨f.val, by omega⟩)
          (hidden (fun k => x (ix2 r k)) (fun k n => W (ix2 k n)) (fun n => B (ix3 0 0 n)) ⟨1024 + f.val, by omega⟩) * D (ix2 f d) := by
  pointwise [k0_pay5]
  rfl

end Cert.Kernel3Ideal.Moe

end
-- ==== Proof.MoeHost.lean ====
/- What the host code hands the expert kernel, and the result of a block at a row and a column. -/
module

public import proofs.«01_k».proof.Proof.MoeFrame
public import proofs.«01_k».proof.Proof.MoeMath
public import Idealize.ShloMosaic.Lib.StableHlo.RunRead

@[expose] public section

set_option maxRecDepth 16384

noncomputable section

namespace Cert.Kernel3Ideal.Moe

open Cert.Kernel3Ideal Cert.Kernel3Ideal.Gen Idealize.ShloMosaic Idealize.ShloMosaic.TcCoe Idealize.SL.Sem

variable (m : (ℓ : Loc nD τ sig) → Buf (Elt Ideal) ℓ)

theorem host_wgu (c : Dev nD) : V m c main_v0 = shapeCast S32x1024x2048 (m ((c : Thread nD τ).loc main_arg2)) shapeCasts_S1x32x1024x2048_S32x1024x2048 := by
  unfold V
  simp only [hostOps0]
  after_reads_simp
  rfl

theorem host_bgu (c : Dev nD) : V m c main_v2 = broadcastInDim S32x1x2048 ![0, 2] bcast_S32x2048_S32x1x2048_0_2
    (shapeCast S32x2048 (m ((c : Thread nD τ).loc main_arg3)) shapeCasts_S1x32x2048_S32x2048) := by
  unfold V
  simp only [hostOps0]
  after_reads_simp
  rfl

theorem host_wd (c : Dev nD) : V m c main_v3 = shapeCast S32x1024x1024 (m ((c : Thread nD τ).loc main_arg4)) shapeCasts_S1x32x1024x1024_S32x1024x1024 := by
  unfold V
  simp only [hostOps0]
  after_reads_simp
  rfl

theorem host_bd (c : Dev nD) : V m c main_v5 = broadcastInDim S32x1x1024 ![0, 2] bcast_S32x1024_S32x1x1024_0_2
    (shapeCast S32x1024 (m ((c : Thread nD τ).loc main_arg5)) shapeCasts_S1x32x1024_S32x1024) := by
  unfold V
  simp only [hostOps0]
  after_reads_simp
  rfl

theorem host_wgu_at (c : Dev nD) (A : FVec Ideal S1x32x1024x2048 .f32) (hA : m ((c : Thread nD τ).loc main_arg2) = A)
    (e : Fin 32) (k : Fin 1024) (n : Fin 2048) : (V m c main_v0 (ix3 e k n) : EReal) = A (ix4 0 e k n) := by
  rw [host_wgu, hA]
  exact shapeCast_apply A shapeCasts_S1x32x1024x2048_S32x1024x2048 (ix3 e k n) (ix4 0 e k n)
    (by rewrite [Shape.rowMajor_val_four, Shape.rowMajor_val_three]; show ((0 * 32 + e.val) * 1024 + k.val) * 2048 + n.val = (e.val * 1024 + k.val) * 2048 + n.val; omega)

theorem host_bgu_at (c : Dev nD) (A : FVec Ideal S1x32x2048 .f32) (hA : m ((c : Thread nD τ).loc main_arg3) = A)
    (e : Fin 32) (n : Fin 2048) : (V m c main_v2 (ix3 e 0 n) : EReal) = A (ix3 0 e n) := by
  rw [host_bgu, hA]
  refine Eq.trans (congrArg (shapeCast S32x2048 A shapeCasts_S1x32x2048_S32x2048) (?_ : _ = ix2 e n)) ?_
  · funext a
    match a with
    | ⟨0, _⟩ => rfl
    | ⟨1, _⟩ => rfl
  · exact shapeCast_apply A shapeCasts_S1x32x2048_S32x2048 (ix2 e n) (ix3 0 e n)
      (by rewrite [Shape.rowMajor_val_three, Shape.rowMajor_val_two]; show (0 * 32 + e.val) * 2048 + n.val = e.val * 2048 + n.val; omega)

theorem host_wd_at (c : Dev nD) (A : FVec Ideal S1x32x1024x1024 .f32) (hA : m ((c : Thread nD τ).loc main_arg4) = A)
    (e : Fin 32) (k n : Fin 1024) : (V m c main_v3 (ix3 e k n) : EReal) = A (ix4 0 e k n) := by
  rw [host_wd, hA]
  exact shapeCast_apply A shapeCasts_S1x32x1024x1024_S32x1024x1024 (ix3 e k n) (ix4 0 e k n)
    (by rewrite [Shape.rowMajor_val_four, Shape.rowMajor_val_three]; show ((0 * 32 + e.val) * 1024 + k.val) * 1024 + n.val = (e.val * 1024 + k.val) * 1024 + n.val; omega)

theorem host_bd_at (c : Dev nD) (A : FVec Ideal S1x32x1024 .f32) (hA : m ((c : Thread nD τ).loc main_arg5) = A)
    (e : Fin 32) (n : Fin 1024) : (V m c main_v5 (ix3 e 0 n) : EReal) = A (ix3 0 e n) := by
  rw [host_bd, hA]
  refine Eq.trans (congrArg (shapeCast S32x1024 A shapeCasts_S1x32x1024_S32x1024) (?_ : _ = ix2 e n)) ?_
  · funext a
    match a with
    | ⟨0, _⟩ => rfl
    | ⟨1, _⟩ => rfl
  · exact shapeCast_apply A shapeCasts_S1x32x1024_S32x1024 (ix2 e n) (ix3 0 e n)
      (by rewrite [Shape.rowMajor_val_three, Shape.rowMajor_val_two]; show (0 * 32 + e.val) * 1024 + n.val = e.val * 1024 + n.val; omega)

/-- A block's result at a row and a column, where the block is in use. -/
theorem used_at (hO : Ok m) (c : Dev nD) (t : Fin grid0.N) (r : Fin 512) (d : Fin 1024)
    (x1 : IVec S278528x512 32) (x2 : FVec Ideal S1x32x1024x2048 .f32) (x3 : FVec Ideal S1x32x2048 .f32)
    (x4 : FVec Ideal S1x32x1024x1024 .f32) (x5 : FVec Ideal S1x32x1024 .f32)
    (h1 : m ((c : Thread nD τ).loc main_arg1) = x1) (h2 : m ((c : Thread nD τ).loc main_arg2) = x2)
    (h3 : m ((c : Thread nD τ).loc main_arg3) = x3) (h4 : m ((c : Thread nD τ).loc main_arg4) = x4)
    (h5 : m ((c : Thread nD τ).loc main_arg5) = x5) :
    (k0_pay3 (F := Ideal) (k0_pay5 (iblk m hO c 0 t) (wgu m hO c t) (iblk m hO c 2 t) (wd m hO c t)) (k0_pay6 (iblk m hO c 4 t)) (ix2 r d) : EReal)
      = answer (fun k => x1 (ix2 (rowAt t r) k)) (fun k n => x2 (ix4 0 (expertAt m hO t) k n)) (fun n => x3 (ix3 0 (expertAt m hO t) n))
          (fun k n => x4 (ix4 0 (expertAt m hO t) k n)) (fun n => x5 (ix3 0 (expertAt m hO t) n)) d := by
  have ex : ∀ k : Fin 512, (iblk m hO c 0 t (ix2 r k) : BitVec 32) = x1 (ix2 (rowAt t r) k) := fun k => by
    rw [at_x, V_main_arg1, h1]
  have ew : ∀ (k : Fin 1024) (n : Fin 2048), (wgu m hO c t (ix2 k n) : EReal) = x2 (ix4 0 (expertAt m hO t) k n) := fun k n =>
    (first_at _ k n).trans (by rw [at_wgu]; exact host_wgu_at m c x2 h2 _ k n)
  have eb : ∀ n : Fin 2048, (iblk m hO c 2 t (ix3 0 0 n) : EReal) = x3 (ix3 0 (expertAt m hO t) n) := fun n => by
    rw [at_bgu]; exact host_bgu_at m c x3 h3 _ n
  have ed : ∀ k n : Fin 1024, (wd m hO c t (ix2 k n) : EReal) = x4 (ix4 0 (expertAt m hO t) k n) := fun k n =>
    (second_at _ k n).trans (by rw [at_wd]; exact host_wd_at m c x4 h4 _ k n)
  have ee : ∀ n : Fin 1024, (iblk m hO c 4 t (ix3 0 0 n) : EReal) = x5 (ix3 0 (expertAt m hO t) n) := fun n => by
    rw [at_bd]; exact host_bd_at m c x5 h5 _ n
  refine (sum_at _ _ _).trans ?_
  refine congrArg₂ (· + ·) ((product_at _ _ _ _ r d).trans ?_) ((bias_at _ r d).trans (ee d))
  simp only [ex, ew, eb, ed]

end Cert.Kernel3Ideal.Moe

end
-- ==== Proof.MoeGather.lean ====
/- A gather of whole matrices, or of whole rows, by one number each, read at an index. -/
module

public import Idealize.ShloMosaic.Lib.Claim
public import Idealize.ShloMosaic.Lib.Pointwise

@[expose] public section

set_option maxRecDepth 16384

noncomputable section

namespace Cert.MoeGather

open Idealize.ShloMosaic

/-- Taking matrices `[K, N]` of `[E, K, N]` by the numbers `[T, 1]`. -/
abbrev matsDims (E K N T : Nat) (wf : GatherDims.WF ⟨3, ![E, K, N]⟩ ⟨2, ![T, 1]⟩ ⟨3, ![T, K, N]⟩ [1, 2] [0] [] [0] [] 1 ![1, K, N]) :
    GatherDims ⟨3, ![E, K, N]⟩ ⟨2, ![T, 1]⟩ ⟨3, ![T, K, N]⟩ where
  offsetDims := [1, 2]
  collapsedSliceDims := [0]
  operandBatchingDims := []
  startIndicesBatchingDims := []
  startIndexMap := [0]
  indexVectorDim := 1
  sliceSizes := ![1, K, N]
  wf := wf

theorem mats_at {α : Type} {E K N T w : Nat} (hE : 0 < E)
    (wf : GatherDims.WF ⟨3, ![E, K, N]⟩ ⟨2, ![T, 1]⟩ ⟨3, ![T, K, N]⟩ [1, 2] [0] [] [0] [] 1 ![1, K, N])
    (x : (⟨3, ![E, K, N]⟩ : Shape).Idx → α) (idx : IVec ⟨2, ![T, 1]⟩ w) (t : Fin T) (k : Fin K) (n : Fin N) :
    Host.gather (matsDims E K N T wf) x idx (ix3 t k n)
      = x (ix3 ⟨min (idx (ix2 t (0 : Fin 1))).toInt.toNat (E - 1), by omega⟩ k n) := by
  unfold Host.gather
  refine congrArg x (funext fun a => Fin.ext ?_)
  show (matsDims E K N T wf).start (ix3 t k n) idx a + (matsDims E K N T wf).batchCoord (ix3 t k n) a
    + (matsDims E K N T wf).offCoord (ix3 t k n) a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (matsDims E K N T wf).startIndexMap from List.mem_singleton.mpr rfl)]
    have hsi : (matsDims E K N T wf).siIdx (ix3 t k n) ⟨List.idxOf (0 : Fin 3) (matsDims E K N T wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    exact congrArg (fun i => min (idx i).toInt.toNat (E - 1)) hsi
  · unfold GatherDims.start
    rw [dif_neg (show ¬(1 : Fin 3) ∈ (matsDims E K N T wf).startIndexMap from fun h => absurd (List.mem_singleton.mp h) (by decide : ¬(1 : Fin 3) = 0))]
    show 0 + 0 + (matsDims E K N T wf).offCoord (ix3 t k n) (1 : Fin 3) = k.val
    rw [Nat.zero_add]
    rfl
  · unfold GatherDims.start
    rw [dif_neg (show ¬(2 : Fin 3) ∈ (matsDims E K N T wf).startIndexMap from fun h => absurd (List.mem_singleton.mp h) (by decide : ¬(2 : Fin 3) = 0))]
    show 0 + 0 + (matsDims E K N T wf).offCoord (ix3 t k n) (2 : Fin 3) = n.val
    rw [Nat.zero_add]
    rfl

/-- Taking rows `[N]` of `[E, N]` by the numbers `[T, 1]`. -/
abbrev rowsDims (E N T : Nat) (wf : GatherDims.WF ⟨2, ![E, N]⟩ ⟨2, ![T, 1]⟩ ⟨2, ![T, N]⟩ [1] [0] [] [0] [] 1 ![1, N]) :
    GatherDims ⟨2, ![E, N]⟩ ⟨2, ![T, 1]⟩ ⟨2, ![T, N]⟩ where
  offsetDims := [1]
  collapsedSliceDims := [0]
  operandBatchingDims := []
  startIndicesBatchingDims := []
  startIndexMap := [0]
  indexVectorDim := 1
  sliceSizes := ![1, N]
  wf := wf

theorem rows_at {α : Type} {E N T w : Nat} (hE : 0 < E)
    (wf : GatherDims.WF ⟨2, ![E, N]⟩ ⟨2, ![T, 1]⟩ ⟨2, ![T, N]⟩ [1] [0] [] [0] [] 1 ![1, N])
    (x : (⟨2, ![E, N]⟩ : Shape).Idx → α) (idx : IVec ⟨2, ![T, 1]⟩ w) (t : Fin T) (n : Fin N) :
    Host.gather (rowsDims E N T wf) x idx (ix2 t n)
      = x (ix2 ⟨min (idx (ix2 t (0 : Fin 1))).toInt.toNat (E - 1), by omega⟩ n) := by
  unfold Host.gather
  refine congrArg x (funext fun a => Fin.ext ?_)
  show (rowsDims E N T wf).start (ix2 t n) idx a + (rowsDims E N T wf).batchCoord (ix2 t n) a
    + (rowsDims E N T wf).offCoord (ix2 t n) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims E N T wf).startIndexMap from List.mem_singleton.mpr rfl)]
    have hsi : (rowsDims E N T wf).siIdx (ix2 t n) ⟨List.idxOf (0 : Fin 2) (rowsDims E N T wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    exact congrArg (fun i => min (idx i).toInt.toNat (E - 1)) hsi
  · unfold GatherDims.start
    rw [dif_neg (show ¬(1 : Fin 2) ∈ (rowsDims E N T wf).startIndexMap from fun h => absurd (List.mem_singleton.mp h) (by decide : ¬(1 : Fin 2) = 0))]
    show 0 + 0 + (rowsDims E N T wf).offCoord (ix2 t n) (1 : Fin 2) = n.val
    rw [Nat.zero_add]
    rfl

end Cert.MoeGather

end
-- ==== Proof.MoeRef.lean ====
/- The reference's expert layer, read at a block, a row and a column. -/
module

public import proofs.«01_k».proof.Proof.Gen.Reference3Ideal.Read
public import proofs.«01_k».proof.Proof.MoeGather
public import proofs.«01_k».proof.Proof.MoeMath
public import proofs.«01_k».proof.Proof.Soft

@[expose] public section

set_option maxRecDepth 16384

noncomputable section

namespace Cert.Reference3Ideal.MoeRef

open Cert.Reference3Ideal Cert.Reference3Ideal.Gen Cert.Reference3Ideal.Read
open Cert.Kernel3Ideal.Moe (high low hidden act answer)
open Idealize.ShloMosaic Idealize.ShloMosaic.TcCoe Idealize.SL.Sem

variable (x0 : IVec S545 32) (x1 : IVec S278528x512 32) (x2 : FVec Ideal S1x32x1024x2048 .f32) (x3 : FVec Ideal S1x32x2048 .f32)
  (x4 : FVec Ideal S1x32x1024x1024 .f32) (x5 : FVec Ideal S1x32x1024 .f32)

/-! ## The expert of a block -/

/-- A number below 32 is not negative, so the wrap of negative numbers keeps it. -/
theorem wrapped (w y : BitVec 32) (h : w.toNat < 32) : Scalar.select (IntOp.cmpi .slt w 0#32) y w = w := by
  have e : IntOp.cmpi .slt w 0#32 = 0#1 := by
    show BitVec.ofBool (w.slt 0#32) = 0#1
    have : w.slt 0#32 = false := by
      have e := BitVec.toInt_eq_toNat_cond w
      simp only [BitVec.slt, BitVec.toInt_zero, decide_eq_false_iff_not]
      split_ifs at e <;> omega
    rw [this]; rfl
  rw [e]; rfl

theorem number_at (t : Fin 544) (h : (x0 (ix1 ⟨t.val, by omega⟩)).toNat < 32) :
    (val_main_v20 (F := Ideal) x0 (ix2 t 0) : BitVec 32) = x0 (ix1 ⟨t.val, by omega⟩) := by
  refine Eq.trans ?_ (wrapped (x0 (ix1 ⟨t.val, by omega⟩)) (IntOp.addi (x0 (ix1 ⟨t.val, by omega⟩)) 32#32) h)
  have e : (val_main_v0 (F := Ideal) x0 (ix1 t) : BitVec 32) = x0 (ix1 ⟨t.val, by omega⟩) := by
    rw [val_main_v0_apply]
    refine congrArg x0 (funext fun a => ?_)
    match a with
    | ⟨0, _⟩ => rfl
  have e' : idx_main_v20 (ix2 t 0) = ix1 t := funext fun a => by
    match a with
    | ⟨0, _⟩ => rfl
  rw [val_main_v20_apply, e', val_main_v19_apply, val_main_v16_apply, val_main_v18_apply, e]
  rfl

/-- The clamp of a gather keeps it too. -/
theorem clamped (w : BitVec 32) (e : Fin 32) (h : w.toNat = e.val) : min w.toInt.toNat (32 - 1) = e.val := by
  have k := BitVec.toInt_eq_toNat_cond w
  have := e.isLt
  split_ifs at k <;> omega

/-! ## The weights and biases of a block's expert -/

/-- Row `r` of block `t`. -/
abbrev rowOf (t : Fin 544) (r : Fin 512) : Fin 278528 := ⟨512 * t.val + r.val, by omega⟩

section

variable (t : Fin 544) (e : Fin 32) (he : (x0 (ix1 ⟨t.val, by omega⟩)).toNat = e.val)
include he

theorem start : min (val_main_v20 (F := Ideal) x0 (ix2 t (0 : Fin 1)) : BitVec 32).toInt.toNat (32 - 1) = e.val := by
  rw [number_at x0 t (by rw [he]; exact e.isLt)]
  exact clamped _ e he

theorem wgu_at (k : Fin 1024) (n : Fin 2048) : (val_main_v21 (F := Ideal) x0 x2 (ix3 t k n) : EReal) = x2 (ix4 0 e k n) := by
  unfold val_main_v21
  refine Eq.trans (Cert.MoeGather.mats_at (E := 32) (K := 1024) (N := 2048) (T := 544) (by decide) _ _ _ t k n) ?_
  rw [show (⟨min (val_main_v20 (F := Ideal) x0 (ix2 t (0 : Fin 1)) : BitVec 32).toInt.toNat (32 - 1), by omega⟩ : Fin 32) = e from
    Fin.ext (start x0 t e he)]
  exact shapeCast_apply x2 shapeCasts_S1x32x1024x2048_S32x1024x2048 (ix3 e k n) (ix4 0 e k n)
    (by rewrite [Shape.rowMajor_val_four, Shape.rowMajor_val_three]; show ((0 * 32 + e.val) * 1024 + k.val) * 2048 + n.val = (e.val * 1024 + k.val) * 2048 + n.val; omega)

theorem wd_at (k n : Fin 1024) : (val_main_v58 (F := Ideal) x0 x4 (ix3 t k n) : EReal) = x4 (ix4 0 e k n) := by
  unfold val_main_v58
  refine Eq.trans (Cert.MoeGather.mats_at (E := 32) (K := 1024) (N := 1024) (T := 544) (by decide) _ _ _ t k n) ?_
  rw [show (⟨min (val_main_v57 (F := Ideal) x0 (ix2 t (0 : Fin 1)) : BitVec 32).toInt.toNat (32 - 1), by omega⟩ : Fin 32) = e from
    Fin.ext (start x0 t e he)]
  exact shapeCast_apply x4 shapeCasts_S1x32x1024x1024_S32x1024x1024 (ix3 e k n) (ix4 0 e k n)
    (by rewrite [Shape.rowMajor_val_four, Shape.rowMajor_val_three]; show ((0 * 32 + e.val) * 1024 + k.val) * 1024 + n.val = (e.val * 1024 + k.val) * 1024 + n.val; omega)

theorem bgu_at (n : Fin 2048) : (val_main_v30 (F := Ideal) x0 x3 (ix2 t n) : EReal) = x3 (ix3 0 e n) := by
  unfold val_main_v30
  refine Eq.trans (Cert.MoeGather.rows_at (E := 32) (N := 2048) (T := 544) (by decide) _ _ _ t n) ?_
  rw [show (⟨min (val_main_v29 (F := Ideal) x0 (ix2 t (0 : Fin 1)) : BitVec 32).toInt.toNat (32 - 1), by omega⟩ : Fin 32) = e from
    Fin.ext (start x0 t e he)]
  exact shapeCast_apply x3 shapeCasts_S1x32x2048_S32x2048 (ix2 e n) (ix3 0 e n)
    (by rewrite [Shape.rowMajor_val_three, Shape.rowMajor_val_two]; show (0 * 32 + e.val) * 2048 + n.val = e.val * 2048 + n.val; omega)

theorem bd_at (n : Fin 1024) : (val_main_v67 (F := Ideal) x0 x5 (ix2 t n) : EReal) = x5 (ix3 0 e n) := by
  unfold val_main_v67
  refine Eq.trans (Cert.MoeGather.rows_at (E := 32) (N := 1024) (T := 544) (by decide) _ _ _ t n) ?_
  rw [show (⟨min (val_main_v66 (F := Ideal) x0 (ix2 t (0 : Fin 1)) : BitVec 32).toInt.toNat (32 - 1), by omega⟩ : Fin 32) = e from
    Fin.ext (start x0 t e he)]
  exact shapeCast_apply x5 shapeCasts_S1x32x1024_S32x1024 (ix2 e n) (ix3 0 e n)
    (by rewrite [Shape.rowMajor_val_three, Shape.rowMajor_val_two]; show (0 * 32 + e.val) * 1024 + n.val = e.val * 1024 + n.val; omega)

end

/-! ## The tokens -/

theorem joined_high (i : Fin 278528) (k : Fin 512) :
    (val_main_v12 (F := Ideal) x1 (ix2 i ⟨k.val, by omega⟩) : EReal) = high (x1 (ix2 i k)) := by
  refine Eq.trans (?_ : _ = (val_main_v8 (F := Ideal) x1 (ix2 i k) : EReal)) rfl
  unfold val_main_v12
  generalize val_main_v8 (F := Ideal) x1 = a
  generalize val_main_v11 (F := Ideal) x1 = b
  pointwise

theorem joined_low (i : Fin 278528) (k : Fin 512) :
    (val_main_v12 (F := Ideal) x1 (ix2 i ⟨512 + k.val, by omega⟩) : EReal) = low (x1 (ix2 i k)) := by
  refine Eq.trans (?_ : _ = (val_main_v11 (F := Ideal) x1 (ix2 i k) : EReal)) rfl
  unfold val_main_v12
  generalize val_main_v8 (F := Ideal) x1 = a
  generalize val_main_v11 (F := Ideal) x1 = b
  pointwise

theorem token_at (t : Fin 544) (r : Fin 512) (k : Fin 1024) :
    (val_main_v13 (F := Ideal) x1 (ix3 t r k) : EReal) = val_main_v12 (F := Ideal) x1 (ix2 (rowOf t r) k) :=
  shapeCast_apply _ shapeCasts_S278528x1024_S544x512x1024 (ix3 t r k) (ix2 (rowOf t r) k)
    (by rewrite [Shape.rowMajor_val_three, Shape.rowMajor_val_two]; show (512 * t.val + r.val) * 1024 + k.val = (t.val * 512 + r.val) * 1024 + k.val; omega)

/-- The hidden layer before its activation. -/
theorem hidden_at (t : Fin 544) (e : Fin 32) (he : (x0 (ix1 ⟨t.val, by omega⟩)).toNat = e.val) (r : Fin 512) (n : Fin 2048) :
    (val_main_v33 (F := Ideal) x0 x1 x2 x3 (ix3 t r n) : EReal)
      = hidden (fun k => x1 (ix2 (rowOf t r) k)) (fun k n => x2 (ix4 0 e k n)) (fun n => x3 (ix3 0 e n)) n := by
  rw [val_main_v33_apply, val_main_v22_apply, val_main_v32_apply, val_main_v31_apply]
  refine congrArg₂ (· + ·) ?_ ?_
  · refine Eq.trans (?_ : _ = ∑ k : Fin (512 + 512), (val_main_v12 (F := Ideal) x1 (ix2 (rowOf t r) k) * x2 (ix4 0 e k n) : EReal)) ?_
    · refine Finset.sum_congr rfl fun k _ => congrArg₂ (· * ·) ?_ ?_
      · refine Eq.trans (congrArg (val_main_v13 (F := Ideal) x1) (funext fun a => ?_)) (token_at x1 t r k)
        match a with
        | ⟨0, _⟩ => rfl
        | ⟨1, _⟩ => rfl
        | ⟨2, _⟩ => rfl
      · refine Eq.trans (congrArg (val_main_v21 (F := Ideal) x0 x2) (funext fun a => ?_)) (wgu_at x0 x2 t e he k n)
        match a with
        | ⟨0, _⟩ => rfl
        | ⟨1, _⟩ => rfl
        | ⟨2, _⟩ => rfl
    · rw [Fin.sum_univ_add]
      exact congrArg₂ (· + ·) (Finset.sum_congr rfl fun k _ => congrArg (· * _) (joined_high x1 (rowOf t r) k))
        (Finset.sum_congr rfl fun k _ => congrArg (· * _) (joined_low x1 (rowOf t r) k))
  · refine Eq.trans (congrArg (val_main_v30 (F := Ideal) x0 x3) (funext fun a => ?_)) (bgu_at x0 x3 t e he n)
    match a with
    | ⟨0, _⟩ => rfl
    | ⟨1, _⟩ => rfl

/-! ## The activation -/

/-- The bits of minus the slope are the bits of the slope with the other sign. -/
theorem slope : Ideal.ofBits .f32 0xBFD9DB23#32 = -Ideal.ofBits .f32 0x3FD9DB23#32 := by
  simp [Ideal.ofBits, Ideal.ieee]

theorem one_bits : Ideal.ofBits .f32 0x3F800000#32 = 1 :=
  Ideal.ofBits_one_f32

/-- One more than an exponential is not zero, so a number times the quotient of one by it is the quotient. -/
theorem gate (g z : EReal) : g * Ideal.div 1 (1 + Ideal.exp z) = Ideal.div g (1 + Ideal.exp z) := by
  have h : (1 + Ideal.exp z : EReal) ≠ 0 := by
    have hz : (0 : EReal) ≤ Ideal.exp z := Cert.Soft.exp_nonneg z
    exact (lt_of_lt_of_le zero_lt_one (le_add_of_nonneg_right hz)).ne'
  unfold Ideal.div
  rw [if_neg h, if_neg h, one_mul]

theorem act_at (t : Fin 544) (r : Fin 512) (f : Fin 1024) :
    (val_main_v50 (F := Ideal) x0 x1 x2 x3 (ix3 t r f) : EReal)
      = act (val_main_v33 (F := Ideal) x0 x1 x2 x3 (ix3 t r ⟨f.val, by omega⟩)) (val_main_v33 (F := Ideal) x0 x1 x2 x3 (ix3 t r ⟨1024 + f.val, by omega⟩)) := by
  have e1 : (val_main_v34 (F := Ideal) x0 x1 x2 x3 (ix3 t r f) : EReal) = val_main_v33 (F := Ideal) x0 x1 x2 x3 (ix3 t r ⟨f.val, by omega⟩) := by
    rw [val_main_v34_apply]
    refine congrArg (val_main_v33 (F := Ideal) x0 x1 x2 x3) (funext fun a => ?_)
    match a with
    | ⟨0, _⟩ => rfl
    | ⟨1, _⟩ => rfl
    | ⟨2, _⟩ => rfl
  have e2 : (val_main_v37 (F := Ideal) x0 x1 x2 x3 (ix3 t r f) : EReal) = val_main_v33 (F := Ideal) x0 x1 x2 x3 (ix3 t r ⟨1024 + f.val, by omega⟩) := by
    rw [val_main_v37_apply]
    refine congrArg (val_main_v33 (F := Ideal) x0 x1 x2 x3) (funext fun a => ?_)
    match a with
    | ⟨0, _⟩ => rfl
    | ⟨1, _⟩ => rfl
    | ⟨2, _⟩ => exact Fin.ext (by show _ = 1024 + f.val; first | rfl | omega)
  generalize val_main_v33 (F := Ideal) x0 x1 x2 x3 (ix3 t r ⟨f.val, by omega⟩) = g at e1 ⊢
  generalize val_main_v33 (F := Ideal) x0 x1 x2 x3 (ix3 t r ⟨1024 + f.val, by omega⟩) = l at e2 ⊢
  have e3 : (val_main_v36 (F := Ideal) x0 x1 x2 x3 (ix3 t r f) : EReal) = min g (Ideal.ofBits .f32 0x40E00000#32) := by
    rw [val_main_v36_apply, e1]
    rfl
  have e4 : (val_main_v49 (F := Ideal) x0 x1 x2 x3 (ix3 t r f) : EReal)
      = min (Ideal.ofBits .f32 0x40E00000#32) (max (Ideal.ofBits .f32 0xC0E00000#32) l) + 1 := by
    rw [val_main_v49_apply, val_main_v38_apply, val_main_call0_v2_apply, e2, ← one_bits]
    rfl
  have e5 : (val_main_v46 (F := Ideal) x0 x1 x2 x3 (ix3 t r f) : EReal)
      = Ideal.div 1 (1 + Ideal.exp (Ideal.ofBits .f32 0xBFD9DB23#32 * min g (Ideal.ofBits .f32 0x40E00000#32))) := by
    rw [val_main_v46_apply, val_main_v44_apply, val_main_v42_apply, val_main_v41_apply, val_main_v40_apply, e3, slope, EReal.neg_mul, ← one_bits]
    rfl
  rw [val_main_v50_apply, val_main_v47_apply, e3, e4, e5]
  exact congrArg (· * _) (gate _ _)

/-! ## The result -/

theorem in_use (t : Fin 544) (r : Fin 512) (d : Fin 1024) : (val_main_call1_v1 (F := Ideal) x0 (ix3 t r d) : BitVec 1)
    = IntOp.cmpi .slt (BitVec.ofNat 32 t.val) (x0 (ix1 ⟨544, by omega⟩)) := by
  have e : ∀ j : S1.Idx, (val_main_v2 (F := Ideal) x0 j : BitVec 32) = x0 (ix1 ⟨544, by omega⟩) := fun j => by
    rw [val_main_v2_apply]
    refine congrArg x0 (funext fun a => ?_)
    match a with
    | ⟨0, _⟩ => exact Fin.ext (by have : (j 0).val < 1 := (j 0).isLt; show 544 + (j 0).val = 544; omega)
  rw [val_main_call1_v1_apply, val_main_v71_apply, val_main_v5_apply, val_main_v4_apply]
  exact congrArg (IntOp.cmpi .slt (BitVec.ofNat 32 t.val)) (e _)

theorem out_at (t : Fin 544) (e : Fin 32) (he : (x0 (ix1 ⟨t.val, by omega⟩)).toNat = e.val) (r : Fin 512) (d : Fin 1024) :
    (val_main_v74 (F := Ideal) x0 x1 x2 x3 x4 x5 (ix2 (rowOf t r) d) : EReal)
      = Scalar.select (IntOp.cmpi .slt (BitVec.ofNat 32 t.val) (x0 (ix1 ⟨544, by omega⟩)))
          (answer (fun k => x1 (ix2 (rowOf t r) k)) (fun k n => x2 (ix4 0 e k n)) (fun n => x3 (ix3 0 e n))
            (fun k n => x4 (ix4 0 e k n)) (fun n => x5 (ix3 0 e n)) d) 0 := by
  refine Eq.trans (?_ : _ = (val_main_v72 (F := Ideal) x0 x1 x2 x3 x4 x5 (ix3 t r d) : EReal)) ?_
  · refine Eq.trans (?_ : _ = (val_main_v73 (F := Ideal) x0 x1 x2 x3 x4 x5 (ix2 (rowOf t r) d) : EReal)) ?_
    · rw [val_main_v74_apply]
      rfl
    unfold val_main_v73
    exact shapeCast_apply (val_main_v72 (F := Ideal) x0 x1 x2 x3 x4 x5) shapeCasts_S544x512x1024_S278528x1024 (ix2 (rowOf t r) d) (ix3 t r d)
      (by rewrite [Shape.rowMajor_val_three, Shape.rowMajor_val_two]; show (t.val * 512 + r.val) * 1024 + d.val = (512 * t.val + r.val) * 1024 + d.val; omega)
  · rw [val_main_v72_apply, in_use x0 t]
    refine congrArg₂ (Scalar.select _) ?_ ?_
    · rw [val_main_v70_apply, val_main_v59_apply, val_main_v69_apply, val_main_v68_apply]
      refine congrArg₂ (· + ·) (Finset.sum_congr rfl fun f _ => congrArg₂ (· * ·) ?_ ?_) ?_
      · refine Eq.trans (congrArg (val_main_v50 (F := Ideal) x0 x1 x2 x3) (funext fun a => ?_)) ((act_at x0 x1 x2 x3 t r f).trans
          (congrArg₂ act (hidden_at x0 x1 x2 x3 t e he r _) (hidden_at x0 x1 x2 x3 t e he r _)))
        match a with
        | ⟨0, _⟩ => rfl
        | ⟨1, _⟩ => rfl
        | ⟨2, _⟩ => rfl
      · refine Eq.trans (congrArg (val_main_v58 (F := Ideal) x0 x4) (funext fun a => ?_)) (wd_at x0 x4 t e he f d)
        match a with
        | ⟨0, _⟩ => rfl
        | ⟨1, _⟩ => rfl
        | ⟨2, _⟩ => rfl
      · refine Eq.trans (congrArg (val_main_v67 (F := Ideal) x0 x5) (funext fun a => ?_)) (bd_at x0 x5 t e he d)
        match a with
        | ⟨0, _⟩ => rfl
        | ⟨1, _⟩ => rfl
    · show Ideal.ofBits .f32 0x00000000#32 = 0
      simp [Ideal.ofBits, Ideal.ieee]

end Cert.Reference3Ideal.MoeRef

end
-- ==== Proof.MoeResult.lean ====
/- The array the expert kernel leaves is the reference's. -/
module

public import proofs.«01_k».proof.Proof.MoeHost
public import proofs.«01_k».proof.Proof.MoeRef

@[expose] public section

set_option maxRecDepth 16384

noncomputable section

namespace Cert.Kernel3Ideal.Moe

open Cert.Kernel3Ideal Cert.Kernel3Ideal.Gen Idealize.ShloMosaic Idealize.ShloMosaic.TcCoe Idealize.SL.Sem

variable (m : (ℓ : Loc nD τ sig) → Buf (Elt Ideal) ℓ)

theorem table_word (c : Dev nD) (x0 : IVec S545 32) (h0 : m ((c : Thread nD τ).loc main_arg0) = x0) (n : Fin 545) :
    ((tbl m 0 : S545.Idx → BitVec 32) (ix1 n)) = x0 (ix1 n) := by
  obtain rfl : c = 0 := Subsingleton.elim _ _
  rw [← h0]
  exact congrFun (V_main_arg0 m 0) (ix1 n)

/-- A choice on a word's bit, where the bit is the choice's condition. -/
theorem chosen {α : Type} (p : Prop) [Decidable p] (b : BitVec 1) (h : p ↔ b = 1#1) (x y : α) :
    (if p then x else y) = Scalar.select b x y := by
  rcases BitVec.eq_zero_or_eq_one b with e | e
  · subst e
    rw [if_neg (fun hp => absurd (h.1 hp) (by decide))]
    rfl
  · subst e
    rw [if_pos (h.2 rfl)]
    rfl

theorem left_at (hO : Ok m) (c : Dev nD) (t : Fin grid0.N) (r : Fin 512) (d : Fin 1024)
    (x0 : IVec S545 32) (x1 : IVec S278528x512 32) (x2 : FVec Ideal S1x32x1024x2048 .f32) (x3 : FVec Ideal S1x32x2048 .f32)
    (x4 : FVec Ideal S1x32x1024x1024 .f32) (x5 : FVec Ideal S1x32x1024 .f32)
    (h0 : m ((c : Thread nD τ).loc main_arg0) = x0)
    (h1 : m ((c : Thread nD τ).loc main_arg1) = x1) (h2 : m ((c : Thread nD τ).loc main_arg2) = x2)
    (h3 : m ((c : Thread nD τ).loc main_arg3) = x3) (h4 : m ((c : Thread nD τ).loc main_arg4) = x4)
    (h5 : m ((c : Thread nD τ).loc main_arg5) = x5) :
    (left m hO c t (ix2 r d) : EReal)
      = Scalar.select (IntOp.cmpi .slt (BitVec.ofNat 32 t.val) (x0 (ix1 ⟨544, by omega⟩)))
          (answer (fun k => x1 (ix2 (rowAt t r) k)) (fun k n => x2 (ix4 0 (expertAt m hO t) k n)) (fun n => x3 (ix3 0 (expertAt m hO t) n))
          (fun k n => x4 (ix4 0 (expertAt m hO t) k n)) (fun n => x5 (ix3 0 (expertAt m hO t) n)) d) 0 := by
  have hu : used c (tbl m 0) (grid0.coords t) ↔ IntOp.cmpi .slt (BitVec.ofNat 32 t.val) (x0 (ix1 ⟨544, by omega⟩)) = 1#1 := by
    unfold used
    rw [used_iff, coord_val t, show nUsed c (tbl m 0) = x0 (ix1 ⟨544, by omega⟩) from
      (word_eq c (tbl m 0) _ _ ⟨544, by omega⟩ rfl).trans (table_word m c x0 h0 ⟨544, by omega⟩)]
    exact (ofBool_one _).symm
  rw [← chosen _ _ hu]
  unfold left
  by_cases h : used c (tbl m 0) (grid0.coords t)
  · rw [if_pos h, if_pos h]
    exact used_at m hO c t r d x1 x2 x3 x4 x5 h1 h2 h3 h4 h5
  · rw [if_neg h, if_neg h]
    exact zero_at _

theorem result (hO : Ok m) (c : Dev nD)
    (x0 : IVec S545 32) (h0 : m ((c : Thread nD τ).loc main_arg0) = x0)
    (x1 : IVec S278528x512 32) (h1 : m ((c : Thread nD τ).loc main_arg1) = x1)
    (x2 : FVec Ideal S1x32x1024x2048 .f32) (h2 : m ((c : Thread nD τ).loc main_arg2) = x2)
    (x3 : FVec Ideal S1x32x2048 .f32) (h3 : m ((c : Thread nD τ).loc main_arg3) = x3)
    (x4 : FVec Ideal S1x32x1024x1024 .f32) (h4 : m ((c : Thread nD τ).loc main_arg4) = x4)
    (x5 : FVec Ideal S1x32x1024 .f32) (h5 : m ((c : Thread nD τ).loc main_arg5) = x5) :
    (dats m hO 0 c).arrAt 5 (cfgM m hO).N = Cert.Reference3Ideal.Read.val_main_v74 (F := Ideal) x0 x1 x2 x3 x4 x5 := by
  refine funext fun (i : S278528x1024.Idx) => ?_
  obtain ⟨t, r, d, rfl⟩ : ∃ (t : Fin grid0.N) (r : Fin 512) (d : Fin 1024), i = ix2 (rowAt t r) d := by
    have k0 : (i 0).val < 278528 := (i 0).isLt
    have k1 : (i 1).val < 1024 := (i 1).isLt
    refine ⟨⟨(i 0).val / 512, by rw [N_0]; omega⟩, ⟨(i 0).val % 512, by omega⟩, ⟨(i 1).val, k1⟩, funext fun a => ?_⟩
    match a with
    | ⟨0, _⟩ => exact Fin.ext (show (i 0).val = 512 * ((i 0).val / 512) + (i 0).val % 512 by omega)
    | ⟨1, _⟩ => rfl
  have ht := lt_of_lt_of_eq t.isLt N_0
  refine (final m hO c t r d).trans ((left_at m hO c t r d x0 x1 x2 x3 x4 x5 h0 h1 h2 h3 h4 h5).trans ?_)
  exact (Cert.Reference3Ideal.MoeRef.out_at x0 x1 x2 x3 x4 x5 ⟨t.val, ht⟩ (expertAt m hO t)
    (congrArg BitVec.toNat (table_word m c x0 h0 ⟨t.val, by omega⟩).symm) r d).symm

end Cert.Kernel3Ideal.Moe

end
-- ==== Proof.XaPre.lean ====
/- What the precondition says: the gain, the queries' weights and the keys are finite numbers. -/
module

public import proofs.«01_k».proof.Pre_finite_keys
public import proofs.«01_k».proof.Proof.Gen.Pre_finite_keys
public import proofs.«01_k».proof.Proof.Pre

@[expose] public section

set_option maxRecDepth 16384

noncomputable section

namespace Cert.XaPre

open Cert.Pre_finite_keys Cert.Equation Cert.Pre
open Idealize.ShloMosaic Idealize.ShloMosaic.TcCoe Idealize.SL.Sem

variable [Facts] (x0 : FVec Ideal S16x4096x1024 .f32) (x1 x2 : FVec Ideal S65536x1024 .bf16) (x3 : FVec Ideal S65536x7680 .bf16)
  (x4 : FVec Ideal S1x2x1024 .f32) (x5 x6 x7 : FVec Ideal S1x1024x1024 .f32) (x8 : FVec Ideal S1x1024 .f32)
  (x9 : FVec Ideal S1x1024x1024 .f32) (x10 : FVec Ideal S4096x2048 .bf16) (x11 : FVec Ideal S1x1024x1024 .f32) (x12 : FVec Ideal S1x1024 .f32)
  (x13 : FVec Ideal S1x1024x32 .f32) (x14 : FVec Ideal S1x32 .f32)

theorem gain (h : (fn (F := Ideal) x0 x1 x2 x3 x4 x5 x6 x7 x8 x9 x10 x11 x12 x13 x14).1 = fun _ => 1#1) (k : Fin 1024) : IsReal (x8 (ix2 0 k)) :=
  fin_of _ (congrFun h (ix2 0 k))

theorem weights (h : (fn (F := Ideal) x0 x1 x2 x3 x4 x5 x6 x7 x8 x9 x10 x11 x12 x13 x14).2.1 = fun _ => 1#1) (i k : Fin 1024) : IsReal (x9 (ix3 0 i k)) :=
  fin_of _ (congrFun h (ix3 0 i k))

theorem keys (h : (fn (F := Ideal) x0 x1 x2 x3 x4 x5 x6 x7 x8 x9 x10 x11 x12 x13 x14).2.2 = fun _ => 1#1) (j : Fin 4096) (n : Fin 1024) :
    IsReal (x10 (ix2 j ⟨n.val, by omega⟩)) := by
  have := congrFun h (ix2 j n)
  refine fin_of _ (Eq.trans ?_ this)
  pointwise [fn]
  rfl

end Cert.XaPre
-- ==== Proof.XaMath.lean ====
/- What the merge, the cross-attention and the norm before the experts compute from one block of rows, element by element. -/
module

public import proofs.«01_k».proof.Proof.Gen.Kernel4Ideal.Skeleton
public import proofs.«01_k».proof.Proof.NormRow
public import Idealize.ShloMosaic.Lib.Pointwise

@[expose] public section

set_option maxRecDepth 16384

noncomputable section

namespace Cert.Kernel4Ideal.Xa

open Cert.Kernel4Ideal Cert.Kernel4Ideal.Gen Idealize.ShloMosaic Idealize.ShloMosaic.TcCoe Idealize.SL.Sem
open Cert.Kernel2Ideal.NormRow (normed)

/-- A product over a logistic denominator: `a` times the sigmoid of `z`, as a quotient. -/
def gated (a z : EReal) : EReal := Ideal.div a (1 + Ideal.exp (0 - z))

/-- A row of scores softmaxed against a column of values, divided at the end. -/
def attn (S v : Fin 256 → EReal) : EReal :=
  Ideal.div (∑ k, Ideal.exp (S k - Finset.univ.fold max ⊥ S) * v k) (∑ k, Ideal.exp (S k - Finset.univ.fold max ⊥ S))

/-- A query's score at a key. -/
def score (q k : Fin 256 → EReal) : EReal := (∑ x, q x * k x) * Ideal.ofBits .f32 0x3D800000#32

theorem neg_inf : Ideal.ofBits .f32 0xFF800000#32 = ⊥ := by
  simp [Ideal.ofBits, Ideal.ieee]

theorem merged_at (a : FVec Ideal S512x1024 .bf16) (wa : FVec Ideal S1024x1024 .bf16) (b : FVec Ideal S512x1024 .bf16)
    (wb : FVec Ideal S1024x1024 .bf16) (g : FVec Ideal S2x1024 .f32) (ga gb : FVec Ideal S512x1024 .bf16) (r : Fin 512) (n : Fin 1024) :
    (k0_pay3 (F := Ideal) a wa b wb g ga gb (ix2 r n) : EReal)
      = gated (∑ k : Fin 1024, (a (ix2 r k) * wa (ix2 k n) : EReal)) (ga (ix2 r n) + g (ix2 0 n))
        + gated (∑ k : Fin 1024, (b (ix2 r k) * wb (ix2 k n) : EReal)) (gb (ix2 r n) + g (ix2 1 n)) := by
  pointwise [k0_pay3]
  rfl

theorem mixed_at (x : FVec Ideal S512x1024 .f32) (y : FVec Ideal S512x1024 .bf16) (w : FVec Ideal S1024x1024 .bf16) (r : Fin 512) (n : Fin 1024) :
    (k0_pay4 (F := Ideal) x y w (ix2 r n) : EReal) = x (ix2 r n) + ∑ k : Fin 1024, (y (ix2 r k) * w (ix2 k n) : EReal) := by
  pointwise [k0_pay4]

theorem query_at (x : FVec Ideal S512x1024 .f32) (y : FVec Ideal S512x1024 .bf16) (w : FVec Ideal S1024x1024 .bf16)
    (g : FVec Ideal S1x1024 .f32) (wq : FVec Ideal S1024x1024 .bf16) (r : Fin 512) (n : Fin 1024) :
    (k0_pay5 (F := Ideal) x y w g wq (ix2 r n) : EReal)
      = ∑ k : Fin 1024, (normed (fun j => k0_pay4 (F := Ideal) x y w (ix2 r j)) (fun j => g (ix2 0 j)) k * wq (ix2 k n) : EReal) := by
  unfold k0_pay5
  generalize k0_pay4 (F := Ideal) x y w = z
  pointwise
  rfl

/-- Head 0. -/
theorem head0_at (x : FVec Ideal S512x1024 .f32) (y : FVec Ideal S512x1024 .bf16) (w : FVec Ideal S1024x1024 .bf16)
    (g : FVec Ideal S1x1024 .f32) (wq : FVec Ideal S1024x1024 .bf16) (K V : FVec Ideal S256x256 .bf16) (r : Fin 512) (d : Fin 256) :
    (k0_pay6 (F := Ideal) x y w g wq K V (ix2 r d) : EReal)
      = attn (fun k => score (fun i => k0_pay5 (F := Ideal) x y w g wq (ix2 r ⟨i.val, by omega⟩)) (fun i => K (ix2 k i))) (fun k => V (ix2 k d)) := by
  unfold k0_pay6
  generalize k0_pay5 (F := Ideal) x y w g wq = q
  pointwise
  simp only [neg_inf]
  rfl

theorem head1_at (q : FVec Ideal S512x1024 .bf16) (K V : FVec Ideal S256x256 .bf16) (r : Fin 512) (d : Fin 256) :
    (k0_pay7 (F := Ideal) q K V (ix2 r d) : EReal)
      = attn (fun k => score (fun i => q (ix2 r ⟨256 + i.val, by omega⟩)) (fun i => K (ix2 k i))) (fun k => V (ix2 k d)) := by
  pointwise [k0_pay7]
  simp only [neg_inf]
  rfl

theorem head2_at (q : FVec Ideal S512x1024 .bf16) (K V : FVec Ideal S256x256 .bf16) (r : Fin 512) (d : Fin 256) :
    (k0_pay8 (F := Ideal) q K V (ix2 r d) : EReal)
      = attn (fun k => score (fun i => q (ix2 r ⟨512 + i.val, by omega⟩)) (fun i => K (ix2 k i))) (fun k => V (ix2 k d)) := by
  pointwise [k0_pay8]
  simp only [neg_inf]
  rfl

theorem scores3_at (q : FVec Ideal S512x1024 .bf16) (K : FVec Ideal S256x256 .bf16) (r : Fin 512) (k : Fin 256) :
    (k0_pay9 (F := Ideal) q K (ix2 r k) : EReal) = ∑ i : Fin 256, (q (ix2 r ⟨768 + i.val, by omega⟩) * K (ix2 k i) : EReal) := by
  pointwise [k0_pay9]

/-- The last head, from its scores. -/
def last (v115 : FVec Ideal S512x256 .f32) (v126 : FVec Ideal S256x256 .bf16) : FVec Ideal S512x256 .bf16 :=
  have cst_58 : Ideal .f32 := Scalar.ofBits .f32 0x3D800000#32
  have v116 : FVec Ideal S512x256 .f32 := broadcast S512x256 cst_58
  have v117 : FVec Ideal S512x256 .f32 := mulf v115 v116
  have v118 : FVec Ideal S512 .f32 := multiReduction .maximumf [1] S512 v117 0xFF800000#32 reduces_S512x256_S512 (.inl rfl) rfl
  have v119 : FVec Ideal S512x1 .f32 := shapeCast S512x1 v118 shapeCasts_S512_S512x1
  have v120 : FVec Ideal S512x256 .f32 := broadcastTo S512x256 v119 broadcasts_S512x1_S512x256
  have v121 : FVec Ideal S512x256 .f32 := subf v117 v120
  have v122 : FVec Ideal S512x256 .f32 := exp v121
  have v123 : FVec Ideal S512 .f32 := multiReduction .add [1] S512 v122 0x00000000#32 reduces_S512x256_S512 (.inl rfl) rfl
  have v124 : FVec Ideal S512x1 .f32 := shapeCast S512x1 v123 shapeCasts_S512_S512x1
  have v125 : FVec Ideal S512x256 .bf16 := truncf .bf16 v122 bitsLt_bf16_f32
  have cst_63 : FVec Ideal S512x256 .f32 := constant S512x256 .f32 0x00000000#32
  have v127 : FVec Ideal S512x256 .f32 := matmul dot_S512x256_S256x256_S512x256_1_0_0_1_n_n none v125 v126 cst_63
  have v128 : FVec Ideal S512x256 .f32 := broadcastTo S512x256 v124 broadcasts_S512x1_S512x256
  have v129 : FVec Ideal S512x256 .f32 := divf v127 v128
  truncf .bf16 v129 bitsLt_bf16_f32

/-- The four heads side by side, times the output weights, plus what came in. -/
def closing (x : FVec Ideal S512x1024 .f32) (h0 h1 h2 h3 : FVec Ideal S512x256 .bf16) (wo : FVec Ideal S1024x1024 .bf16) : FVec Ideal S512x1024 .f32 :=
  addf x (matmul dot_S512x1024_S1024x1024_S512x1024_1_0_0_1_n_n none
    (concatenate S512x1024 1 [⟨S512x256, h0⟩, ⟨S512x256, h1⟩, ⟨S512x256, h2⟩, ⟨S512x256, h3⟩] concatenates_S512x256_S512x256_S512x256_S512x256_S512x1024_d1)
    (shapeCast S1024x1024 wo shapeCasts_S1024x1024_S1024x1024) (constant S512x1024 .f32 0x00000000#32))

theorem closing_eq (x : FVec Ideal S512x1024 .f32) (h0 h1 h2 : FVec Ideal S512x256 .bf16) (s : FVec Ideal S512x256 .f32)
    (V : FVec Ideal S256x256 .bf16) (wo : FVec Ideal S1024x1024 .bf16) :
    k0_pay10 (F := Ideal) x h0 h1 h2 s V wo = closing x h0 h1 h2 (last s V) wo := rfl

theorem last_at (s : FVec Ideal S512x256 .f32) (V : FVec Ideal S256x256 .bf16) (r : Fin 512) (d : Fin 256) :
    (last s V (ix2 r d) : EReal) = attn (fun k => s (ix2 r k) * Ideal.ofBits .f32 0x3D800000#32) (fun k => V (ix2 k d)) := by
  pointwise [last]
  simp only [neg_inf]
  rfl

/-- As `closing`, with the four heads as one row `f`. -/
theorem closing_at (x : FVec Ideal S512x1024 .f32) (h0 h1 h2 h3 : FVec Ideal S512x256 .bf16) (wo : FVec Ideal S1024x1024 .bf16)
    (r : Fin 512) (n : Fin 1024) (f : Fin 1024 → EReal)
    (f0 : ∀ j : Fin 256, (h0 (ix2 r j) : EReal) = f ⟨j.val, by omega⟩) (f1 : ∀ j : Fin 256, (h1 (ix2 r j) : EReal) = f ⟨256 + j.val, by omega⟩)
    (f2 : ∀ j : Fin 256, (h2 (ix2 r j) : EReal) = f ⟨512 + j.val, by omega⟩) (f3 : ∀ j : Fin 256, (h3 (ix2 r j) : EReal) = f ⟨768 + j.val, by omega⟩) :
    (closing x h0 h1 h2 h3 wo (ix2 r n) : EReal) = x (ix2 r n) + ∑ e : Fin 1024, (f e * wo (ix2 e n) : EReal) := by
  pointwise [closing]
  refine congrArg (_ + ·) (Finset.sum_congr rfl fun e _ => congrArg (· * (wo (ix2 e n) : EReal)) ?_)
  have he := e.isLt
  by_cases a : e.val < 256
  · exact (dif_pos a).trans (f0 ⟨e.val, a⟩)
  refine (dif_neg a).trans ?_
  by_cases b : e.val - 256 < 256
  · exact (dif_pos b).trans ((f1 ⟨e.val - 256, b⟩).trans (congrArg f (Fin.ext (show 256 + (e.val - 256) = e.val by omega))))
  refine (dif_neg b).trans ?_
  by_cases d : e.val - 256 - 256 < 256
  · exact (dif_pos d).trans ((f2 ⟨e.val - 256 - 256, d⟩).trans (congrArg f (Fin.ext (show 512 + (e.val - 256 - 256) = e.val by omega))))
  refine (dif_neg d).trans ?_
  exact (f3 ⟨e.val - 256 - 256 - 256, by omega⟩).trans (congrArg f (Fin.ext (show 768 + (e.val - 256 - 256 - 256) = e.val by omega)))

theorem normed_at (x : FVec Ideal S512x1024 .f32) (h0 h1 h2 : FVec Ideal S512x256 .bf16) (s : FVec Ideal S512x256 .f32)
    (V : FVec Ideal S256x256 .bf16) (wo : FVec Ideal S1024x1024 .bf16) (g : FVec Ideal S1x1024 .f32) (r : Fin 512) (n : Fin 1024) :
    (k0_pay12 (F := Ideal) x h0 h1 h2 s V wo g (ix2 r n) : EReal)
      = normed (fun j => k0_pay10 (F := Ideal) x h0 h1 h2 s V wo (ix2 r j)) (fun j => g (ix2 0 j)) n := by
  unfold k0_pay12 k0_pay11
  generalize k0_pay10 (F := Ideal) x h0 h1 h2 s V wo = z
  pointwise
  rfl

/-- A row after the merge of the two branches: `x` plus the gated branches' sum times the mixing weights. -/
def mix (x oa ob za zb : Fin 1024 → EReal) (wa wb wm : Fin 1024 → Fin 1024 → EReal) (n : Fin 1024) : EReal :=
  x n + ∑ k, (gated (∑ i, oa i * wa i k) (za k) + gated (∑ i, ob i * wb i k) (zb k)) * wm k n

/-- A row's queries. -/
def asked (y g : Fin 1024 → EReal) (wq : Fin 1024 → Fin 1024 → EReal) (n : Fin 1024) : EReal := ∑ k, normed y g k * wq k n

/-- Feature `i` of the head that feature `e` belongs to. -/
def within (e : Fin 1024) (i : Fin 256) : Fin 1024 := ⟨256 * (e.val / 256) + i.val, by omega⟩

/-- Feature `e` of what the memory answers. -/
def lane (q : Fin 1024 → EReal) (K V : Fin 256 → Fin 1024 → EReal) (e : Fin 1024) : EReal :=
  attn (fun k => score (fun i => q (within e i)) (fun i => K k (within e i))) (fun k => V k e)

/-- A row after the cross-attention. -/
def attended (y q : Fin 1024 → EReal) (K V : Fin 256 → Fin 1024 → EReal) (wo : Fin 1024 → Fin 1024 → EReal) (n : Fin 1024) : EReal :=
  y n + ∑ e, lane q K V e * wo e n

theorem lane_of (q : Fin 1024 → EReal) (K V : Fin 256 → Fin 1024 → EReal) (e : Fin 1024) (u : Fin 256 → Fin 1024)
    (hu : ∀ i, (u i).val = 256 * (e.val / 256) + i.val) :
    lane q K V e = attn (fun k => score (fun i => q (u i)) (fun i => K k (u i))) (fun k => V k e) := by
  have e1 : within e = u := funext fun i => Fin.ext (hu i).symm
  unfold lane
  rw [e1]

/-- The 256 columns of a block of keys or values from `h` on. -/
abbrev cols (K : Vec Ideal S256x1024 .bf16) (h : ℕ) (hb : ∀ a, (![0, h] : Fin 2 → ℕ) a + S256x256.size a ≤ S256x1024.size a) :
    Vec Ideal S256x256 .bf16 := View.ld K (Rect.unit ![0, h] S256x256.size hb)

theorem head_cols (K : Vec Ideal S256x1024 .bf16) (h : ℕ) (hb : ∀ a, (![0, h] : Fin 2 → ℕ) a + S256x256.size a ≤ S256x1024.size a)
    (k i : Fin 256) (j : Fin 1024) (hj : j.val = h + i.val) :
    cols K h hb (ix2 k i) = K (ix2 k j) := by
  refine congrArg K (funext fun a => ?_)
  match a with
  | ⟨0, _⟩ => exact Fin.ext (by show 0 + 1 * k.val = k.val; omega)
  | ⟨1, _⟩ => exact Fin.ext (by show h + 1 * i.val = j.val; omega)

variable (x : FVec Ideal S512x1024 .f32) (a b ga gb : FVec Ideal S512x1024 .bf16) (g : FVec Ideal S2x1024 .f32)
  (wa wb wm wq wo : FVec Ideal S1024x1024 .bf16) (gx gf : FVec Ideal S1x1024 .f32) (K V : Vec Ideal S256x1024 .bf16)

/-- The block after the merge. -/
def mixed : FVec Ideal S512x1024 .f32 := k0_pay4 (F := Ideal) (k0_pay2 x) (k0_pay3 a wa b wb g ga gb) wm

/-- The block's queries. -/
def queries : FVec Ideal S512x1024 .bf16 := k0_pay5 (F := Ideal) (k0_pay2 x) (k0_pay3 a wa b wb g ga gb) wm gx wq

theorem mixed_row (r : Fin 512) (n : Fin 1024) :
    (mixed x a b ga gb g wa wb wm (ix2 r n) : EReal)
      = mix (fun n => x (ix2 r n)) (fun i => a (ix2 r i)) (fun i => b (ix2 r i)) (fun k => ga (ix2 r k) + g (ix2 0 k))
          (fun k => gb (ix2 r k) + g (ix2 1 k)) (fun i k => wa (ix2 i k)) (fun i k => wb (ix2 i k)) (fun i k => wm (ix2 i k)) n := by
  unfold mixed
  refine (mixed_at _ _ _ r n).trans (congrArg₂ (· + ·) ?_ (Finset.sum_congr rfl fun k _ => congrArg (· * (wm (ix2 k n) : EReal)) (merged_at a wa b wb g ga gb r k)))
  pointwise [k0_pay2]

theorem queries_row (r : Fin 512) (n : Fin 1024) :
    (queries x a b ga gb g wa wb wm wq gx (ix2 r n) : EReal)
      = asked (fun j => mixed x a b ga gb g wa wb wm (ix2 r j)) (fun j => gx (ix2 0 j)) (fun i k => wq (ix2 i k)) n :=
  query_at _ _ _ _ _ r n

/-- The block after the cross-attention. -/
def crossed : FVec Ideal S512x1024 .f32 :=
  k0_pay10 (F := Ideal) (k0_pay4 (k0_pay2 x) (k0_pay3 a wa b wb g ga gb) wm)
      (k0_pay6 (k0_pay2 x) (k0_pay3 a wa b wb g ga gb) wm gx wq
        (cols K 0 inb_S256x1024_S256x256_0_0) (cols V 0 inb_S256x1024_S256x256_0_0))
      (k0_pay7 (k0_pay5 (k0_pay2 x) (k0_pay3 a wa b wb g ga gb) wm gx wq)
        (cols K 256 inb_S256x1024_S256x256_0_256) (cols V 256 inb_S256x1024_S256x256_0_256))
      (k0_pay8 (k0_pay5 (k0_pay2 x) (k0_pay3 a wa b wb g ga gb) wm gx wq)
        (cols K 512 inb_S256x1024_S256x256_0_512) (cols V 512 inb_S256x1024_S256x256_0_512))
      (k0_pay9 (k0_pay5 (k0_pay2 x) (k0_pay3 a wa b wb g ga gb) wm gx wq)
        (cols K 768 inb_S256x1024_S256x256_0_768))
      (cols V 768 inb_S256x1024_S256x256_0_768) wo

/-- The block the experts read. -/
def rescaled : FVec Ideal S512x1024 .bf16 :=
  k0_pay12 (F := Ideal) (k0_pay4 (k0_pay2 x) (k0_pay3 a wa b wb g ga gb) wm)
      (k0_pay6 (k0_pay2 x) (k0_pay3 a wa b wb g ga gb) wm gx wq
        (cols K 0 inb_S256x1024_S256x256_0_0) (cols V 0 inb_S256x1024_S256x256_0_0))
      (k0_pay7 (k0_pay5 (k0_pay2 x) (k0_pay3 a wa b wb g ga gb) wm gx wq)
        (cols K 256 inb_S256x1024_S256x256_0_256) (cols V 256 inb_S256x1024_S256x256_0_256))
      (k0_pay8 (k0_pay5 (k0_pay2 x) (k0_pay3 a wa b wb g ga gb) wm gx wq)
        (cols K 512 inb_S256x1024_S256x256_0_512) (cols V 512 inb_S256x1024_S256x256_0_512))
      (k0_pay9 (k0_pay5 (k0_pay2 x) (k0_pay3 a wa b wb g ga gb) wm gx wq)
        (cols K 768 inb_S256x1024_S256x256_0_768))
      (cols V 768 inb_S256x1024_S256x256_0_768) wo gf

theorem rescaled_row (r : Fin 512) (n : Fin 1024) :
    (rescaled x a b ga gb g wa wb wm wq wo gx gf K V (ix2 r n) : EReal)
      = normed (fun j => crossed x a b ga gb g wa wb wm wq wo gx K V (ix2 r j)) (fun j => gf (ix2 0 j)) n :=
  normed_at _ _ _ _ _ _ _ _ r n

theorem crossed_row (r : Fin 512) (n : Fin 1024) :
    (crossed x a b ga gb g wa wb wm wq wo gx K V (ix2 r n) : EReal)
      = attended (fun j => mixed x a b ga gb g wa wb wm (ix2 r j)) (fun j => queries x a b ga gb g wa wb wm wq gx (ix2 r j))
          (fun k e => K (ix2 k e)) (fun k e => V (ix2 k e)) (fun i k => wo (ix2 i k)) n := by
  unfold crossed
  rw [closing_eq]
  refine closing_at _ _ _ _ _ wo r n (lane (fun j => queries x a b ga gb g wa wb wm wq gx (ix2 r j))
    (fun k e => K (ix2 k e)) (fun k e => V (ix2 k e))) (fun j => ?_) (fun j => ?_) (fun j => ?_) (fun j => ?_)
  · rw [lane_of _ _ _ _ (fun i => ⟨i.val, by omega⟩) (fun i => by show i.val = 256 * (j.val / 256) + i.val; omega)]
    refine (head0_at _ _ _ _ _ _ _ r j).trans (congr (congrArg attn (funext fun k => ?_)) (funext fun k => head_cols V 0 _ k j _ (Nat.zero_add _).symm))
    exact congrArg (score _) (funext fun i => head_cols K 0 _ k i _ (Nat.zero_add _).symm)
  · rw [lane_of _ _ _ _ (fun i => ⟨256 + i.val, by omega⟩) (fun i => by show 256 + i.val = 256 * ((256 + j.val) / 256) + i.val; omega)]
    refine (head1_at _ _ _ r j).trans (congr (congrArg attn (funext fun k => ?_)) (funext fun k => head_cols V 256 _ k j _ rfl))
    exact congrArg (score _) (funext fun i => head_cols K 256 _ k i _ rfl)
  · rw [lane_of _ _ _ _ (fun i => ⟨512 + i.val, by omega⟩) (fun i => by show 512 + i.val = 256 * ((512 + j.val) / 256) + i.val; omega)]
    refine (head2_at _ _ _ r j).trans (congr (congrArg attn (funext fun k => ?_)) (funext fun k => head_cols V 512 _ k j _ rfl))
    exact congrArg (score _) (funext fun i => head_cols K 512 _ k i _ rfl)
  · rw [lane_of _ _ _ _ (fun i => ⟨768 + i.val, by omega⟩) (fun i => by show 768 + i.val = 256 * ((768 + j.val) / 256) + i.val; omega)]
    refine (last_at _ _ r j).trans (congr (congrArg attn (funext fun k => ?_)) (funext fun k => head_cols V 768 _ k j _ rfl))
    refine (congrArg (· * _) (scores3_at _ _ r k)).trans ?_
    exact congrArg (score _) (funext fun i => head_cols K 768 _ k i _ rfl)

end Cert.Kernel4Ideal.Xa

end
-- ==== Proof.XaPoint.lean ====
/- What one grid point of the cross-attention writes, and the two arrays after the run. -/
module

public import proofs.«01_k».proof.Proof.Gen.Kernel4Ideal.Value
public import proofs.«01_k».proof.Proof.XaMath
public import Idealize.ShloMosaic.Lib.Pipeline.ValueKit
public import Idealize.ShloMosaic.Lib.Pipeline.Value

@[expose] public section

set_option maxRecDepth 16384

noncomputable section

namespace Cert.Kernel4Ideal.Xa

open Cert.Kernel4Ideal Cert.Kernel4Ideal.Gen Cert.Kernel2Ideal.NormRow Idealize.ShloMosaic Idealize.ShloMosaic.TcCoe Idealize.SL.Sem

variable (m : (ℓ : Loc nD τ sig) → Buf (Elt Ideal) ℓ)

theorem opened (c : Dev nD) (t : Fin cfg0.N) :
    (outsAt0 m c t).1 = crossed (iblk m c 0 t) (iblk m c 1 t) (iblk m c 2 t) (X0_3 m c t) (X0_4 m c t) (iblk m c 5 t) (iblk m c 6 t)
      (iblk m c 7 t) (iblk m c 8 t) (iblk m c 10 t) (iblk m c 13 t) (iblk m c 9 t) (iblk m c 11 t) (iblk m c 12 t) := by
  unfold outsAt0
  frame_out
  rfl

theorem opened2 (c : Dev nD) (t : Fin cfg0.N) :
    (outsAt0 m c t).2.1 = rescaled (iblk m c 0 t) (iblk m c 1 t) (iblk m c 2 t) (X0_3 m c t) (X0_4 m c t) (iblk m c 5 t) (iblk m c 6 t)
      (iblk m c 7 t) (iblk m c 8 t) (iblk m c 10 t) (iblk m c 13 t) (iblk m c 9 t) (iblk m c 14 t) (iblk m c 11 t) (iblk m c 12 t) := by
  unfold outsAt0
  dsimp only
  frame_out
  rfl

/-- Row `r` of block `t`, of the 128 blocks of 512 rows. -/
def row (t : Fin 128) (r : Fin 512) : Fin 65536 := ⟨512 * t.val + r.val, by omega⟩

/-- Slot `k` of the sequence that block `t` belongs to. -/
def slot (t : Fin 128) (k : Fin 256) : Fin 4096 := ⟨256 * (t.val / 8) + k.val, by omega⟩

theorem idx : ∀ t : Fin cfg0.N, win0_0.index t = ![t.val, 0] ∧ win0_1.index t = ![t.val, 0] ∧ win0_2.index t = ![t.val, 0]
    ∧ win0_3.index t = ![t.val, 5] ∧ win0_4.index t = ![t.val, 6] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val / 8, 0] ∧ win0_12.index t = ![t.val / 8, 1] ∧ win0_13.index t = ![0, 0] ∧ win0_14.index t = ![0, 0]
    ∧ win0_17.index t = ![t.val, 0] ∧ win0_18.index t = ![t.val, 0] :=
  (by decide +kernel : ∀ t : Fin grid0.N, _)

theorem at_0 (c : Dev nD) (t : Fin cfg0.N) (r : Fin 512) (n : Fin 1024) :
    iblk m c 0 t (ix2 r n) = V m c main_v0 (ix2 (row t r) n) := by blk_ext [iblk, idx t, row]

theorem at_1 (c : Dev nD) (t : Fin cfg0.N) (r : Fin 512) (n : Fin 1024) :
    iblk m c 1 t (ix2 r n) = m ((c : Thread nD τ).loc main_arg1) (ix2 (row t r) n) := by blk_ext [iblk, V, idx t, row]

theorem at_2 (c : Dev nD) (t : Fin cfg0.N) (r : Fin 512) (n : Fin 1024) :
    iblk m c 2 t (ix2 r n) = m ((c : Thread nD τ).loc main_arg2) (ix2 (row t r) n) := by blk_ext [iblk, V, idx t, row]

theorem at_3 (c : Dev nD) (t : Fin cfg0.N) (r : Fin 512) (n : Fin 1024) :
    X0_3 m c t (ix2 r n) = m ((c : Thread nD τ).loc main_arg3) (ix2 (row t r) ⟨5120 + n.val, by omega⟩) := by
  unfold X0_3 Pipeline.Window.fill
  rw [dif_pos (moved0_3 t _)]
  blk_ext [iblk, V, idx t, row]

theorem at_4 (c : Dev nD) (t : Fin cfg0.N) (r : Fin 512) (n : Fin 1024) :
    X0_4 m c t (ix2 r n) = m ((c : Thread nD τ).loc main_arg3) (ix2 (row t r) ⟨6144 + n.val, by omega⟩) := by
  unfold X0_4 Pipeline.Window.fill
  rw [dif_pos (moved0_4 t _)]
  blk_ext [iblk, V, idx t, row]

theorem at_5 (c : Dev nD) (t : Fin cfg0.N) (r : Fin 2) (n : Fin 1024) :
    iblk m c 5 t (ix2 r n) = V m c main_v7 (ix2 r n) := by blk_ext [iblk, idx t]

theorem at_6 (c : Dev nD) (t : Fin cfg0.N) (r n : Fin 1024) :
    iblk m c 6 t (ix2 r n) = V m c main_v9 (ix2 r n) := by blk_ext [iblk, idx t]

theorem at_7 (c : Dev nD) (t : Fin cfg0.N) (r n : Fin 1024) :
    iblk m c 7 t (ix2 r n) = V m c main_v11 (ix2 r n) := by blk_ext [iblk, idx t]

theorem at_8 (c : Dev nD) (t : Fin cfg0.N) (r n : Fin 1024) :
    iblk m c 8 t (ix2 r n) = V m c main_v13 (ix2 r n) := by blk_ext [iblk, idx t]

theorem at_9 (c : Dev nD) (t : Fin cfg0.N) (r : Fin 1) (n : Fin 1024) :
    iblk m c 9 t (ix2 r n) = V m c main_v15 (ix2 r n) := by blk_ext [iblk, idx t]

theorem at_10 (c : Dev nD) (t : Fin cfg0.N) (r n : Fin 1024) :
    iblk m c 10 t (ix2 r n) = V m c main_v17 (ix2 r n) := by blk_ext [iblk, idx t]

theorem at_11 (c : Dev nD) (t : Fin cfg0.N) (k : Fin 256) (n : Fin 1024) :
    iblk m c 11 t (ix2 k n) = m ((c : Thread nD τ).loc main_arg10) (ix2 (slot t k) ⟨n.val, by omega⟩) := by blk_ext [iblk, V, idx t, slot]

theorem at_12 (c : Dev nD) (t : Fin cfg0.N) (k : Fin 256) (n : Fin 1024) :
    iblk m c 12 t (ix2 k n) = m ((c : Thread nD τ).loc main_arg10) (ix2 (slot t k) ⟨1024 + n.val, by omega⟩) := by blk_ext [iblk, V, idx t, slot]

theorem at_13 (c : Dev nD) (t : Fin cfg0.N) (r n : Fin 1024) :
    iblk m c 13 t (ix2 r n) = V m c main_v19 (ix2 r n) := by blk_ext [iblk, idx t]

theorem at_14 (c : Dev nD) (t : Fin cfg0.N) (r : Fin 1) (n : Fin 1024) :
    iblk m c 14 t (ix2 r n) = V m c main_v21 (ix2 r n) := by blk_ext [iblk, idx t]

/-- Row `r` of block `t` after the merge. -/
def merge (c : Dev nD) (t : Fin 128) (r : Fin 512) : Fin 1024 → EReal :=
  mix (fun n => V m c main_v0 (ix2 (row t r) n)) (fun n => m ((c : Thread nD τ).loc main_arg1) (ix2 (row t r) n))
    (fun n => m ((c : Thread nD τ).loc main_arg2) (ix2 (row t r) n))
    (fun n => @HAdd.hAdd EReal EReal EReal _ (m ((c : Thread nD τ).loc main_arg3) (ix2 (row t r) ⟨5120 + n.val, by omega⟩)) (V m c main_v7 (ix2 0 n)))
    (fun n => @HAdd.hAdd EReal EReal EReal _ (m ((c : Thread nD τ).loc main_arg3) (ix2 (row t r) ⟨6144 + n.val, by omega⟩)) (V m c main_v7 (ix2 1 n)))
    (fun i k => V m c main_v9 (ix2 i k)) (fun i k => V m c main_v11 (ix2 i k)) (fun i k => V m c main_v13 (ix2 i k))

/-- Row `r` of block `t` after the cross-attention. -/
def attend (c : Dev nD) (t : Fin 128) (r : Fin 512) : Fin 1024 → EReal :=
  attended (merge m c t r) (asked (merge m c t r) (fun n => V m c main_v15 (ix2 0 n)) (fun i k => V m c main_v17 (ix2 i k)))
    (fun k n => m ((c : Thread nD τ).loc main_arg10) (ix2 (slot t k) ⟨n.val, by omega⟩))
    (fun k n => m ((c : Thread nD τ).loc main_arg10) (ix2 (slot t k) ⟨1024 + n.val, by omega⟩)) (fun i k => V m c main_v19 (ix2 i k))

theorem merge_block (c : Dev nD) (t : Fin cfg0.N) (r : Fin 512) (n : Fin 1024) :
    (mixed (iblk m c 0 t) (iblk m c 1 t) (iblk m c 2 t) (X0_3 m c t) (X0_4 m c t) (iblk m c 5 t) (iblk m c 6 t) (iblk m c 7 t)
      (iblk m c 8 t) (ix2 r n) : EReal) = merge m c t r n := by
  refine (mixed_row _ _ _ _ _ _ _ _ _ r n).trans ?_
  unfold merge
  simp only [at_0, at_1, at_2, at_3, at_4, at_5, at_6, at_7, at_8]

theorem wrote (c : Dev nD) (t : Fin cfg0.N) (r : Fin 512) (n : Fin 1024) :
    ((outsAt0 m c t).1 (ix2 r n) : EReal) = attend m c t r n := by
  rw [opened]
  refine (crossed_row _ _ _ _ _ _ _ _ _ _ _ _ _ _ r n).trans ?_
  have e : (fun j => (queries (iblk m c 0 t) (iblk m c 1 t) (iblk m c 2 t) (X0_3 m c t) (X0_4 m c t) (iblk m c 5 t) (iblk m c 6 t) (iblk m c 7 t)
      (iblk m c 8 t) (iblk m c 10 t) (iblk m c 9 t) (ix2 r j) : EReal))
      = asked (merge m c t r) (fun n => V m c main_v15 (ix2 0 n)) (fun i k => V m c main_v17 (ix2 i k)) := by
    funext j
    refine (queries_row _ _ _ _ _ _ _ _ _ _ _ r j).trans ?_
    simp only [merge_block, at_9, at_10]
  unfold attend
  rw [e]
  simp only [merge_block, at_11, at_12, at_13]

theorem wrote2 (c : Dev nD) (t : Fin cfg0.N) (r : Fin 512) (n : Fin 1024) :
    ((outsAt0 m c t).2.1 (ix2 r n) : EReal) = normed (attend m c t r) (fun n => V m c main_v21 (ix2 0 n)) n := by
  rw [opened2]
  refine (rescaled_row _ _ _ _ _ _ _ _ _ _ _ _ _ _ _ r n).trans ?_
  have e : (fun j => (crossed (iblk m c 0 t) (iblk m c 1 t) (iblk m c 2 t) (X0_3 m c t) (X0_4 m c t) (iblk m c 5 t) (iblk m c 6 t)
      (iblk m c 7 t) (iblk m c 8 t) (iblk m c 10 t) (iblk m c 13 t) (iblk m c 9 t) (iblk m c 11 t) (iblk m c 12 t) (ix2 r j) : EReal)) = attend m c t r :=
    funext fun j => (congrFun (opened m c t).symm _).trans (wrote m c t r j)
  rw [e]
  simp only [at_14]

theorem final (c : Dev nD) (t : Fin 128) (r : Fin 512) (n : Fin 1024) :
    ((dats m 0 c).arrAt 17 cfg0.N (ix2 (row t r) n) : EReal) = attend m c t r n := by
  have hb := congrFun (Value.blocks17 m c t ((by decide +kernel : ∀ t : Fin grid0.N, (cfg0.win 17).flush t = true) t)) (ix2 r n)
  refine Eq.trans ?_ (hb.trans ((congrFun (Value.flushed17 m c t) _).trans ?_))
  rotate_left
  · exact wrote m c t r n
  blk_ext [idx t, row]

theorem final2 (c : Dev nD) (t : Fin 128) (r : Fin 512) (n : Fin 1024) :
    ((dats m 0 c).arrAt 18 cfg0.N (ix2 (row t r) n) : EReal) = normed (attend m c t r) (fun n => V m c main_v21 (ix2 0 n)) n := by
  have hb := congrFun (Value.blocks18 m c t ((by decide +kernel : ∀ t : Fin grid0.N, (cfg0.win 18).flush t = true) t)) (ix2 r n)
  refine Eq.trans ?_ (hb.trans ((congrFun (Value.flushed18 m c t) _).trans ?_))
  rotate_left
  · exact wrote2 m c t r n
  blk_ext [idx t, row]

end Cert.Kernel4Ideal.Xa

end
-- ==== Proof.XaHost.lean ====
/- What the host code hands the cross-attention: the tokens in one axis, the weights without their leading axis. -/
module

public import proofs.«01_k».proof.Proof.Gen.Kernel4Ideal.Value
public import Idealize.ShloMosaic.Lib.Claim
public import Idealize.ShloMosaic.Lib.StableHlo.RunRead
public import Idealize.ShloMosaic.Lib.Pointwise

@[expose] public section

set_option maxRecDepth 16384

noncomputable section

namespace Cert.Kernel4Ideal.XaHost

open Cert.Kernel4Ideal Cert.Kernel4Ideal.Gen
open Idealize.ShloMosaic Idealize.ShloMosaic.TcCoe Idealize.SL.Sem

variable (m : (ℓ : Loc nD τ sig) → Buf (Elt Ideal) ℓ)

theorem tokens_at (c : Dev nD) (X : FVec Ideal S16x4096x1024 .f32) (hX : m ((c : Thread nD τ).loc main_arg0) = X)
    (i : Fin 65536) (k : Fin 1024) :
    (V m c main_v0 (ix2 i k) : EReal) = X (ix3 ⟨i.val / 4096, by omega⟩ ⟨i.val % 4096, by omega⟩ k) := by
  have e : V m c main_v0 = shapeCast S65536x1024 (m ((c : Thread nD τ).loc main_arg0)) shapeCasts_S16x4096x1024_S65536x1024 := by
    unfold V
    simp only [hostOps0]
    after_reads_simp
    rfl
  rw [e, hX]
  exact shapeCast_apply X shapeCasts_S16x4096x1024_S65536x1024 (ix2 i k) (ix3 ⟨i.val / 4096, by omega⟩ ⟨i.val % 4096, by omega⟩ k)
    (by rewrite [Shape.rowMajor_val_three, Shape.rowMajor_val_two]; show (i.val / 4096 * 4096 + i.val % 4096) * 1024 + k.val = i.val * 1024 + k.val; omega)

theorem biases_at (c : Dev nD) (B : FVec Ideal S1x2x1024 .f32) (hB : m ((c : Thread nD τ).loc main_arg4) = B)
    (i : Fin 2) (k : Fin 1024) : (V m c main_v7 (ix2 i k) : EReal) = B (ix3 0 i k) := by
  have e : V m c main_v7 = shapeCast S2x1024 (m ((c : Thread nD τ).loc main_arg4)) shapeCasts_S1x2x1024_S2x1024 := by
    unfold V
    simp only [hostOps0]
    after_reads_simp
    rfl
  rw [e, hB]
  exact shapeCast_apply B shapeCasts_S1x2x1024_S2x1024 (ix2 i k) (ix3 0 i k)
    (by rewrite [Shape.rowMajor_val_three, Shape.rowMajor_val_two]; show (0 * 2 + i.val) * 1024 + k.val = i.val * 1024 + k.val; omega)

/-- A weight without its leading axis. -/
def flat (W : FVec Ideal S1x1024x1024 .f32) : FVec Ideal S1024x1024 .bf16 :=
  truncf .bf16 (shapeCast S1024x1024 W shapeCasts_S1x1024x1024_S1024x1024) bitsLt_bf16_f32

theorem square (W : FVec Ideal S1x1024x1024 .f32) (i k : Fin 1024) :
    (flat W (ix2 i k) : EReal) = W (ix3 0 i k) :=
  shapeCast_apply W shapeCasts_S1x1024x1024_S1024x1024 (ix2 i k) (ix3 0 i k)
    (by rewrite [Shape.rowMajor_val_three, Shape.rowMajor_val_two]; show (0 * 1024 + i.val) * 1024 + k.val = i.val * 1024 + k.val; omega)

theorem branch_a_at (c : Dev nD) (W : FVec Ideal S1x1024x1024 .f32) (hW : m ((c : Thread nD τ).loc main_arg5) = W)
    (i k : Fin 1024) : (V m c main_v9 (ix2 i k) : EReal) = W (ix3 0 i k) := by
  have e : V m c main_v9 = flat (m ((c : Thread nD τ).loc main_arg5)) := by
    unfold V
    simp only [hostOps0]
    after_reads_simp
    rfl
  rw [e, hW]
  exact square W i k

theorem branch_b_at (c : Dev nD) (W : FVec Ideal S1x1024x1024 .f32) (hW : m ((c : Thread nD τ).loc main_arg6) = W)
    (i k : Fin 1024) : (V m c main_v11 (ix2 i k) : EReal) = W (ix3 0 i k) := by
  have e : V m c main_v11 = flat (m ((c : Thread nD τ).loc main_arg6)) := by
    unfold V
    simp only [hostOps0]
    after_reads_simp
    rfl
  rw [e, hW]
  exact square W i k

theorem mixing_at (c : Dev nD) (W : FVec Ideal S1x1024x1024 .f32) (hW : m ((c : Thread nD τ).loc main_arg7) = W)
    (i k : Fin 1024) : (V m c main_v13 (ix2 i k) : EReal) = W (ix3 0 i k) := by
  have e : V m c main_v13 = flat (m ((c : Thread nD τ).loc main_arg7)) := by
    unfold V
    simp only [hostOps0]
    after_reads_simp
    rfl
  rw [e, hW]
  exact square W i k

theorem asking_at (c : Dev nD) (W : FVec Ideal S1x1024x1024 .f32) (hW : m ((c : Thread nD τ).loc main_arg9) = W)
    (i k : Fin 1024) : (V m c main_v17 (ix2 i k) : EReal) = W (ix3 0 i k) := by
  have e : V m c main_v17 = flat (m ((c : Thread nD τ).loc main_arg9)) := by
    unfold V
    simp only [hostOps0]
    after_reads_simp
    rfl
  rw [e, hW]
  exact square W i k

theorem answering_at (c : Dev nD) (W : FVec Ideal S1x1024x1024 .f32) (hW : m ((c : Thread nD τ).loc main_arg11) = W)
    (i k : Fin 1024) : (V m c main_v19 (ix2 i k) : EReal) = W (ix3 0 i k) := by
  have e : V m c main_v19 = flat (m ((c : Thread nD τ).loc main_arg11)) := by
    unfold V
    simp only [hostOps0]
    after_reads_simp
    rfl
  rw [e, hW]
  exact square W i k

theorem gain_at (c : Dev nD) (G : FVec Ideal S1x1024 .f32) (hG : m ((c : Thread nD τ).loc main_arg8) = G)
    (k : Fin 1024) : (V m c main_v15 (ix2 0 k) : EReal) = G (ix2 0 k) := by
  have e : V m c main_v15 = broadcastInDim S1x1024 ![1] bcast_S1024_S1x1024_1
      (shapeCast S1024 (m ((c : Thread nD τ).loc main_arg8)) shapeCasts_S1x1024_S1024) := by
    unfold V
    simp only [hostOps0]
    after_reads_simp
    rfl
  rw [e, hG]
  pointwise

theorem gain2_at (c : Dev nD) (G : FVec Ideal S1x1024 .f32) (hG : m ((c : Thread nD τ).loc main_arg12) = G)
    (k : Fin 1024) : (V m c main_v21 (ix2 0 k) : EReal) = G (ix2 0 k) := by
  have e : V m c main_v21 = broadcastInDim S1x1024 ![1] bcast_S1024_S1x1024_1
      (shapeCast S1024 (m ((c : Thread nD τ).loc main_arg12)) shapeCasts_S1x1024_S1024) := by
    unfold V
    simp only [hostOps0]
    after_reads_simp
    rfl
  rw [e, hG]
  pointwise

end Cert.Kernel4Ideal.XaHost

end
-- ==== Proof.XaEq.lean ====
/- The arithmetic of the cross-attention over the extended reals: a normed row is finite whatever the row holds, and a softmax
   of finite scores divides after the weighted sum as it does before. -/
module

public import proofs.«01_k».proof.Proof.XaMath
public import proofs.«01_k».proof.Proof.Soft
public import proofs.«01_k».proof.Proof.Equation

@[expose] public section

set_option maxRecDepth 16384

noncomputable section

namespace Cert.Kernel4Ideal.XaEq

open Cert.Kernel4Ideal.Xa Cert.Equation Cert.Soft
open Cert.Kernel2Ideal.NormRow (normed)
open Idealize.ShloMosaic

theorem count_bits : Ideal.ofBits .f32 0x44800000#32 = ((1024 : ℝ) : EReal) := by
  simp [Ideal.ofBits, Ideal.ieee, -EReal.coe_mul]
  norm_num

theorem eps_bits : ∃ e : ℝ, 0 < e ∧ Ideal.ofBits .f32 0x3727C5AC#32 = (e : EReal) := by
  simp [Ideal.ofBits, Ideal.ieee, -EReal.coe_mul]

theorem scale_fin : IsReal (Ideal.ofBits .f32 0x3D800000#32) := by
  simp [Ideal.ofBits, Ideal.ieee, -EReal.coe_mul]

theorem square_nonneg (x : EReal) : 0 ≤ x * x := by
  induction x with
  | bot => simp
  | top => simp
  | coe r => rw [← EReal.coe_mul]; exact EReal.coe_nonneg.2 (mul_self_nonneg r)

theorem normed_fin (y g : Fin 1024 → EReal) (hg : ∀ k, IsReal (g k)) (k : Fin 1024) : IsReal (normed y g k) := by
  obtain ⟨e, he, hE⟩ := eps_bits
  unfold normed
  rw [hE, count_bits, Ideal.div_coe (by norm_num : (1024 : ℝ) ≠ 0)]
  by_cases h : ∀ j, IsReal (y j)
  · choose r hr using h
    have hS : ∑ j, y j * y j = ((∑ j, r j * r j : ℝ) : EReal) := by
      simp only [hr, ← EReal.coe_mul]
      exact (map_sum (⟨⟨Real.toEReal, EReal.coe_zero⟩, EReal.coe_add⟩ : ℝ →+ EReal) (fun j => r j * r j) Finset.univ).symm
    have h0 : 0 ≤ ∑ j, r j * r j := Finset.sum_nonneg fun j _ => mul_self_nonneg (r j)
    rw [hS, ← EReal.coe_mul, ← EReal.coe_add]
    have hp : 0 < (∑ j, r j * r j) * (1 / 1024) + e := by positivity
    rw [Ideal.rsqrt_coe, if_neg (not_lt.2 hp.le), if_neg hp.ne']
    exact mul_fin (mul_fin ⟨_, hr k⟩ ⟨_, rfl⟩) (hg k)
  · obtain ⟨j, hj⟩ := not_forall.1 h
    have ht : y j * y j = ⊤ := by
      generalize y j = z at hj
      induction z with
      | bot => simp
      | top => simp
      | coe r => exact (hj ⟨r, rfl⟩).elim
    have hS : ∑ j, y j * y j = ⊤ :=
      top_le_iff.1 (ht ▸ Finset.single_le_sum (f := fun j => y j * y j) (fun j _ => square_nonneg (y j)) (Finset.mem_univ j))
    rw [hS, EReal.top_mul_coe_of_pos (by norm_num), EReal.top_add_coe, Ideal.rsqrt_top, mul_zero, zero_mul]
    exact ⟨0, rfl⟩

/-- The same row, softmaxed before the weighted sum. -/
def spread (S v : Fin 256 → EReal) : EReal :=
  ∑ k, v k * Ideal.div (Ideal.exp (S k - Finset.univ.fold max ⊥ S)) (∑ k, Ideal.exp (S k - Finset.univ.fold max ⊥ S))

theorem attn_eq (S v : Fin 256 → EReal) (hS : ∀ k, IsReal (S k)) : attn S v = spread S v := by
  have h1 : Finset.univ.fold max ⊥ S ≠ ⊤ := fold_ne_top S fun k => by
    obtain ⟨a, ha⟩ := hS k
    rw [ha]; exact EReal.coe_ne_top a
  have h2 : Finset.univ.fold max ⊥ S ≠ ⊥ := fun h => by
    have := (fold_max_le S ⊥).1 h.le 0
    obtain ⟨a, ha⟩ := hS 0
    rw [ha] at this
    exact EReal.coe_ne_bot a (le_bot_iff.1 this)
  unfold attn spread
  generalize Finset.univ.fold max ⊥ S = M at h1 h2
  obtain ⟨M, rfl⟩ : ∃ x : ℝ, M = (x : EReal) := ⟨M.toReal, (EReal.coe_toReal h1 h2).symm⟩
  choose s hs using hS
  have he : ∀ k, Ideal.exp (S k - M) = ((Real.exp (s k - M) : ℝ) : EReal) := fun k => by
    rw [hs, ← EReal.coe_sub]; rfl
  have hd : ∑ k, Ideal.exp (S k - M) = ((∑ k, Real.exp (s k - M) : ℝ) : EReal) := by
    simp only [he]
    exact (map_sum (⟨⟨Real.toEReal, EReal.coe_zero⟩, EReal.coe_add⟩ : ℝ →+ EReal) (fun k => Real.exp (s k - M)) Finset.univ).symm
  have hp : 0 < ∑ k, Real.exp (s k - M) := Finset.sum_pos (fun k _ => Real.exp_pos _) Finset.univ_nonempty
  rw [hd]
  generalize ∑ k, Real.exp (s k - M) = D at hp
  simp only [Ideal.div_coe hp.ne']
  rw [mul_sum _ _ (by positivity : (0 : ℝ) ≤ 1 / D)]
  refine Finset.sum_congr rfl fun k _ => ?_
  rw [mul_comm _ (v k), mul_assoc]

/-- A logistic gate times a number is the quotient. -/
theorem gated_eq (a z : EReal) : Ideal.div 1 (1 + Ideal.exp (-z)) * a = gated a z := by
  have h : (1 + Ideal.exp (-z) : EReal) ≠ 0 :=
    (lt_of_lt_of_le zero_lt_one (le_add_of_nonneg_right (exp_nonneg (-z)))).ne'
  unfold gated
  rw [sub_eq_add_neg, zero_add, mul_comm]
  unfold Ideal.div
  rw [if_neg h, if_neg h, one_mul]

/-- With finite gains, weights and keys the scores are finite. -/
theorem score_fin (y g : Fin 1024 → EReal) (wq : Fin 1024 → Fin 1024 → EReal) (u : Fin 256 → Fin 1024) (K : Fin 256 → EReal)
    (hg : ∀ k, IsReal (g k)) (hw : ∀ i k, IsReal (wq i k)) (hK : ∀ i, IsReal (K i)) :
    IsReal (score (fun i => asked y g wq (u i)) K) :=
  mul_fin (sum_fin _ fun i => mul_fin (sum_fin _ fun k => mul_fin (normed_fin y g hg k) (hw k _)) (hK i)) scale_fin

end Cert.Kernel4Ideal.XaEq

end
-- ==== Proof.XaRef.lean ====
/- The reference's merge, cross-attention and norm, read at a sequence, a position and a feature. -/
module

public import proofs.«01_k».proof.Proof.Gen.Reference4Ideal.Read
public import proofs.«01_k».proof.Proof.XaEq

@[expose] public section

set_option maxRecDepth 16384

noncomputable section

namespace Cert.Reference4Ideal.XaRef

open Cert.Reference4Ideal Cert.Reference4Ideal.Gen Cert.Reference4Ideal.Read
open Cert.Kernel2Ideal.NormRow (normed)
open Cert.Kernel4Ideal.Xa (gated attn score mix asked lane lane_of attended within)
open Cert.Kernel4Ideal.XaEq
open Cert.Equation (IsReal)
open Idealize.ShloMosaic Idealize.ShloMosaic.TcCoe Idealize.SL.Sem

theorem e1 {n0 : ℕ} {j : (⟨1, ![n0]⟩ : Shape).Idx} {a : Fin n0} (h0 : (j 0).val = a.val) : j = ix1 a :=
  funext fun x => match x with
    | ⟨0, _⟩ => Fin.ext h0

theorem e2 {n0 n1 : ℕ} {j : (⟨2, ![n0, n1]⟩ : Shape).Idx} {a : Fin n0} {b : Fin n1} (h0 : (j 0).val = a.val) (h1 : (j 1).val = b.val) : j = ix2 a b :=
  funext fun x => match x with
    | ⟨0, _⟩ => Fin.ext h0
    | ⟨1, _⟩ => Fin.ext h1

theorem e3 {n0 n1 n2 : ℕ} {j : (⟨3, ![n0, n1, n2]⟩ : Shape).Idx} {a : Fin n0} {b : Fin n1} {c : Fin n2}
    (h0 : (j 0).val = a.val) (h1 : (j 1).val = b.val) (h2 : (j 2).val = c.val) : j = ix3 a b c :=
  funext fun x => match x with
    | ⟨0, _⟩ => Fin.ext h0
    | ⟨1, _⟩ => Fin.ext h1
    | ⟨2, _⟩ => Fin.ext h2

theorem e4 {n0 n1 n2 n3 : ℕ} {j : (⟨4, ![n0, n1, n2, n3]⟩ : Shape).Idx} {a : Fin n0} {b : Fin n1} {c : Fin n2} {d : Fin n3}
    (h0 : (j 0).val = a.val) (h1 : (j 1).val = b.val) (h2 : (j 2).val = c.val) (h3 : (j 3).val = d.val) : j = ix4 a b c d :=
  funext fun x => match x with
    | ⟨0, _⟩ => Fin.ext h0
    | ⟨1, _⟩ => Fin.ext h1
    | ⟨2, _⟩ => Fin.ext h2
    | ⟨3, _⟩ => Fin.ext h3

variable (x0 : FVec Ideal S16x4096x1024 .f32) (x1 x2 : FVec Ideal S65536x1024 .bf16) (x3 : FVec Ideal S65536x7680 .bf16)
  (x4 : FVec Ideal S1x2x1024 .f32) (x5 x6 x7 : FVec Ideal S1x1024x1024 .f32) (x8 : FVec Ideal S1x1024 .f32)
  (x9 : FVec Ideal S1x1024x1024 .f32) (x10 : FVec Ideal S4096x2048 .bf16) (x11 : FVec Ideal S1x1024x1024 .f32) (x12 : FVec Ideal S1x1024 .f32)

/-- Position `p` of sequence `b`. -/
def rowOf (b : Fin 16) (p : Fin 4096) : Fin 65536 := ⟨4096 * b.val + p.val, by omega⟩

/-- Slot `k` of the memory of sequence `b`. -/
def slotOf (b : Fin 16) (k : Fin 256) : Fin 4096 := ⟨256 * b.val + k.val, by omega⟩

/-- The columns of a slot's keys and of its values. -/
def keyCol (n : Fin 1024) : Fin 2048 := ⟨n.val, by omega⟩
def valueCol (n : Fin 1024) : Fin 2048 := ⟨1024 + n.val, by omega⟩

/-! ## The branches, the gates and the merge -/

theorem branch1_at (b : Fin 16) (p : Fin 4096) (k : Fin 1024) : (val_main_v1 (F := Ideal) x1 (ix3 b p k) : EReal) = x1 (ix2 (rowOf b p) k) := by
  rw [val_main_v1_apply]
  exact congrArg x1 (e2 (by show ((b.val * 4096 + p.val) * 1024 + k.val) / 1024 = 4096 * b.val + p.val; omega)
    (by show ((b.val * 4096 + p.val) * 1024 + k.val) % 1024 = k.val; omega))

theorem branch2_at (b : Fin 16) (p : Fin 4096) (k : Fin 1024) : (val_main_v3 (F := Ideal) x2 (ix3 b p k) : EReal) = x2 (ix2 (rowOf b p) k) := by
  rw [val_main_v3_apply]
  exact congrArg x2 (e2 (by show ((b.val * 4096 + p.val) * 1024 + k.val) / 1024 = 4096 * b.val + p.val; omega)
    (by show ((b.val * 4096 + p.val) * 1024 + k.val) % 1024 = k.val; omega))

theorem columns_at (b : Fin 16) (p : Fin 4096) (k : Fin 7680) : (val_main_v5 (F := Ideal) x3 (ix3 b p k) : EReal) = x3 (ix2 (rowOf b p) k) := by
  rw [val_main_v5_apply]
  exact congrArg x3 (e2 (by show ((b.val * 4096 + p.val) * 7680 + k.val) / 7680 = 4096 * b.val + p.val; omega)
    (by show ((b.val * 4096 + p.val) * 7680 + k.val) % 7680 = k.val; omega))

theorem sum_a_at (b : Fin 16) (p : Fin 4096) (n : Fin 1024) : (val_main_v14 (F := Ideal) x3 x4 (ix3 b p n) : EReal)
    = x3 (ix2 (rowOf b p) ⟨5120 + n.val, by omega⟩) + x4 (ix3 0 0 n) := by
  rw [val_main_v14_apply]
  refine congrArg₂ (· + ·) ?_ ?_
  · rw [val_main_v6_apply]
    exact (congrArg (val_main_v5 (F := Ideal) x3) (e3 (b := p) rfl rfl rfl)).trans (columns_at x3 b p ⟨5120 + n.val, by omega⟩)
  · rw [val_main_v13_apply, val_main_v12_apply, val_main_v11_apply, val_main_v10_apply]
    exact congrArg x4 (e3 rfl rfl (by show n.val % 1024 = n.val; omega))

theorem gate_a_at (b : Fin 16) (p : Fin 4096) (n : Fin 1024) : (val_main_v20 (F := Ideal) x3 x4 (ix3 b p n) : EReal)
    = Ideal.div 1 (1 + Ideal.exp (-(x3 (ix2 (rowOf b p) ⟨5120 + n.val, by omega⟩) + x4 (ix3 0 0 n)))) := by
  rw [val_main_v20_apply, val_main_v18_apply, val_main_v16_apply, val_main_v15_apply, sum_a_at, ← Ideal.ofBits_one_f32]
  rfl

theorem sum_b_at (b : Fin 16) (p : Fin 4096) (n : Fin 1024) : (val_main_v25 (F := Ideal) x3 x4 (ix3 b p n) : EReal)
    = x3 (ix2 (rowOf b p) ⟨6144 + n.val, by omega⟩) + x4 (ix3 0 1 n) := by
  rw [val_main_v25_apply]
  refine congrArg₂ (· + ·) ?_ ?_
  · rw [val_main_v7_apply]
    exact (congrArg (val_main_v5 (F := Ideal) x3) (e3 (b := p) rfl rfl rfl)).trans (columns_at x3 b p ⟨6144 + n.val, by omega⟩)
  · rw [val_main_v24_apply, val_main_v23_apply, val_main_v22_apply, val_main_v21_apply]
    exact congrArg x4 (e3 rfl rfl (by show n.val % 1024 = n.val; omega))

theorem gate_b_at (b : Fin 16) (p : Fin 4096) (n : Fin 1024) : (val_main_v31 (F := Ideal) x3 x4 (ix3 b p n) : EReal)
    = Ideal.div 1 (1 + Ideal.exp (-(x3 (ix2 (rowOf b p) ⟨6144 + n.val, by omega⟩) + x4 (ix3 0 1 n)))) := by
  rw [val_main_v31_apply, val_main_v29_apply, val_main_v27_apply, val_main_v26_apply, sum_b_at, ← Ideal.ofBits_one_f32]
  rfl

theorem wa_at (k n : Fin 1024) : (val_main_v32 (F := Ideal) x5 (ix2 k n) : EReal) = x5 (ix3 0 k n) := by
  rw [val_main_v32_apply]
  exact congrArg x5 (e3 rfl (by show (k.val * 1024 + n.val) / 1024 % 1024 = k.val; omega) (by show (k.val * 1024 + n.val) % 1024 = n.val; omega))

theorem wb_at (k n : Fin 1024) : (val_main_v35 (F := Ideal) x6 (ix2 k n) : EReal) = x6 (ix3 0 k n) := by
  rw [val_main_v35_apply]
  exact congrArg x6 (e3 rfl (by show (k.val * 1024 + n.val) / 1024 % 1024 = k.val; omega) (by show (k.val * 1024 + n.val) % 1024 = n.val; omega))

theorem wm_at (k n : Fin 1024) : (val_main_v39 (F := Ideal) x7 (ix2 k n) : EReal) = x7 (ix3 0 k n) := by
  rw [val_main_v39_apply]
  exact congrArg x7 (e3 rfl (by show (k.val * 1024 + n.val) / 1024 % 1024 = k.val; omega) (by show (k.val * 1024 + n.val) % 1024 = n.val; omega))

theorem wq_at (k n : Fin 1024) : (val_main_v58 (F := Ideal) x9 (ix2 k n) : EReal) = x9 (ix3 0 k n) := by
  rw [val_main_v58_apply]
  exact congrArg x9 (e3 rfl (by show (k.val * 1024 + n.val) / 1024 % 1024 = k.val; omega) (by show (k.val * 1024 + n.val) % 1024 = n.val; omega))

theorem wo_at (k n : Fin 1024) : (val_main_v59 (F := Ideal) x11 (ix2 k n) : EReal) = x11 (ix3 0 k n) := by
  rw [val_main_v59_apply]
  exact congrArg x11 (e3 rfl (by show (k.val * 1024 + n.val) / 1024 % 1024 = k.val; omega) (by show (k.val * 1024 + n.val) % 1024 = n.val; omega))

theorem gated_a_at (b : Fin 16) (p : Fin 4096) (n : Fin 1024) : (val_main_v34 (F := Ideal) x1 x3 x4 x5 (ix3 b p n) : EReal)
    = gated (∑ i : Fin 1024, (x1 (ix2 (rowOf b p) i) * x5 (ix3 0 i n) : EReal)) (x3 (ix2 (rowOf b p) ⟨5120 + n.val, by omega⟩) + x4 (ix3 0 0 n)) := by
  have e : (val_main_v33 (F := Ideal) x1 x5 (ix3 b p n) : EReal) = ∑ i : Fin 1024, (x1 (ix2 (rowOf b p) i) * x5 (ix3 0 i n) : EReal) := by
    rw [val_main_v33_apply]
    exact Finset.sum_congr rfl fun i _ => congrArg₂ (· * ·)
      ((congrArg (val_main_v1 (F := Ideal) x1) (e3 (b := p) rfl rfl rfl)).trans (branch1_at x1 b p i))
      ((congrArg (val_main_v32 (F := Ideal) x5) (e2 rfl rfl)).trans (wa_at x5 i n))
  rw [val_main_v34_apply, gate_a_at, e]
  exact gated_eq _ _

theorem gated_b_at (b : Fin 16) (p : Fin 4096) (n : Fin 1024) : (val_main_v37 (F := Ideal) x2 x3 x4 x6 (ix3 b p n) : EReal)
    = gated (∑ i : Fin 1024, (x2 (ix2 (rowOf b p) i) * x6 (ix3 0 i n) : EReal)) (x3 (ix2 (rowOf b p) ⟨6144 + n.val, by omega⟩) + x4 (ix3 0 1 n)) := by
  have e : (val_main_v36 (F := Ideal) x2 x6 (ix3 b p n) : EReal) = ∑ i : Fin 1024, (x2 (ix2 (rowOf b p) i) * x6 (ix3 0 i n) : EReal) := by
    rw [val_main_v36_apply]
    exact Finset.sum_congr rfl fun i _ => congrArg₂ (· * ·)
      ((congrArg (val_main_v3 (F := Ideal) x2) (e3 (b := p) rfl rfl rfl)).trans (branch2_at x2 b p i))
      ((congrArg (val_main_v35 (F := Ideal) x6) (e2 rfl rfl)).trans (wb_at x6 i n))
  rw [val_main_v37_apply, gate_b_at, e]
  exact gated_eq _ _

/-- A row after the merge. -/
def merge (b : Fin 16) (p : Fin 4096) : Fin 1024 → EReal :=
  mix (fun n => x0 (ix3 b p n)) (fun n => x1 (ix2 (rowOf b p) n)) (fun n => x2 (ix2 (rowOf b p) n))
    (fun n => x3 (ix2 (rowOf b p) ⟨5120 + n.val, by omega⟩) + x4 (ix3 0 0 n)) (fun n => x3 (ix2 (rowOf b p) ⟨6144 + n.val, by omega⟩) + x4 (ix3 0 1 n))
    (fun i k => x5 (ix3 0 i k)) (fun i k => x6 (ix3 0 i k)) (fun i k => x7 (ix3 0 i k))

theorem merge_at (b : Fin 16) (p : Fin 4096) (n : Fin 1024) :
    (val_main_v41 (F := Ideal) x0 x1 x2 x3 x4 x5 x6 x7 (ix3 b p n) : EReal) = merge x0 x1 x2 x3 x4 x5 x6 x7 b p n := by
  unfold merge mix
  rw [val_main_v41_apply, val_main_v40_apply]
  refine congrArg₂ (· + ·) rfl (Finset.sum_congr rfl fun k _ => congrArg₂ (· * ·)
    ((congrArg (val_main_v38 (F := Ideal) x1 x2 x3 x4 x5 x6) (e3 (a := b) (b := p) (c := k) rfl rfl rfl)).trans ?_)
    ((congrArg (val_main_v39 (F := Ideal) x7) (e2 rfl rfl)).trans (wm_at x7 k n)))
  rw [val_main_v38_apply, gated_a_at, gated_b_at]
  rfl

/-! ## The norms -/

theorem norm_square_at (b : Fin 16) (p : Fin 4096) :
    (val_main_v44 (F := Ideal) x0 x1 x2 x3 x4 x5 x6 x7 (ix2 b p) : EReal) = ∑ j : Fin 1024, (val_main_v41 (F := Ideal) x0 x1 x2 x3 x4 x5 x6 x7 (ix3 b p j) * val_main_v41 (F := Ideal) x0 x1 x2 x3 x4 x5 x6 x7 (ix3 b p j) : EReal) := by
  have e : ∀ k : Fin 1024, idx_main_v44 (ix2 b p) k = ix3 b p k := fun k => e3 rfl rfl rfl
  rw [val_main_v44_apply]
  refine Eq.trans (congrArg (· + _) (?_ : _ = (0 : EReal))) ((zero_add _).trans (Finset.sum_congr rfl fun k _ => ?_))
  · rw [val_main_cst_3_apply]
    show Ideal.ofBits .f32 0x00000000#32 = 0
    simp [Ideal.ofBits, Ideal.ieee]
  · rw [e, val_main_v43_apply]
    rfl

theorem norm_root_at (b : Fin 16) (p : Fin 4096) :
    (val_main_v50 (F := Ideal) x0 x1 x2 x3 x4 x5 x6 x7 (ix3 b p 0) : EReal)
      = Ideal.rsqrt (Ideal.div (∑ j : Fin 1024, (val_main_v41 (F := Ideal) x0 x1 x2 x3 x4 x5 x6 x7 (ix3 b p j) * val_main_v41 (F := Ideal) x0 x1 x2 x3 x4 x5 x6 x7 (ix3 b p j) : EReal)) (Ideal.ofBits .f32 0x44800000#32)
          + Ideal.ofBits .f32 0x3727C5AC#32) := by
  have e : idx_main_v45 (ix3 b p 0) = ix2 b p := e2 rfl rfl
  rw [val_main_v50_apply, val_main_v49_apply, val_main_v47_apply, val_main_v45_apply, e, norm_square_at, val_main_v46_apply, val_main_v48_apply]
  rfl

theorem norm_at (b : Fin 16) (p : Fin 4096) (k : Fin 1024) :
    (val_main_v55 (F := Ideal) x0 x1 x2 x3 x4 x5 x6 x7 x8 (ix3 b p k) : EReal) = normed (fun j => val_main_v41 (F := Ideal) x0 x1 x2 x3 x4 x5 x6 x7 (ix3 b p j)) (fun j => x8 (ix2 0 j)) k := by
  have e : idx_main_v51 (ix3 b p k) = ix3 b p 0 := e3 rfl rfl rfl
  have e' : idx_main_v42 (idx_main_v53 (idx_main_v54 (ix3 b p k))) = ix2 0 k := e2 rfl (show k.val % 1024 = k.val by omega)
  rw [val_main_v55_apply, val_main_v52_apply, val_main_v51_apply, e, norm_root_at, val_main_v54_apply, val_main_v53_apply, val_main_v42_apply, e']
  rfl

/-! ## The cross-attention -/

theorem asked_at (b : Fin 16) (p : Fin 4096) (n : Fin 1024) :
    (val_main_v60 (F := Ideal) x0 x1 x2 x3 x4 x5 x6 x7 x8 x9 (ix3 b p n) : EReal) = asked (merge x0 x1 x2 x3 x4 x5 x6 x7 b p) (fun j => x8 (ix2 0 j)) (fun i k => x9 (ix3 0 i k)) n := by
  have e : (fun j => (val_main_v41 (F := Ideal) x0 x1 x2 x3 x4 x5 x6 x7 (ix3 b p j) : EReal)) = merge x0 x1 x2 x3 x4 x5 x6 x7 b p := funext fun j => merge_at x0 x1 x2 x3 x4 x5 x6 x7 b p j
  unfold asked
  rw [val_main_v60_apply, ← e]
  exact Finset.sum_congr rfl fun k _ => congrArg₂ (· * ·)
    ((congrArg (val_main_v55 (F := Ideal) x0 x1 x2 x3 x4 x5 x6 x7 x8) (e3 (b := p) rfl rfl rfl)).trans (norm_at x0 x1 x2 x3 x4 x5 x6 x7 x8 b p k))
    ((congrArg (val_main_v58 (F := Ideal) x9) (e2 rfl rfl)).trans (wq_at x9 k n))

theorem memory_at (b : Fin 16) (k : Fin 256) (n : Fin 2048) : (val_main_v9 (F := Ideal) x10 (ix3 b k n) : EReal) = x10 (ix2 (slotOf b k) n) := by
  rw [val_main_v9_apply]
  exact congrArg x10 (e2 (by show ((b.val * 256 + k.val) * 2048 + n.val) / 2048 = 256 * b.val + k.val; omega)
    (by show ((b.val * 256 + k.val) * 2048 + n.val) % 2048 = n.val; omega))

/-- Feature `i` of head `h`. -/
def feature (h : Fin 4) (i : Fin 256) : Fin 1024 := ⟨256 * h.val + i.val, by omega⟩

theorem key_at (b : Fin 16) (k : Fin 256) (h : Fin 4) (i : Fin 256) :
    (val_main_v62 (F := Ideal) x10 (ix4 b k h i) : EReal) = x10 (ix2 (slotOf b k) ⟨(feature h i).val, by omega⟩) := by
  have e : idx_main_v62 (ix4 b k h i) = ix3 b k (feature h i) := e3
    (by show (((b.val * 256 + k.val) * 4 + h.val) * 256 + i.val) / 262144 = b.val; omega)
    (by show (((b.val * 256 + k.val) * 4 + h.val) * 256 + i.val) / 1024 % 256 = k.val; omega)
    (by show (((b.val * 256 + k.val) * 4 + h.val) * 256 + i.val) % 1024 = 256 * h.val + i.val; omega)
  rw [val_main_v62_apply, e, val_main_v56_apply]
  exact (congrArg (val_main_v9 (F := Ideal) x10) (e3 (b := k) rfl rfl rfl)).trans (memory_at x10 b k _)

theorem value_at (b : Fin 16) (k : Fin 256) (h : Fin 4) (i : Fin 256) :
    (val_main_v63 (F := Ideal) x10 (ix4 b k h i) : EReal) = x10 (ix2 (slotOf b k) ⟨1024 + (feature h i).val, by omega⟩) := by
  have e : idx_main_v63 (ix4 b k h i) = ix3 b k (feature h i) := e3
    (by show (((b.val * 256 + k.val) * 4 + h.val) * 256 + i.val) / 262144 = b.val; omega)
    (by show (((b.val * 256 + k.val) * 4 + h.val) * 256 + i.val) / 1024 % 256 = k.val; omega)
    (by show (((b.val * 256 + k.val) * 4 + h.val) * 256 + i.val) % 1024 = 256 * h.val + i.val; omega)
  rw [val_main_v63_apply, e, val_main_v57_apply]
  exact (congrArg (val_main_v9 (F := Ideal) x10) (e3 (b := k) rfl rfl rfl)).trans (memory_at x10 b k _)

theorem query_at (b : Fin 16) (p : Fin 4096) (h : Fin 4) (i : Fin 256) :
    (val_main_v61 (F := Ideal) x0 x1 x2 x3 x4 x5 x6 x7 x8 x9 (ix4 b p h i) : EReal) = asked (merge x0 x1 x2 x3 x4 x5 x6 x7 b p) (fun j => x8 (ix2 0 j)) (fun i k => x9 (ix3 0 i k)) (feature h i) := by
  have e : idx_main_v61 (ix4 b p h i) = ix3 b p (feature h i) := e3
    (by show (((b.val * 4096 + p.val) * 4 + h.val) * 256 + i.val) / 4194304 = b.val; omega)
    (by show (((b.val * 4096 + p.val) * 4 + h.val) * 256 + i.val) / 1024 % 4096 = p.val; omega)
    (by show (((b.val * 4096 + p.val) * 4 + h.val) * 256 + i.val) % 1024 = 256 * h.val + i.val; omega)
  rw [val_main_v61_apply, e]
  exact asked_at x0 x1 x2 x3 x4 x5 x6 x7 x8 x9 b p _

/-- The scores of a row in a head. -/
def scores (b : Fin 16) (p : Fin 4096) (h : Fin 4) (k : Fin 256) : EReal :=
  score (fun i => asked (merge x0 x1 x2 x3 x4 x5 x6 x7 b p) (fun j => x8 (ix2 0 j)) (fun i k => x9 (ix3 0 i k)) (feature h i))
    (fun i => x10 (ix2 (slotOf b k) ⟨(feature h i).val, by omega⟩))

theorem score_at (b : Fin 16) (p : Fin 4096) (h : Fin 4) (k : Fin 256) :
    (val_main_v66 (F := Ideal) x0 x1 x2 x3 x4 x5 x6 x7 x8 x9 x10 (ix4 b h p k) : EReal) = scores x0 x1 x2 x3 x4 x5 x6 x7 x8 x9 x10 b p h k := by
  unfold scores score
  rw [val_main_v66_apply, val_main_v64_apply]
  refine congrArg₂ (· * ·) (Finset.sum_congr rfl fun i _ => congrArg₂ (· * ·)
    ((congrArg (val_main_v61 (F := Ideal) x0 x1 x2 x3 x4 x5 x6 x7 x8 x9) (e4 rfl rfl rfl rfl)).trans (query_at x0 x1 x2 x3 x4 x5 x6 x7 x8 x9 b p h i))
    ((congrArg (val_main_v62 (F := Ideal) x10) (e4 rfl rfl rfl rfl)).trans (key_at x10 b k h i))) ?_
  rw [val_main_v65_apply]
  rfl

theorem peak_at (b : Fin 16) (p : Fin 4096) (h : Fin 4) :
    (val_main_v67 (F := Ideal) x0 x1 x2 x3 x4 x5 x6 x7 x8 x9 x10 (ix3 b h p) : EReal) = Finset.univ.fold max (⊥ : EReal) (scores x0 x1 x2 x3 x4 x5 x6 x7 x8 x9 x10 b p h) := by
  have e' : (fun k : Fin 256 => (val_main_v66 (F := Ideal) x0 x1 x2 x3 x4 x5 x6 x7 x8 x9 x10 (ix4 b h p k) : EReal)) = scores x0 x1 x2 x3 x4 x5 x6 x7 x8 x9 x10 b p h := funext fun k => score_at x0 x1 x2 x3 x4 x5 x6 x7 x8 x9 x10 b p h k
  rw [← e']
  unfold val_main_v67
  generalize val_main_v66 (F := Ideal) x0 x1 x2 x3 x4 x5 x6 x7 x8 x9 x10 = y
  rw [Host.reduce_eq_fold_single FloatOps.maximumf _ _ _ (by decide : S16x4x4096x256.Reduces [3] S16x4x4096)]
  have e : val_main_cst_7 (F := Ideal) (Shape.Idx.first h_S_) = (⊥ : EReal) := by
    show Ideal.ofBits .f32 0xFF800000#32 = ⊥
    simp [Ideal.ofBits, Ideal.ieee]
  rw [e]
  refine congrArg (Finset.fold max (⊥ : EReal) · Finset.univ) (funext fun k => congrArg y (funext fun a => ?_))
  match a with
  | ⟨0, _⟩ => rfl
  | ⟨1, _⟩ => rfl
  | ⟨2, _⟩ => rfl
  | ⟨3, _⟩ => rfl

theorem max_at (b : Fin 16) (p : Fin 4096) (h : Fin 4) :
    (val_main_v69 (F := Ideal) x0 x1 x2 x3 x4 x5 x6 x7 x8 x9 x10 (ix3 b h p) : EReal) = Finset.univ.fold max (⊥ : EReal) (scores x0 x1 x2 x3 x4 x5 x6 x7 x8 x9 x10 b p h) := by
  have e : (val_main_v68 (F := Ideal) (ix3 b h p) : EReal) = ⊥ := by
    rw [val_main_v68_apply]
    show Ideal.ofBits .f32 0xFF800000#32 = ⊥
    simp [Ideal.ofBits, Ideal.ieee]
  rw [val_main_v69_apply, e, peak_at]
  exact max_eq_right bot_le

theorem exp_at (b : Fin 16) (p : Fin 4096) (h : Fin 4) (k : Fin 256) :
    (val_main_v73 (F := Ideal) x0 x1 x2 x3 x4 x5 x6 x7 x8 x9 x10 (ix4 b h p k) : EReal) = Ideal.exp (scores x0 x1 x2 x3 x4 x5 x6 x7 x8 x9 x10 b p h k - Finset.univ.fold max (⊥ : EReal) (scores x0 x1 x2 x3 x4 x5 x6 x7 x8 x9 x10 b p h)) := by
  have e : idx_main_v70 (idx_main_v71 (ix4 b h p k)) = ix3 b h p := e3 rfl rfl rfl
  rw [val_main_v73_apply, val_main_v72_apply, score_at, val_main_v71_apply, val_main_v70_apply, e, max_at]
  rfl

theorem den_at (b : Fin 16) (p : Fin 4096) (h : Fin 4) :
    (val_main_v74 (F := Ideal) x0 x1 x2 x3 x4 x5 x6 x7 x8 x9 x10 (ix3 b h p) : EReal) = ∑ k, Ideal.exp (scores x0 x1 x2 x3 x4 x5 x6 x7 x8 x9 x10 b p h k - Finset.univ.fold max (⊥ : EReal) (scores x0 x1 x2 x3 x4 x5 x6 x7 x8 x9 x10 b p h)) := by
  rw [val_main_v74_apply]
  refine Eq.trans (congrArg (· + _) (?_ : _ = (0 : EReal))) ((zero_add _).trans (Finset.sum_congr rfl fun k _ => ?_))
  · rw [val_main_cst_9_apply]
    show Ideal.ofBits .f32 0x00000000#32 = 0
    simp [Ideal.ofBits, Ideal.ieee]
  · exact (congrArg (val_main_v73 (F := Ideal) x0 x1 x2 x3 x4 x5 x6 x7 x8 x9 x10) (e4 rfl rfl rfl rfl)).trans (exp_at x0 x1 x2 x3 x4 x5 x6 x7 x8 x9 x10 b p h k)

theorem weight_at (b : Fin 16) (p : Fin 4096) (h : Fin 4) (k : Fin 256) :
    (val_main_v77 (F := Ideal) x0 x1 x2 x3 x4 x5 x6 x7 x8 x9 x10 (ix4 b h p k) : EReal)
      = Ideal.div (Ideal.exp (scores x0 x1 x2 x3 x4 x5 x6 x7 x8 x9 x10 b p h k - Finset.univ.fold max (⊥ : EReal) (scores x0 x1 x2 x3 x4 x5 x6 x7 x8 x9 x10 b p h)))
          (∑ k, Ideal.exp (scores x0 x1 x2 x3 x4 x5 x6 x7 x8 x9 x10 b p h k - Finset.univ.fold max (⊥ : EReal) (scores x0 x1 x2 x3 x4 x5 x6 x7 x8 x9 x10 b p h))) := by
  have e : idx_main_v75 (idx_main_v76 (ix4 b h p k)) = ix3 b h p := e3 rfl rfl rfl
  rw [val_main_v77_apply, exp_at, val_main_v76_apply, val_main_v75_apply, e, den_at]
  rfl

theorem answer_at (b : Fin 16) (p : Fin 4096) (h : Fin 4) (i : Fin 256) :
    (val_main_v78 (F := Ideal) x0 x1 x2 x3 x4 x5 x6 x7 x8 x9 x10 (ix4 b h i p) : EReal) = spread (scores x0 x1 x2 x3 x4 x5 x6 x7 x8 x9 x10 b p h) (fun k => x10 (ix2 (slotOf b k) ⟨1024 + (feature h i).val, by omega⟩)) := by
  unfold spread
  rw [val_main_v78_apply]
  exact Finset.sum_congr rfl fun k _ => congrArg₂ (· * ·)
    ((congrArg (val_main_v63 (F := Ideal) x10) (e4 rfl rfl rfl rfl)).trans (value_at x10 b k h i))
    ((congrArg (val_main_v77 (F := Ideal) x0 x1 x2 x3 x4 x5 x6 x7 x8 x9 x10) (e4 rfl rfl rfl rfl)).trans (weight_at x0 x1 x2 x3 x4 x5 x6 x7 x8 x9 x10 b p h k))

section

variable (hg : ∀ k, IsReal (x8 (ix2 0 k))) (hw : ∀ i k, IsReal (x9 (ix3 0 i k))) (hK : ∀ (j : Fin 4096) (n : Fin 1024), IsReal (x10 (ix2 j (keyCol n))))
include hg hw hK

theorem lane_at (b : Fin 16) (p : Fin 4096) (e : Fin 1024) :
    (val_main_v80 (F := Ideal) x0 x1 x2 x3 x4 x5 x6 x7 x8 x9 x10 (ix3 b p e) : EReal)
      = lane (asked (merge x0 x1 x2 x3 x4 x5 x6 x7 b p) (fun j => x8 (ix2 0 j)) (fun i k => x9 (ix3 0 i k)))
          (fun k n => x10 (ix2 (slotOf b k) (keyCol n))) (fun k n => x10 (ix2 (slotOf b k) (valueCol n))) e := by
  have he : idx_main_v79 (idx_main_v80 (ix3 b p e)) = ix4 b (⟨e.val / 256, by omega⟩ : Fin 4) (⟨e.val % 256, by omega⟩ : Fin 256) p := e4
    (by show ((b.val * 4096 + p.val) * 1024 + e.val) / 4194304 = b.val; omega)
    (by show ((b.val * 4096 + p.val) * 1024 + e.val) / 256 % 4 = e.val / 256; omega)
    (by show ((b.val * 4096 + p.val) * 1024 + e.val) % 256 = e.val % 256; omega)
    (by show ((b.val * 4096 + p.val) * 1024 + e.val) / 1024 % 4096 = p.val; omega)
  rw [val_main_v80_apply, val_main_v79_apply, he, answer_at, lane_of _ _ _ e (feature ⟨e.val / 256, by omega⟩) (fun i => rfl),
    attn_eq _ _ (fun k => score_fin _ _ _ _ _ hg hw fun i => hK _ _)]
  unfold scores
  refine congrArg (spread _) (funext fun k => congrArg x10 (e2 rfl ?_))
  show 1024 + (256 * (e.val / 256) + e.val % 256) = 1024 + e.val
  omega

/-- A row after the cross-attention. -/
theorem attend_at (b : Fin 16) (p : Fin 4096) (n : Fin 1024) :
    (val_main_v82 (F := Ideal) x0 x1 x2 x3 x4 x5 x6 x7 x8 x9 x10 x11 (ix3 b p n) : EReal)
      = attended (merge x0 x1 x2 x3 x4 x5 x6 x7 b p) (asked (merge x0 x1 x2 x3 x4 x5 x6 x7 b p) (fun j => x8 (ix2 0 j)) (fun i k => x9 (ix3 0 i k)))
          (fun k n => x10 (ix2 (slotOf b k) (keyCol n))) (fun k n => x10 (ix2 (slotOf b k) (valueCol n))) (fun i k => x11 (ix3 0 i k)) n := by
  unfold attended
  rw [val_main_v82_apply, merge_at, val_main_v81_apply]
  exact congrArg₂ (· + ·) rfl (Finset.sum_congr rfl fun e _ => congrArg₂ (· * ·)
    ((congrArg (val_main_v80 (F := Ideal) x0 x1 x2 x3 x4 x5 x6 x7 x8 x9 x10) (e3 (b := p) (c := e) rfl rfl rfl)).trans (lane_at x0 x1 x2 x3 x4 x5 x6 x7 x8 x9 x10 hg hw hK b p e))
    ((congrArg (val_main_v59 (F := Ideal) x11) (e2 rfl rfl)).trans (wo_at x11 e n)))

end

theorem norm2_square_at (b : Fin 16) (p : Fin 4096) :
    (val_main_v85 (F := Ideal) x0 x1 x2 x3 x4 x5 x6 x7 x8 x9 x10 x11 (ix2 b p) : EReal) = ∑ j : Fin 1024, (val_main_v82 (F := Ideal) x0 x1 x2 x3 x4 x5 x6 x7 x8 x9 x10 x11 (ix3 b p j) * val_main_v82 (F := Ideal) x0 x1 x2 x3 x4 x5 x6 x7 x8 x9 x10 x11 (ix3 b p j) : EReal) := by
  have e : ∀ k : Fin 1024, idx_main_v85 (ix2 b p) k = ix3 b p k := fun k => e3 rfl rfl rfl
  rw [val_main_v85_apply]
  refine Eq.trans (congrArg (· + _) (?_ : _ = (0 : EReal))) ((zero_add _).trans (Finset.sum_congr rfl fun k _ => ?_))
  · rw [val_main_cst_10_apply]
    show Ideal.ofBits .f32 0x00000000#32 = 0
    simp [Ideal.ofBits, Ideal.ieee]
  · rw [e, val_main_v84_apply]
    rfl

theorem norm2_root_at (b : Fin 16) (p : Fin 4096) :
    (val_main_v91 (F := Ideal) x0 x1 x2 x3 x4 x5 x6 x7 x8 x9 x10 x11 (ix3 b p 0) : EReal)
      = Ideal.rsqrt (Ideal.div (∑ j : Fin 1024, (val_main_v82 (F := Ideal) x0 x1 x2 x3 x4 x5 x6 x7 x8 x9 x10 x11 (ix3 b p j) * val_main_v82 (F := Ideal) x0 x1 x2 x3 x4 x5 x6 x7 x8 x9 x10 x11 (ix3 b p j) : EReal)) (Ideal.ofBits .f32 0x44800000#32)
          + Ideal.ofBits .f32 0x3727C5AC#32) := by
  have e : idx_main_v86 (ix3 b p 0) = ix2 b p := e2 rfl rfl
  rw [val_main_v91_apply, val_main_v90_apply, val_main_v88_apply, val_main_v86_apply, e, norm2_square_at, val_main_v87_apply, val_main_v89_apply]
  rfl

theorem norm2_at (b : Fin 16) (p : Fin 4096) (k : Fin 1024) :
    (val_main_v96 (F := Ideal) x0 x1 x2 x3 x4 x5 x6 x7 x8 x9 x10 x11 x12 (ix3 b p k) : EReal) = normed (fun j => val_main_v82 (F := Ideal) x0 x1 x2 x3 x4 x5 x6 x7 x8 x9 x10 x11 (ix3 b p j)) (fun j => x12 (ix2 0 j)) k := by
  have e : idx_main_v92 (ix3 b p k) = ix3 b p 0 := e3 rfl rfl rfl
  have e' : idx_main_v83 (idx_main_v94 (idx_main_v95 (ix3 b p k))) = ix2 0 k := e2 rfl (show k.val % 1024 = k.val by omega)
  rw [val_main_v96_apply, val_main_v93_apply, val_main_v92_apply, e, norm2_root_at, val_main_v95_apply, val_main_v94_apply, val_main_v83_apply, e']
  rfl

theorem flat97_at (b : Fin 16) (p : Fin 4096) (n : Fin 1024) :
    (val_main_v97 (F := Ideal) x0 x1 x2 x3 x4 x5 x6 x7 x8 x9 x10 x11 (ix2 (rowOf b p) n) : EReal) = val_main_v82 (F := Ideal) x0 x1 x2 x3 x4 x5 x6 x7 x8 x9 x10 x11 (ix3 b p n) := by
  rw [val_main_v97_apply]
  exact congrArg (val_main_v82 (F := Ideal) x0 x1 x2 x3 x4 x5 x6 x7 x8 x9 x10 x11) (e3 (by show ((4096 * b.val + p.val) * 1024 + n.val) / 4194304 = b.val; omega)
    (by show ((4096 * b.val + p.val) * 1024 + n.val) / 1024 % 4096 = p.val; omega) (by show ((4096 * b.val + p.val) * 1024 + n.val) % 1024 = n.val; omega))

theorem flat98_at (b : Fin 16) (p : Fin 4096) (n : Fin 1024) :
    (val_main_v98 (F := Ideal) x0 x1 x2 x3 x4 x5 x6 x7 x8 x9 x10 x11 x12 (ix2 (rowOf b p) n) : EReal) = val_main_v96 (F := Ideal) x0 x1 x2 x3 x4 x5 x6 x7 x8 x9 x10 x11 x12 (ix3 b p n) := by
  rw [val_main_v98_apply]
  exact congrArg (val_main_v96 (F := Ideal) x0 x1 x2 x3 x4 x5 x6 x7 x8 x9 x10 x11 x12) (e3 (by show ((4096 * b.val + p.val) * 1024 + n.val) / 4194304 = b.val; omega)
    (by show ((4096 * b.val + p.val) * 1024 + n.val) / 1024 % 4096 = p.val; omega) (by show ((4096 * b.val + p.val) * 1024 + n.val) % 1024 = n.val; omega))

theorem out2_at (b : Fin 16) (p : Fin 4096) (n : Fin 1024) :
    (val_main_v99 (F := Ideal) x0 x1 x2 x3 x4 x5 x6 x7 x8 x9 x10 x11 x12 (ix2 (rowOf b p) n) : EReal) = normed (fun j => val_main_v82 (F := Ideal) x0 x1 x2 x3 x4 x5 x6 x7 x8 x9 x10 x11 (ix3 b p j)) (fun j => x12 (ix2 0 j)) n := by
  rw [val_main_v99_apply]
  exact (flat98_at x0 x1 x2 x3 x4 x5 x6 x7 x8 x9 x10 x11 x12 b p n).trans (norm2_at x0 x1 x2 x3 x4 x5 x6 x7 x8 x9 x10 x11 x12 b p n)

end Cert.Reference4Ideal.XaRef

end
-- ==== Proof.XaResult.lean ====
/- The two arrays the cross-attention leaves are the reference's. -/
module

public import proofs.«01_k».proof.Proof.XaPoint
public import proofs.«01_k».proof.Proof.XaHost
public import proofs.«01_k».proof.Proof.XaRef

@[expose] public section

set_option maxRecDepth 16384

noncomputable section

namespace Cert.Kernel4Ideal.XaResult

open Cert.Kernel4Ideal Cert.Kernel4Ideal.Gen Cert.Kernel4Ideal.Xa Cert.Kernel4Ideal.XaHost
open Cert.Kernel2Ideal.NormRow (normed)
open Cert.Equation (IsReal)
open Idealize.ShloMosaic Idealize.ShloMosaic.TcCoe Idealize.SL.Sem

variable (m : (ℓ : Loc nD τ sig) → Buf (Elt Ideal) ℓ)

/-- The sequence of block `t`. -/
def seqOf (t : Fin 128) : Fin 16 := ⟨t.val / 8, by omega⟩

/-- The position in it of row `r` of block `t`. -/
def posOf (t : Fin 128) (r : Fin 512) : Fin 4096 := ⟨512 * (t.val % 8) + r.val, by omega⟩

theorem row_eq (t : Fin 128) (r : Fin 512) : row t r = Cert.Reference4Ideal.XaRef.rowOf (seqOf t) (posOf t r) :=
  Fin.ext (by show 512 * t.val + r.val = 4096 * (t.val / 8) + (512 * (t.val % 8) + r.val); omega)

theorem split (i : S65536x1024.Idx) : ∃ (t : Fin 128) (r : Fin 512) (n : Fin 1024), i = ix2 (row t r) n := by
  have h0 : (i 0).val < 65536 := (i 0).isLt
  refine ⟨⟨(i 0).val / 512, by omega⟩, ⟨(i 0).val % 512, by omega⟩, i 1, funext fun a => ?_⟩
  match a with
  | ⟨0, _⟩ => exact Fin.ext (show (i 0).val = 512 * ((i 0).val / 512) + (i 0).val % 512 by omega)
  | ⟨1, _⟩ => rfl

variable (c : Dev nD)
    (X0 : FVec Ideal S16x4096x1024 .f32) (h0 : m ((c : Thread nD τ).loc main_arg0) = X0)
    (X1 : FVec Ideal S65536x1024 .bf16) (h1 : m ((c : Thread nD τ).loc main_arg1) = X1)
    (X2 : FVec Ideal S65536x1024 .bf16) (h2 : m ((c : Thread nD τ).loc main_arg2) = X2)
    (X3 : FVec Ideal S65536x7680 .bf16) (h3 : m ((c : Thread nD τ).loc main_arg3) = X3)
    (X4 : FVec Ideal S1x2x1024 .f32) (h4 : m ((c : Thread nD τ).loc main_arg4) = X4)
    (X5 : FVec Ideal S1x1024x1024 .f32) (h5 : m ((c : Thread nD τ).loc main_arg5) = X5)
    (X6 : FVec Ideal S1x1024x1024 .f32) (h6 : m ((c : Thread nD τ).loc main_arg6) = X6)
    (X7 : FVec Ideal S1x1024x1024 .f32) (h7 : m ((c : Thread nD τ).loc main_arg7) = X7)
    (X8 : FVec Ideal S1x1024 .f32) (h8 : m ((c : Thread nD τ).loc main_arg8) = X8)
    (X9 : FVec Ideal S1x1024x1024 .f32) (h9 : m ((c : Thread nD τ).loc main_arg9) = X9)
    (X10 : FVec Ideal S4096x2048 .bf16) (h10 : m ((c : Thread nD τ).loc main_arg10) = X10)
    (X11 : FVec Ideal S1x1024x1024 .f32) (h11 : m ((c : Thread nD τ).loc main_arg11) = X11)
    (X12 : FVec Ideal S1x1024 .f32) (h12 : m ((c : Thread nD τ).loc main_arg12) = X12)

include h0 h1 h2 h3 h4 h5 h6 h7 in
theorem merge_eq (t : Fin 128) (r : Fin 512) : merge m c t r = Cert.Reference4Ideal.XaRef.merge X0 X1 X2 X3 X4 X5 X6 X7 (seqOf t) (posOf t r) := by
  have e0 : ∀ n : Fin 1024, (V m c main_v0 (ix2 (Cert.Reference4Ideal.XaRef.rowOf (seqOf t) (posOf t r)) n) : EReal) = X0 (ix3 (seqOf t) (posOf t r) n) := fun n => by
    rw [← row_eq, tokens_at m c X0 h0]
    refine congrArg X0 (Cert.Reference4Ideal.XaRef.e3 ?_ ?_ rfl)
    · show (512 * t.val + r.val) / 4096 = t.val / 8; omega
    · show (512 * t.val + r.val) % 4096 = 512 * (t.val % 8) + r.val; omega
  unfold merge Cert.Reference4Ideal.XaRef.merge
  simp only [e0, h1, h2, h3, biases_at m c X4 h4, branch_a_at m c X5 h5, branch_b_at m c X6 h6, mixing_at m c X7 h7, row_eq]

include h0 h1 h2 h3 h4 h5 h6 h7 h8 h9 h10 h11

variable (fg : ∀ k, IsReal (X8 (ix2 0 k))) (fw : ∀ i k, IsReal (X9 (ix3 0 i k))) (fk : ∀ (j : Fin 4096) (n : Fin 1024), IsReal (X10 (ix2 j (Cert.Reference4Ideal.XaRef.keyCol n))))
include fg fw fk

theorem attend_eq (t : Fin 128) (r : Fin 512) (n : Fin 1024) :
    attend m c t r n = (Cert.Reference4Ideal.Read.val_main_v82 (F := Ideal) X0 X1 X2 X3 X4 X5 X6 X7 X8 X9 X10 X11 (ix3 (seqOf t) (posOf t r) n) : EReal) := by
  rw [Cert.Reference4Ideal.XaRef.attend_at X0 X1 X2 X3 X4 X5 X6 X7 X8 X9 X10 X11 fg fw fk]
  unfold attend
  rw [merge_eq m c X0 h0 X1 h1 X2 h2 X3 h3 X4 h4 X5 h5 X6 h6 X7 h7 t r]
  simp only [h10, gain_at m c X8 h8, asking_at m c X9 h9, answering_at m c X11 h11]
  rfl

theorem result : (dats m 0 c).arrAt 17 cfg0.N = Cert.Reference4Ideal.Read.val_main_v97 (F := Ideal) X0 X1 X2 X3 X4 X5 X6 X7 X8 X9 X10 X11 := by
  refine funext fun (i : S65536x1024.Idx) => ?_
  obtain ⟨t, r, n, rfl⟩ := split i
  refine (final m c t r n).trans ?_
  rw [attend_eq m c X0 h0 X1 h1 X2 h2 X3 h3 X4 h4 X5 h5 X6 h6 X7 h7 X8 h8 X9 h9 X10 h10 X11 h11 fg fw fk, row_eq]
  exact (Cert.Reference4Ideal.XaRef.flat97_at X0 X1 X2 X3 X4 X5 X6 X7 X8 X9 X10 X11 _ _ n).symm

include h12 in
theorem result2 : (dats m 0 c).arrAt 18 cfg0.N = Cert.Reference4Ideal.Read.val_main_v99 (F := Ideal) X0 X1 X2 X3 X4 X5 X6 X7 X8 X9 X10 X11 X12 := by
  refine funext fun (i : S65536x1024.Idx) => ?_
  obtain ⟨t, r, n, rfl⟩ := split i
  refine (final2 m c t r n).trans ?_
  rw [row_eq]
  refine Eq.trans ?_ (Cert.Reference4Ideal.XaRef.out2_at X0 X1 X2 X3 X4 X5 X6 X7 X8 X9 X10 X11 X12 _ _ n).symm
  exact congr (congr (congrArg normed (funext fun j => attend_eq m c X0 h0 X1 h1 X2 h2 X3 h3 X4 h4 X5 h5 X6 h6 X7 h7 X8 h8 X9 h9 X10 h10 X11 h11 fg fw fk t r j))
    (funext fun j => gain2_at m c X12 h12 j)) rfl

end Cert.Kernel4Ideal.XaResult

end
-- ==== Proof.lean ====
/- The claims, put together: the kernel and its idealization run and leave their arguments as they were, the two differ only
   in the mask's name, and the idealized kernel's result is the idealized reference's wherever queries, keys, sinks and the
   bias table are finite. Likewise the input projection, the experts wherever the
   blocks' experts exist, and the cross-attention wherever its keys and what makes its queries are finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_experts_exist
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_keys
public import proofs.«01_k».proof.Proof.Pre
public import proofs.«01_k».proof.Proof.Result
public import proofs.«01_k».proof.Proof.NormResult
public import proofs.«01_k».proof.Proof.MoeBitsFrame
public import proofs.«01_k».proof.Proof.MoeResult
public import Idealize.ShloMosaic.Lib.Claim
public import Idealize.ShloMosaic.Adequacy
public import Idealize.ShloMosaic.Init
public import proofs.«01_k».proof.Proof.XaPre
public import proofs.«01_k».proof.Proof.XaResult

@[expose] public section

noncomputable section

namespace Cert.Proof

open Idealize.ShloMosaic Idealize.SL.Sem

/-- The reference runs and leaves its arguments as they were. -/
theorem frame_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

/-- The two results are one array. -/
theorem algebraic : Cert.algebraic_KernelIdeal_ReferenceIdeal_pre_finite := by
  pair_intro
  · run_from Cert.KernelIdeal.Value.run_blocks m g
  · run_from Cert.ReferenceIdeal.Value.run m' g'
    obtain ⟨h1, h2, h3, h4⟩ := hpre c
    obtain ⟨a0, a1, a2⟩ := hagree c
    rw [Cert.ReferenceIdeal.Read.val_main_v101_eq]
    exact (Cert.KernelIdeal.Result.result m c _ a0.symm _ a1.symm _ a2.symm
      (fun i h x => a0 ▸ Cert.Pre.queries _ _ _ h1 i h x) (fun i h x => a0 ▸ Cert.Pre.keys _ _ _ h2 i h x)
      (fun h => a1 ▸ Cert.Pre.sinks _ _ _ h3 h) (fun i => a2 ▸ Cert.Pre.table _ _ _ h4 i)).symm

/-- The projection's reference runs and leaves its arguments as they were. -/
theorem frame_reference2 : Cert.quiescent_Reference2Ideal := by
  intro m g _
  exact (θ_run Cert.Reference2Ideal.defs _ _).mono
    (fun r h => ⟨fun c => (h c).2, sem_eq_zero_of_no_sems (by decide) r.2⟩) (Cert.Reference2Ideal.Value.run m g)

/-- The two projections are one array. -/
theorem algebraic2 : Cert.algebraic_Kernel2Ideal_Reference2Ideal := by
  pair_intro
  · run_from Cert.Kernel2Ideal.Value.run_blocks m g
  · run_from Cert.Reference2Ideal.Value.run m' g'
    obtain ⟨a0, a1, a2⟩ := hagree c
    rw [Cert.Reference2Ideal.Read.val_main_v27_eq]
    exact (Cert.Kernel2Ideal.NormResult.result m c _ a0.symm _ a1.symm _ a2.symm).symm

/-- The experts' kernel runs and leaves its arguments as they were, where the blocks' experts exist. -/
theorem frame_kernel3 : Cert.quiescent_Kernel3 :=
  fun m ρ h => Cert.Kernel3.Moe.frame m ρ (Cert.Kernel3.Moe.ok_of_pre m _ _ _ _ _ (h 0).1 (h 0).2)

theorem frame_kernel3_ideal : Cert.quiescent_Kernel3Ideal :=
  fun m ρ h => Cert.Kernel3Ideal.Moe.frame m ρ (Cert.Kernel3Ideal.Moe.ok_of_pre m _ _ _ _ _ (h 0).1 (h 0).2)

/-- The experts' reference runs and leaves its arguments as they were. -/
theorem frame_reference3 : Cert.quiescent_Reference3Ideal := by
  intro m g _
  exact (θ_run Cert.Reference3Ideal.defs _ _).mono
    (fun r h => ⟨fun c => (h c).2, sem_eq_zero_of_no_sems (by decide) r.2⟩) (Cert.Reference3Ideal.Value.run m g)

/-- The experts' two results are one array. -/
theorem algebraic3 : Cert.algebraic_Kernel3Ideal_Reference3Ideal := by
  intro m g m' g' hpre hagree
  have hO : Cert.Kernel3Ideal.Moe.Ok m := Cert.Kernel3Ideal.Moe.ok_of_pre m _ _ _ _ _ (hpre 0).1 (hpre 0).2
  refine ⟨fun c => (Cert.Kernel3Ideal.Moe.dats m hO 0 c).arrAt 5 (Cert.Kernel3Ideal.Moe.cfgM m hO).N,
    Cert.Kernel3Ideal.Moe.run_blocks m g hO, ?_⟩
  refine (θ_run Cert.Reference3Ideal.defs _ _).mono (fun r h c => ⟨(h c).1.trans ?_, (h c).2⟩) (Cert.Reference3Ideal.Value.run m' g')
  obtain ⟨a0, a1, a2, a3, a4, a5⟩ := hagree c
  rw [Cert.Reference3Ideal.Read.val_main_v74_eq]
  exact (Cert.Kernel3Ideal.Moe.result m hO c _ a0.symm _ a1.symm _ a2.symm _ a3.symm _ a4.symm _ a5.symm).symm

/-- The cross-attention's reference runs and leaves its arguments as they were. -/
theorem frame_reference4 : Cert.quiescent_Reference4Ideal := by
  intro m g _
  exact (θ_run Cert.Reference4Ideal.defs _ _).mono
    (fun r h => ⟨fun c => (h c).2.2, sem_eq_zero_of_no_sems (by decide) r.2⟩) (Cert.Reference4Ideal.Value.run m g)

/-- The two cross-attentions leave the same stream and the same rows for the experts. -/
theorem algebraic4 : Cert.algebraic_Kernel4Ideal_Reference4Ideal_pre_finite_keys := by
  intro m g m' g' hpre hagree
  refine ⟨fun c => (Cert.Kernel4Ideal.Gen.dats m 0 c).arrAt 17 Cert.Kernel4Ideal.cfg0.N,
    fun c => (Cert.Kernel4Ideal.Gen.dats m 0 c).arrAt 18 Cert.Kernel4Ideal.cfg0.N, ?_, ?_⟩
  · exact (θ_run Cert.Kernel4Ideal.defs _ _).mono (fun r h c => ⟨(h c).1, (h c).2.1, (h c).2.2.2.2.2⟩) (Cert.Kernel4Ideal.Value.run_blocks m g)
  refine (θ_run Cert.Reference4Ideal.defs _ _).mono (fun r h c => ?_) (Cert.Reference4Ideal.Value.run m' g')
  obtain ⟨p1, p2, p3⟩ := hpre c
  obtain ⟨a0, a1, a2, a3, a4, a5, a6, a7, a8, a9, a10, a11, a12, a13, a14⟩ := hagree c
  have fg := fun k => a8 ▸ Cert.XaPre.gain _ _ _ _ _ _ _ _ _ _ _ _ _ _ _ p1 k
  have fw := fun i k => a9 ▸ Cert.XaPre.weights _ _ _ _ _ _ _ _ _ _ _ _ _ _ _ p2 i k
  have fk := fun j n => a10 ▸ Cert.XaPre.keys _ _ _ _ _ _ _ _ _ _ _ _ _ _ _ p3 j n
  refine ⟨(h c).1.trans ?_, (h c).2.1.trans ?_, (h c).2.2⟩
  · rw [Cert.Reference4Ideal.Read.val_main_v97_eq]
    exact (Cert.Kernel4Ideal.XaResult.result m c _ a0.symm _ a1.symm _ a2.symm _ a3.symm _ a4.symm _ a5.symm _ a6.symm _ a7.symm _ a8.symm _ a9.symm _ a10.symm _ a11.symm fg fw fk).symm
  · rw [Cert.Reference4Ideal.Read.val_main_v99_eq]
    exact (Cert.Kernel4Ideal.XaResult.result2 m c _ a0.symm _ a1.symm _ a2.symm _ a3.symm _ a4.symm _ a5.symm _ a6.symm _ a7.symm _ a8.symm _ a9.symm _ a10.symm _ a11.symm _ a12.symm fg fw fk).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_experts_exist.Gen.facts, Cert.Pre_finite_keys.Gen.facts,
  fun m ρ _ => Cert.Kernel.Gen.frame m ρ, fun m ρ _ => Cert.KernelIdeal.Gen.frame m ρ, fun m ρ _ => Cert.KernelIdeal.Gen.frame m ρ,
  frame_reference, fun m g _ => frame_reference m g trivial,
  fun m ρ _ => Cert.Kernel2.Gen.frame m ρ, fun m ρ _ => Cert.Kernel2Ideal.Gen.frame m ρ, frame_reference2,
  frame_kernel3, frame_kernel3_ideal, frame_reference3, fun m g _ => frame_reference3 m g trivial,
  fun m ρ _ => Cert.Kernel4.Gen.frame m ρ, fun m ρ _ => Cert.Kernel4Ideal.Gen.frame m ρ, fun m ρ _ => Cert.Kernel4Ideal.Gen.frame m ρ,
  frame_reference4, fun m g _ => frame_reference4 m g trivial,
  IdealRules.named_const.statement Cert.KernelIdeal.κ "mask" .f32 0xF149F2CA#32 ⊥ rfl, algebraic, trivial, algebraic2, trivial, algebraic3, trivial, algebraic4⟩

end Cert.Proof

end
